-- ==== Defs.lean ====
def Pre_Kernel (m : (ℓ : Loc Cert.Kernel.nD Cert.Kernel.τ Cert.Kernel.sig) → Buf (Elt Bits) ℓ) : Prop :=
  True

def Pre_KI (m : (ℓ : Loc Cert.KI.nD Cert.KI.τ Cert.KI.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KI [hKI : Cert.KI.Facts] : Prop :=
  ∀ (m : (ℓ : Loc Cert.KI.nD Cert.KI.τ Cert.KI.sig) → Buf (Elt Ideal) ℓ) (g : Dev Cert.KI.nD → PrngReg), Pre_KI m →
    θ_run (Cert.KI.defs (F := Ideal)) (onTc (τ := Cert.KI.τ) (Cert.KI.main (F := Ideal))) ⟨m, fun _ => 0, g⟩ (fun r => (∀ c : Dev Cert.KI.nD,
      r.2.mem ((c.tc : Thread Cert.KI.nD Cert.KI.τ).loc Cert.KI.main_arg0) = m ((c.tc : Thread Cert.KI.nD Cert.KI.τ).loc Cert.KI.main_arg0)
      ∧ r.2.mem ((c.tc : Thread Cert.KI.nD Cert.KI.τ).loc Cert.KI.main_arg1) = m ((c.tc : Thread Cert.KI.nD Cert.KI.τ).loc Cert.KI.main_arg1)
      ∧ r.2.mem ((c.tc : Thread Cert.KI.nD Cert.KI.τ).loc Cert.KI.main_arg2) = m ((c.tc : Thread Cert.KI.nD Cert.KI.τ).loc Cert.KI.main_arg2)
      ∧ r.2.mem ((c.tc : Thread Cert.KI.nD Cert.KI.τ).loc Cert.KI.main_arg3) = m ((c.tc : Thread Cert.KI.nD Cert.KI.τ).loc Cert.KI.main_arg3)
      ∧ r.2.mem ((c.tc : Thread Cert.KI.nD Cert.KI.τ).loc Cert.KI.main_arg4) = m ((c.tc : Thread Cert.KI.nD Cert.KI.τ).loc Cert.KI.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KI : Prop :=
  IdealRules.bf16_pair.BufferStatement Cert.KI.S2x2x128x2x128 Cert.KI.S2x2x128x1x128
  ∧ IdealRules.bf16_pair.BufferStatement Cert.KI.S2x128x2x128 Cert.KI.S2x128x1x128
  ∧ IdealRules.bf16_pair.Statement Cert.KI.S128x128 Cert.KI.S64x128
  ∧ IdealRules.bf16_pair.Statement Cert.KI.S1x1x64x2x128 Cert.KI.S1x1x64x1x128
  ∧ IdealRules.bf16_pair.Statement Cert.KI.S1x1x128x2x128 Cert.KI.S1x1x128x1x128
  ∧ IdealRules.bf16_pair.Statement Cert.KI.S256x128 Cert.KI.S128x128
  ∧ IdealRules.bf16_pair.PackStatement Cert.KI.S64x128
  ∧ IdealRules.bf16_pair.Statement Cert.KI.S1x64x2x128 Cert.KI.S1x64x1x128
  ∧ IdealRules.bf16_pair.Statement Cert.KI.S1x128x2x128 Cert.KI.S1x128x1x128
  ∧ IdealRules.bf16_pair.PackStatement Cert.KI.S128x128

def algebraic_KI_ReferenceIdeal [hKI : Cert.KI.Facts] [hReferenceIdeal : Cert.ReferenceIdeal.Facts] : Prop :=
  ∀ (m : (ℓ : Loc Cert.KI.nD Cert.KI.τ Cert.KI.sig) → Buf (Elt Ideal) ℓ) (g : Dev Cert.KI.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KI m →
    (∀ c : Dev Cert.KI.nD,
      m' ((c.tc : Thread Cert.ReferenceIdeal.nD Cert.ReferenceIdeal.τ).loc Cert.ReferenceIdeal.main_arg0) = m ((c.tc : Thread Cert.KI.nD Cert.KI.τ).loc Cert.KI.main_arg0)
      ∧ m' ((c.tc : Thread Cert.ReferenceIdeal.nD Cert.ReferenceIdeal.τ).loc Cert.ReferenceIdeal.main_arg1) = m ((c.tc : Thread Cert.KI.nD Cert.KI.τ).loc Cert.KI.main_arg1)
      ∧ m' ((c.tc : Thread Cert.ReferenceIdeal.nD Cert.ReferenceIdeal.τ).loc Cert.ReferenceIdeal.main_arg2) = m ((c.tc : Thread Cert.KI.nD Cert.KI.τ).loc Cert.KI.main_arg2)
      ∧ m' ((c.tc : Thread Cert.ReferenceIdeal.nD Cert.ReferenceIdeal.τ).loc Cert.ReferenceIdeal.main_arg3) = m ((c.tc : Thread Cert.KI.nD Cert.KI.τ).loc Cert.KI.main_arg3)
      ∧ m' ((c.tc : Thread Cert.ReferenceIdeal.nD Cert.ReferenceIdeal.τ).loc Cert.ReferenceIdeal.main_arg4) = m ((c.tc : Thread Cert.KI.nD Cert.KI.τ).loc Cert.KI.main_arg4)) →
    ∃ (v0 : (c : Dev Cert.KI.nD) → Buf (Elt Ideal) ((c.tc : Thread Cert.KI.nD Cert.KI.τ).loc Cert.KI.main_v8)) (v1 : (c : Dev Cert.KI.nD) → Buf (Elt Ideal) ((c.tc : Thread Cert.KI.nD Cert.KI.τ).loc Cert.KI.main_v9)) (v2 : (c : Dev Cert.KI.nD) → Buf (Elt Ideal) ((c.tc : Thread Cert.KI.nD Cert.KI.τ).loc Cert.KI.main_v10)),
      θ_run (Cert.KI.defs (F := Ideal)) (onTc (τ := Cert.KI.τ) (Cert.KI.main (F := Ideal))) ⟨m, fun _ => 0, g⟩ (fun r => ∀ c : Dev Cert.KI.nD,
          r.2.mem ((c.tc : Thread Cert.KI.nD Cert.KI.τ).loc Cert.KI.main_v8) = v0 c
          ∧ r.2.mem ((c.tc : Thread Cert.KI.nD Cert.KI.τ).loc Cert.KI.main_v9) = v1 c
          ∧ r.2.mem ((c.tc : Thread Cert.KI.nD Cert.KI.τ).loc Cert.KI.main_v10) = v2 c
          ∧ r.2.mem ((c.tc : Thread Cert.KI.nD Cert.KI.τ).loc Cert.KI.main_arg0) = m ((c.tc : Thread Cert.KI.nD Cert.KI.τ).loc Cert.KI.main_arg0)
          ∧ r.2.mem ((c.tc : Thread Cert.KI.nD Cert.KI.τ).loc Cert.KI.main_arg1) = m ((c.tc : Thread Cert.KI.nD Cert.KI.τ).loc Cert.KI.main_arg1)
          ∧ r.2.mem ((c.tc : Thread Cert.KI.nD Cert.KI.τ).loc Cert.KI.main_arg2) = m ((c.tc : Thread Cert.KI.nD Cert.KI.τ).loc Cert.KI.main_arg2)
          ∧ r.2.mem ((c.tc : Thread Cert.KI.nD Cert.KI.τ).loc Cert.KI.main_arg3) = m ((c.tc : Thread Cert.KI.nD Cert.KI.τ).loc Cert.KI.main_arg3)
          ∧ r.2.mem ((c.tc : Thread Cert.KI.nD Cert.KI.τ).loc Cert.KI.main_arg4) = m ((c.tc : Thread Cert.KI.nD Cert.KI.τ).loc Cert.KI.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKI : Cert.KI.Facts) (hReferenceIdeal : Cert.ReferenceIdeal.Facts),
    quiescent_Kernel (hKernel := hKernel)
    ∧ quiescent_KI (hKI := hKI)
    ∧ quiescent_ReferenceIdeal (hReferenceIdeal := hReferenceIdeal)
    ∧ preserves_Kernel_KI
    ∧ algebraic_KI_ReferenceIdeal (hKI := hKI) (hReferenceIdeal := hReferenceIdeal)
-- ==== Kernel.lean ====
abbrev S256x1x4096 : Shape := ⟨3, ![256, 1, 4096]⟩
abbrev S4096 : Shape := ⟨1, ![4096]⟩
abbrev S256x1 : Shape := ⟨2, ![256, 1]⟩
abbrev S6144x128x16 : Shape := ⟨3, ![6144, 128, 16]⟩
abbrev S6144x128 : Shape := ⟨2, ![6144, 128]⟩
abbrev S256x4096 : Shape := ⟨2, ![256, 4096]⟩
abbrev S32x128 : Shape := ⟨2, ![32, 128]⟩
abbrev S2x128 : Shape := ⟨2, ![2, 128]⟩
abbrev S6144x16x128 : Shape := ⟨3, ![6144, 16, 128]⟩
abbrev S6144x4x4x128 : Shape := ⟨4, ![6144, 4, 4, 128]⟩
abbrev S6144x4x128x4 : Shape := ⟨4, ![6144, 4, 128, 4]⟩
abbrev S6144x4x128 : Shape := ⟨3, ![6144, 4, 128]⟩
abbrev S256x32x128 : Shape := ⟨3, ![256, 32, 128]⟩
abbrev S256x8x128 : Shape := ⟨3, ![256, 8, 128]⟩
abbrev S2x2176x128 : Shape := ⟨3, ![2, 2176, 128]⟩
abbrev S2176x128 : Shape := ⟨2, ![2176, 128]⟩
abbrev S16x2x256x128 : Shape := ⟨4, ![16, 2, 256, 128]⟩
abbrev S2x64x128 : Shape := ⟨3, ![2, 64, 128]⟩
abbrev S2x2x128x128 : Shape := ⟨4, ![2, 2, 128, 128]⟩
abbrev S2x2x256x128 : Shape := ⟨4, ![2, 2, 256, 128]⟩
abbrev S2x128x128 : Shape := ⟨3, ![2, 128, 128]⟩
abbrev S6x256x8x128 : Shape := ⟨4, ![6, 256, 8, 128]⟩
abbrev S4 : Shape := ⟨1, ![4]⟩
abbrev S_ : Shape := ⟨0, ![]⟩
abbrev S12 : Shape := ⟨1, ![12]⟩
abbrev S6 : Shape := ⟨1, ![6]⟩
abbrev S1 : Shape := ⟨1, ![1]⟩
abbrev S256x1024 : Shape := ⟨2, ![256, 1024]⟩
abbrev S512x128 : Shape := ⟨2, ![512, 128]⟩
abbrev S512x4x128 : Shape := ⟨3, ![512, 4, 128]⟩
abbrev S64x128 : Shape := ⟨2, ![64, 128]⟩
abbrev S1x128 : Shape := ⟨2, ![1, 128]⟩
abbrev S1x64x128 : Shape := ⟨3, ![1, 64, 128]⟩
abbrev S128x128 : Shape := ⟨2, ![128, 128]⟩
abbrev S8x128 : Shape := ⟨2, ![8, 128]⟩
abbrev S1x2176x128 : Shape := ⟨3, ![1, 2176, 128]⟩
abbrev S128 : Shape := ⟨1, ![128]⟩
abbrev S3072x128 : Shape := ⟨2, ![3072, 128]⟩
abbrev S1x1x64x128 : Shape := ⟨4, ![1, 1, 64, 128]⟩
abbrev S1x128x128 : Shape := ⟨3, ![1, 128, 128]⟩
abbrev S1x1x128x128 : Shape := ⟨4, ![1, 1, 128, 128]⟩
abbrev S1x1x256x128 : Shape := ⟨4, ![1, 1, 256, 128]⟩
abbrev S256x128 : Shape := ⟨2, ![256, 128]⟩
abbrev S256x256 : Shape := ⟨2, ![256, 256]⟩
abbrev S24576x128 : Shape := ⟨2, ![24576, 128]⟩
abbrev S1x256x8x128 : Shape := ⟨4, ![1, 256, 8, 128]⟩
abbrev S256x4x128 : Shape := ⟨3, ![256, 4, 128]⟩
abbrev S1024x128 : Shape := ⟨2, ![1024, 128]⟩
abbrev S1x128x2x128 : Shape := ⟨4, ![1, 128, 2, 128]⟩
abbrev S1x128x1x128 : Shape := ⟨4, ![1, 128, 1, 128]⟩
abbrev S256x1x32x128 : Shape := ⟨4, ![256, 1, 32, 128]⟩
abbrev S256x1x8x128 : Shape := ⟨4, ![256, 1, 8, 128]⟩

abbrev nBuf : Space → Nat
  | .hbm => 18
  | .vmem => 16
  | .smem => 0
  | _ => 0

abbrev bufTy : (tb : Table) → Fin (tcTables nBuf tb) → BufTy
  | .hbm, ⟨0, _⟩ => ⟨S256x1x4096, .bf16⟩
  | .hbm, ⟨1, _⟩ => ⟨S4096, .bf16⟩
  | .hbm, ⟨2, _⟩ => ⟨S256x1, .i32⟩
  | .hbm, ⟨3, _⟩ => ⟨S6144x128x16, .i8⟩
  | .hbm, ⟨4, _⟩ => ⟨S6144x128, .bf16⟩
  | .hbm, ⟨5, _⟩ => ⟨S256x4096, .bf16⟩
  | .hbm, ⟨6, _⟩ => ⟨S32x128, .bf16⟩
  | .hbm, ⟨7, _⟩ => ⟨S2x128, .i32⟩
  | .hbm, ⟨8, _⟩ => ⟨S6144x16x128, .i8⟩
  | .hbm, ⟨9, _⟩ => ⟨S6144x4x4x128, .i8⟩
  | .hbm, ⟨10, _⟩ => ⟨S6144x4x128x4, .i8⟩
  | .hbm, ⟨11, _⟩ => ⟨S6144x4x128, .i32⟩
  | .hbm, ⟨12, _⟩ => ⟨S256x32x128, .bf16⟩
  | .hbm, ⟨13, _⟩ => ⟨S256x8x128, .bf16⟩
  | .hbm, ⟨14, _⟩ => ⟨S256x8x128, .bf16⟩
  | .hbm, ⟨15, _⟩ => ⟨S256x1x32x128, .bf16⟩
  | .hbm, ⟨16, _⟩ => ⟨S256x1x8x128, .bf16⟩
  | .hbm, ⟨17, _⟩ => ⟨S256x1x8x128, .bf16⟩
  | .local _ .vmem, ⟨0, _⟩ => ⟨S256x4096, .bf16⟩
  | .local _ .vmem, ⟨1, _⟩ => ⟨S32x128, .bf16⟩
  | .local _ .vmem, ⟨2, _⟩ => ⟨S2x128, .i32⟩
  | .local _ .vmem, ⟨3, _⟩ => ⟨S6144x4x128, .i32⟩
  | .local _ .vmem, ⟨4, _⟩ => ⟨S6144x128, .bf16⟩
  | .local _ .vmem, ⟨5, _⟩ => ⟨S2x2176x128, .f32⟩
  | .local _ .vmem, ⟨6, _⟩ => ⟨S2x2176x128, .f32⟩
  | .local _ .vmem, ⟨7, _⟩ => ⟨S2176x128, .f32⟩
  | .local _ .vmem, ⟨8, _⟩ => ⟨S2176x128, .f32⟩
  | .local _ .vmem, ⟨9, _⟩ => ⟨S16x2x256x128, .bf16⟩
  | .local _ .vmem, ⟨10, _⟩ => ⟨S2x64x128, .f32⟩
  | .local _ .vmem, ⟨11, _⟩ => ⟨S2x64x128, .f32⟩
  | .local _ .vmem, ⟨12, _⟩ => ⟨S2x2x128x128, .i32⟩
  | .local _ .vmem, ⟨13, _⟩ => ⟨S2x2x256x128, .f32⟩
  | .local _ .vmem, ⟨14, _⟩ => ⟨S2x128x128, .i32⟩
  | .local _ .vmem, ⟨15, _⟩ => ⟨S6x256x8x128, .bf16⟩
  | _, _ => ⟨S256x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩

abbrev nD : Nat := 1
abbrev τ : Topo := Topo.v7x

variable {F : FTy → Type} [BitOps F]

abbrev grid0 : Pipeline.Grid := .none

@[reducible] def k0_t1_loop : Scf.Loop 32 :=
  let c0_i32_7750_r0 : BitVec 32 := 0#32
  let c5_i32_7751_r0 : BitVec 32 := 5#32
  let v11433_r0 : BitVec 32 := Scalar.addi c0_i32_7750_r0 c5_i32_7751_r0
  let c1_i32_7752_r0 : BitVec 32 := 1#32
  ⟨c0_i32_7750_r0, v11433_r0, c1_i32_7752_r0⟩
def k0_off1 (k0_t1 : Fin k0_t1_loop.trips) (c1_i32_8602_r0 : BitVec 32) : Fin 1 → Nat :=
  let c2_i32_8601_r0 : BitVec 32 := 2#32
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let v12788_r0 : BitVec 32 := Scalar.muli c2_i32_8601_r0 v12787_r0
  let v12789_r0 : BitVec 32 := Scalar.addi v12788_r0 c1_i32_8602_r0
  ![v12789_r0.toNat]
def k0_off2 (k0_t1 : Fin k0_t1_loop.trips) (c1_i32_8602_r0 : BitVec 32) : Fin 2 → Nat :=
  let c2_i32_8601_r0 : BitVec 32 := 2#32
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let v12788_r0 : BitVec 32 := Scalar.muli c2_i32_8601_r0 v12787_r0
  let v12789_r0 : BitVec 32 := Scalar.addi v12788_r0 c1_i32_8602_r0
  let c512_i32_8603_r0 : BitVec 32 := 512#32
  let v12790_r0 : BitVec 32 := Scalar.muli v12789_r0 c512_i32_8603_r0
  let c0_i32_8604_r0 : BitVec 32 := 0#32
  ![v12790_r0.toNat, 0]
def k0_off3 (k0_t1 : Fin k0_t1_loop.trips) (c1_i32_8602_r0 : BitVec 32) : Fin 3 → Nat :=
  let c2_i32_8601_r0 : BitVec 32 := 2#32
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let v12788_r0 : BitVec 32 := Scalar.muli c2_i32_8601_r0 v12787_r0
  let v12789_r0 : BitVec 32 := Scalar.addi v12788_r0 c1_i32_8602_r0
  let c512_i32_8606_r0 : BitVec 32 := 512#32
  let v12795_r0 : BitVec 32 := Scalar.muli v12789_r0 c512_i32_8606_r0
  let c0_i32_8607_r0 : BitVec 32 := 0#32
  let c0_i32_8608_r0 : BitVec 32 := 0#32
  ![v12795_r0.toNat, 0, 0]
def k0_off4 (k0_t1 : Fin k0_t1_loop.trips) (c1_i32_8602_r0 : BitVec 32) (c0_i32_8612_r0 : BitVec 32) : Fin 2 → Nat :=
  let c2_i32_8601_r0 : BitVec 32 := 2#32
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let v12788_r0 : BitVec 32 := Scalar.muli c2_i32_8601_r0 v12787_r0
  let v12789_r0 : BitVec 32 := Scalar.addi v12788_r0 c1_i32_8602_r0
  let c2_i32_8611_r0 : BitVec 32 := 2#32
  let v12800_r0 : BitVec 32 := Scalar.muli v12789_r0 c2_i32_8611_r0
  let v12801_r0 : BitVec 32 := Scalar.addi v12800_r0 c0_i32_8612_r0
  let c128_i32_r0 : BitVec 32 := 128#32
  let v12802_r0 : BitVec 32 := Scalar.muli v12801_r0 c128_i32_r0
  let v12804_r0 : Index := Scalar.indexCast v12802_r0
  let c0_8613_r0 : Index := 0#32
  ![Nat.mul 2 v12804_r0.toNat, 0]
def k0_off5 (k0_t1 : Fin k0_t1_loop.trips) (c1_i32_8602_r0 : BitVec 32) (c0_i32_8612_r0 : BitVec 32) : Fin 2 → Nat :=
  let c2_i32_8601_r0 : BitVec 32 := 2#32
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let v12788_r0 : BitVec 32 := Scalar.muli c2_i32_8601_r0 v12787_r0
  let v12789_r0 : BitVec 32 := Scalar.addi v12788_r0 c1_i32_8602_r0
  let c2_i32_8611_r0 : BitVec 32 := 2#32
  let v12800_r0 : BitVec 32 := Scalar.muli v12789_r0 c2_i32_8611_r0
  let v12801_r0 : BitVec 32 := Scalar.addi v12800_r0 c0_i32_8612_r0
  let c128_i32_r0 : BitVec 32 := 128#32
  let v12802_r0 : BitVec 32 := Scalar.muli v12801_r0 c128_i32_r0
  let c64_i32_r0 : BitVec 32 := 64#32
  let v12806_r0 : BitVec 32 := Scalar.addi v12802_r0 c64_i32_r0
  let v12808_r0 : Index := Scalar.indexCast v12806_r0
  let c0_8614_r0 : Index := 0#32
  ![Nat.mul 2 v12808_r0.toNat, 0]
def k0_off6 (k0_t1 : Fin k0_t1_loop.trips) (c1_i32_8602_r0 : BitVec 32) (c0_i32_8654_r0 : BitVec 32) (c0_i32_8656_r0 : BitVec 32) : Fin 2 → Nat :=
  let c2_i32_8601_r0 : BitVec 32 := 2#32
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let v12788_r0 : BitVec 32 := Scalar.muli c2_i32_8601_r0 v12787_r0
  let v12789_r0 : BitVec 32 := Scalar.addi v12788_r0 c1_i32_8602_r0
  let c2_i32_8653_r0 : BitVec 32 := 2#32
  let v12857_r0 : BitVec 32 := Scalar.muli v12789_r0 c2_i32_8653_r0
  let v12858_r0 : BitVec 32 := Scalar.addi v12857_r0 c0_i32_8654_r0
  let c1024_i32_8655_r0 : BitVec 32 := 1024#32
  let v12859_r0 : BitVec 32 := Scalar.muli v12858_r0 c1024_i32_8655_r0
  let v12860_r0 : BitVec 32 := Scalar.addi v12859_r0 c0_i32_8656_r0
  let v12862_r0 : Index := Scalar.indexCast v12860_r0
  let c0_8657_r0 : Index := 0#32
  ![v12862_r0.toNat, 0]
def k0_off7 (k0_t1 : Fin k0_t1_loop.trips) (c1_i32_8602_r0 : BitVec 32) (c0_i32_8654_r0 : BitVec 32) (c0_i32_8656_r0 : BitVec 32) : Fin 2 → Nat :=
  let c2_i32_8601_r0 : BitVec 32 := 2#32
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let v12788_r0 : BitVec 32 := Scalar.muli c2_i32_8601_r0 v12787_r0
  let v12789_r0 : BitVec 32 := Scalar.addi v12788_r0 c1_i32_8602_r0
  let c2_i32_8653_r0 : BitVec 32 := 2#32
  let v12857_r0 : BitVec 32 := Scalar.muli v12789_r0 c2_i32_8653_r0
  let v12858_r0 : BitVec 32 := Scalar.addi v12857_r0 c0_i32_8654_r0
  let c1024_i32_8655_r0 : BitVec 32 := 1024#32
  let v12859_r0 : BitVec 32 := Scalar.muli v12858_r0 c1024_i32_8655_r0
  let v12860_r0 : BitVec 32 := Scalar.addi v12859_r0 c0_i32_8656_r0
  let c512_i32_8658_r0 : BitVec 32 := 512#32
  let v12864_r0 : BitVec 32 := Scalar.addi v12860_r0 c512_i32_8658_r0
  let v12866_r0 : Index := Scalar.indexCast v12864_r0
  let c0_8659_r0 : Index := 0#32
  ![v12866_r0.toNat, 0]
def k0_off8 (k0_t1 : Fin k0_t1_loop.trips) : Fin 4 → Nat :=
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let c0_i32_8946_r0 : BitVec 32 := 0#32
  let c0_i32_8947_r0 : BitVec 32 := 0#32
  let c0_i32_8948_r0 : BitVec 32 := 0#32
  ![v12787_r0.toNat, 0, 0, 0]
def k0_off9 (k0_t1 : Fin k0_t1_loop.trips) : Fin 4 → Nat :=
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let c0_i32_8946_r0 : BitVec 32 := 0#32
  let c0_i32_8947_r0 : BitVec 32 := 0#32
  let c0_i32_8948_r0 : BitVec 32 := 0#32
  ![v12787_r0.toNat, 0, 0, 0]
def k0_off10 (k0_t1 : Fin k0_t1_loop.trips) : Fin 4 → Nat :=
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let c0_i32_9043_r0 : BitVec 32 := 0#32
  let c0_i32_9044_r0 : BitVec 32 := 0#32
  ![v12787_r0.toNat, 128, 0, 0]
def k0_off11 (k0_t1 : Fin k0_t1_loop.trips) : Fin 4 → Nat :=
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let c0_i32_9136_r0 : BitVec 32 := 0#32
  let c0_i32_9138_r0 : BitVec 32 := 0#32
  ![v12787_r0.toNat, 0, 2, 0]
def k0_off12 (k0_t1 : Fin k0_t1_loop.trips) : Fin 4 → Nat :=
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let c0_i32_9234_r0 : BitVec 32 := 0#32
  ![v12787_r0.toNat, 128, 2, 0]
def k0_off13 (k0_t1 : Fin k0_t1_loop.trips) : Fin 4 → Nat :=
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let c0_i32_9976_r0 : BitVec 32 := 0#32
  let c0_i32_9978_r0 : BitVec 32 := 0#32
  ![v12787_r0.toNat, 0, 4, 0]
def k0_off14 (k0_t1 : Fin k0_t1_loop.trips) : Fin 4 → Nat :=
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let c0_i32_10074_r0 : BitVec 32 := 0#32
  ![v12787_r0.toNat, 128, 4, 0]
def k0_off15 (k0_t1 : Fin k0_t1_loop.trips) : Fin 4 → Nat :=
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let c0_i32_10166_r0 : BitVec 32 := 0#32
  let c0_i32_10168_r0 : BitVec 32 := 0#32
  ![v12787_r0.toNat, 0, 6, 0]
def k0_off16 (k0_t1 : Fin k0_t1_loop.trips) : Fin 4 → Nat :=
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let c0_i32_10264_r0 : BitVec 32 := 0#32
  ![v12787_r0.toNat, 128, 6, 0]
def k0_cond1 (k0_t1 : Fin k0_t1_loop.trips) : BitVec 1 :=
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let c4_i32_10659_r0 : BitVec 32 := 4#32
  let v16040_r0 : BitVec 1 := Scalar.cmpi .slt v12787_r0 c4_i32_10659_r0
  let v16041_r0 : BitVec 32 := Scalar.extui v16040_r0
  let c0_i32_10660_r0 : BitVec 32 := 0#32
  let v16042_r0 : BitVec 1 := Scalar.cmpi .ne v16041_r0 c0_i32_10660_r0
  v16042_r0

def k0_off17 (k0_t1 : Fin k0_t1_loop.trips) : Fin 1 → Nat :=
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  ![v12787_r0.toNat]
def k0_off18 (k0_t1 : Fin k0_t1_loop.trips) : Fin 3 → Nat :=
  let c0_i32_10664_r0 : BitVec 32 := 0#32
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let c8_i32_10663_r0 : BitVec 32 := 8#32
  let v16046_r0 : BitVec 32 := Scalar.muli v12787_r0 c8_i32_10663_r0
  let c0_i32_10665_r0 : BitVec 32 := 0#32
  ![0, v16046_r0.toNat, 0]
def k0_off19 (k0_t1 : Fin k0_t1_loop.trips) : Fin 4 → Nat :=
  let c0_i32_8600_r0 : BitVec 32 := 0#32
  let c0_i32_7750_r0 : BitVec 32 := 0#32
  let c1_i32_7752_r0 : BitVec 32 := 1#32
  let arg30_r0 : BitVec 32 := Scf.iv c0_i32_7750_r0 c1_i32_7752_r0 k0_t1
  let c1_i32_8599_r0 : BitVec 32 := 1#32
  let v12786_r0 : BitVec 32 := Scalar.muli arg30_r0 c1_i32_8599_r0
  let v12787_r0 : BitVec 32 := Scalar.addi c0_i32_8600_r0 v12786_r0
  let c0_i32_10666_r0 : BitVec 32 := 0#32
  let c0_i32_10667_r0 : BitVec 32 := 0#32
  let c0_i32_10668_r0 : BitVec 32 := 0#32
  ![v12787_r0.toNat, 0, 0, 0]
-- ==== KI.lean ====
abbrev S2x2x128x2x128 : Shape := ⟨5, ![2, 2, 128, 2, 128]⟩
abbrev S2x2x128x1x128 : Shape := ⟨5, ![2, 2, 128, 1, 128]⟩
abbrev S2x128x2x128 : Shape := ⟨4, ![2, 128, 2, 128]⟩
abbrev S2x128x1x128 : Shape := ⟨4, ![2, 128, 1, 128]⟩
abbrev S1x1x64x2x128 : Shape := ⟨5, ![1, 1, 64, 2, 128]⟩
abbrev S1x1x64x1x128 : Shape := ⟨5, ![1, 1, 64, 1, 128]⟩
abbrev S1x1x128x2x128 : Shape := ⟨5, ![1, 1, 128, 2, 128]⟩
abbrev S1x1x128x1x128 : Shape := ⟨5, ![1, 1, 128, 1, 128]⟩
abbrev S1x64x2x128 : Shape := ⟨4, ![1, 64, 2, 128]⟩
abbrev S1x64x1x128 : Shape := ⟨4, ![1, 64, 1, 128]⟩
  | .local _ .vmem, ⟨12, _⟩ => ⟨S2x2x128x2x128, .bf16⟩
  | .local _ .vmem, ⟨14, _⟩ => ⟨S2x128x2x128, .bf16⟩
variable {F : FTy → Type} [FloatOps F]
-- ==== ReferenceIdeal.lean ====
abbrev S256x1x4096 : Shape := ⟨3, ![256, 1, 4096]⟩
abbrev S4096 : Shape := ⟨1, ![4096]⟩
abbrev S256x1 : Shape := ⟨2, ![256, 1]⟩
abbrev S6144x128x16 : Shape := ⟨3, ![6144, 128, 16]⟩
abbrev S6144x128 : Shape := ⟨2, ![6144, 128]⟩
abbrev S_ : Shape := ⟨0, ![]⟩
abbrev S256x1x1 : Shape := ⟨3, ![256, 1, 1]⟩
abbrev S1x1x4096 : Shape := ⟨3, ![1, 1, 4096]⟩
abbrev S256x1x128x2x16 : Shape := ⟨5, ![256, 1, 128, 2, 16]⟩
abbrev S256x1x128x1x16 : Shape := ⟨5, ![256, 1, 128, 1, 16]⟩
abbrev S256x1x128x16 : Shape := ⟨4, ![256, 1, 128, 16]⟩
abbrev S6144x128x1 : Shape := ⟨3, ![6144, 128, 1]⟩
abbrev S256x1x6144 : Shape := ⟨3, ![256, 1, 6144]⟩
abbrev S256x1x32x128 : Shape := ⟨4, ![256, 1, 32, 128]⟩
abbrev S256x1x1024 : Shape := ⟨3, ![256, 1, 1024]⟩
abbrev S256x1x8x128 : Shape := ⟨4, ![256, 1, 8, 128]⟩
abbrev S64 : Shape := ⟨1, ![64]⟩
abbrev S1x1x64 : Shape := ⟨3, ![1, 1, 64]⟩
abbrev S256x1x64 : Shape := ⟨3, ![256, 1, 64]⟩
abbrev S256x1x1x64 : Shape := ⟨4, ![256, 1, 1, 64]⟩
abbrev S256x1x32x64x2 : Shape := ⟨5, ![256, 1, 32, 64, 2]⟩
abbrev S256x1x32x64x1 : Shape := ⟨5, ![256, 1, 32, 64, 1]⟩
abbrev S256x1x32x64 : Shape := ⟨4, ![256, 1, 32, 64]⟩
abbrev S256x1x8x64x2 : Shape := ⟨5, ![256, 1, 8, 64, 2]⟩
abbrev S256x1x8x64x1 : Shape := ⟨5, ![256, 1, 8, 64, 1]⟩
abbrev S256x1x8x64 : Shape := ⟨4, ![256, 1, 8, 64]⟩

abbrev nBuf : Space → Nat
  | .hbm => 130
  | .vmem => 0
  | .smem => 0
  | _ => 0

abbrev hbmTy0_0 (i : Nat) : BufTy := match i % 128 with
  | 0 => ⟨S256x1x4096, .bf16⟩
  | 1 => ⟨S4096, .bf16⟩
  | 2 => ⟨S256x1, .i32⟩
  | 3 => ⟨S6144x128x16, .i8⟩
  | 4 => ⟨S6144x128, .bf16⟩
  | 5 => ⟨S256x1x4096, .f32⟩
  | 6 => ⟨S256x1x4096, .f32⟩
  | 7 => ⟨S_, .f32⟩
  | 8 => ⟨S256x1, .f32⟩
  | 9 => ⟨S256x1x1, .f32⟩
  | 10 => ⟨S_, .f32⟩
  | 11 => ⟨S256x1x1, .f32⟩
  | 12 => ⟨S256x1x1, .f32⟩
  | 13 => ⟨S_, .f32⟩
  | 14 => ⟨S256x1x1, .f32⟩
  | 15 => ⟨S256x1x1, .f32⟩
  | 16 => ⟨S256x1x1, .f32⟩
  | 17 => ⟨S256x1x4096, .f32⟩
  | 18 => ⟨S256x1x4096, .f32⟩
  | 19 => ⟨S4096, .f32⟩
  | 20 => ⟨S1x1x4096, .f32⟩
  | 21 => ⟨S256x1x4096, .f32⟩
  | 22 => ⟨S256x1x4096, .f32⟩
  | 23 => ⟨S256x1x4096, .bf16⟩
  | 24 => ⟨S256x1x128x2x16, .bf16⟩
  | 25 => ⟨S256x1x128x1x16, .bf16⟩
  | 26 => ⟨S256x1x128x16, .bf16⟩
  | 27 => ⟨S256x1x128x1x16, .bf16⟩
  | 28 => ⟨S256x1x128x16, .bf16⟩
  | 29 => ⟨S6144x128x16, .i32⟩
  | 30 => ⟨S_, .i32⟩
  | 31 => ⟨S6144x128x16, .i32⟩
  | 32 => ⟨S6144x128x16, .i32⟩
  | 33 => ⟨S6144x128x16, .bf16⟩
  | 34 => ⟨S_, .bf16⟩
  | 35 => ⟨S6144x128x16, .bf16⟩
  | 36 => ⟨S6144x128x16, .bf16⟩
  | 37 => ⟨S6144x128x1, .bf16⟩
  | 38 => ⟨S6144x128x16, .bf16⟩
  | 39 => ⟨S6144x128x16, .bf16⟩
  | 40 => ⟨S_, .i32⟩
  | 41 => ⟨S6144x128x16, .i32⟩
  | 42 => ⟨S6144x128x16, .i32⟩
  | 43 => ⟨S6144x128x16, .bf16⟩
  | 44 => ⟨S_, .bf16⟩
  | 45 => ⟨S6144x128x16, .bf16⟩
  | 46 => ⟨S6144x128x16, .bf16⟩
  | 47 => ⟨S6144x128x1, .bf16⟩
  | 48 => ⟨S6144x128x16, .bf16⟩
  | 49 => ⟨S6144x128x16, .bf16⟩
  | 50 => ⟨S256x1x6144, .f32⟩
  | 51 => ⟨S256x1x6144, .f32⟩
  | 52 => ⟨S256x1x6144, .f32⟩
  | 53 => ⟨S256x1x4096, .f32⟩
  | 54 => ⟨S256x1x32x128, .f32⟩
  | 55 => ⟨S256x1x1024, .f32⟩
  | 56 => ⟨S256x1x8x128, .f32⟩
  | 57 => ⟨S256x1x1024, .f32⟩
  | 58 => ⟨S256x1x8x128, .f32⟩
  | 59 => ⟨S64, .f32⟩
  | 60 => ⟨S_, .f32⟩
  | 61 => ⟨S64, .f32⟩
  | 62 => ⟨S64, .f32⟩
  | 63 => ⟨S64, .f32⟩
  | 64 => ⟨S256x1, .f32⟩
  | 65 => ⟨S256x1x1, .f32⟩
  | 66 => ⟨S1x1x64, .f32⟩
  | 67 => ⟨S256x1x64, .f32⟩
  | 68 => ⟨S256x1x64, .f32⟩
  | 69 => ⟨S256x1x64, .f32⟩
  | 70 => ⟨S256x1x64, .f32⟩
  | 71 => ⟨S256x1x1x64, .f32⟩
  | 72 => ⟨S256x1x64, .f32⟩
  | 73 => ⟨S256x1x1x64, .f32⟩
  | 74 => ⟨S256x1x32x64x2, .f32⟩
  | 75 => ⟨S256x1x32x64x1, .f32⟩
  | 76 => ⟨S256x1x32x64, .f32⟩
  | 77 => ⟨S256x1x32x64x1, .f32⟩
  | 78 => ⟨S256x1x32x64, .f32⟩
  | 79 => ⟨S256x1x32x64, .f32⟩
  | 80 => ⟨S256x1x32x64, .f32⟩
  | 81 => ⟨S256x1x32x64, .f32⟩
  | 82 => ⟨S256x1x32x64, .f32⟩
  | 83 => ⟨S256x1x32x64, .f32⟩
  | 84 => ⟨S256x1x32x64, .f32⟩
  | 85 => ⟨S256x1x32x64, .f32⟩
  | 86 => ⟨S256x1x32x64, .f32⟩
  | 87 => ⟨S256x1x32x64, .f32⟩
  | 88 => ⟨S256x1x32x64, .f32⟩
  | 89 => ⟨S256x1x32x64x1, .f32⟩
  | 90 => ⟨S256x1x32x64x1, .f32⟩
  | 91 => ⟨S256x1x32x64x2, .f32⟩
  | 92 => ⟨S256x1x32x128, .f32⟩
  | 93 => ⟨S256x1x32x128, .bf16⟩
  | 94 => ⟨S64, .f32⟩
  | 95 => ⟨S_, .f32⟩
  | 96 => ⟨S64, .f32⟩
  | 97 => ⟨S64, .f32⟩
  | 98 => ⟨S64, .f32⟩
  | 99 => ⟨S256x1, .f32⟩
  | 100 => ⟨S256x1x1, .f32⟩
  | 101 => ⟨S1x1x64, .f32⟩
  | 102 => ⟨S256x1x64, .f32⟩
  | 103 => ⟨S256x1x64, .f32⟩
  | 104 => ⟨S256x1x64, .f32⟩
  | 105 => ⟨S256x1x64, .f32⟩
  | 106 => ⟨S256x1x1x64, .f32⟩
  | 107 => ⟨S256x1x64, .f32⟩
  | 108 => ⟨S256x1x1x64, .f32⟩
  | 109 => ⟨S256x1x8x64x2, .f32⟩
  | 110 => ⟨S256x1x8x64x1, .f32⟩
  | 111 => ⟨S256x1x8x64, .f32⟩
  | 112 => ⟨S256x1x8x64x1, .f32⟩
  | 113 => ⟨S256x1x8x64, .f32⟩
  | 114 => ⟨S256x1x8x64, .f32⟩
  | 115 => ⟨S256x1x8x64, .f32⟩
  | 116 => ⟨S256x1x8x64, .f32⟩
  | 117 => ⟨S256x1x8x64, .f32⟩
  | 118 => ⟨S256x1x8x64, .f32⟩
  | 119 => ⟨S256x1x8x64, .f32⟩
  | 120 => ⟨S256x1x8x64, .f32⟩
  | 121 => ⟨S256x1x8x64, .f32⟩
  | 122 => ⟨S256x1x8x64, .f32⟩
  | 123 => ⟨S256x1x8x64, .f32⟩
  | 124 => ⟨S256x1x8x64x1, .f32⟩
  | 125 => ⟨S256x1x8x64x1, .f32⟩
  | 126 => ⟨S256x1x8x64x2, .f32⟩
  | 127 => ⟨S256x1x8x128, .f32⟩
  | _ => ⟨S256x1x4096, .bf16⟩

abbrev hbmTy0_1 (i : Nat) : BufTy := match i % 128 with
  | 0 => ⟨S256x1x8x128, .bf16⟩
  | 1 => ⟨S256x1x8x128, .bf16⟩
  | _ => ⟨S256x1x4096, .bf16⟩

abbrev hbmTy (i : Nat) : BufTy := match i / 128 with
  | 0 => hbmTy0_0 i
  | 1 => hbmTy0_1 i
  | _ => ⟨S256x1x4096, .bf16⟩

abbrev bufTy : (tb : Table) → Fin (tcTables nBuf tb) → BufTy
  | .hbm, ⟨i, _⟩ => hbmTy i
  | _, _ => ⟨S256x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_6 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩

abbrev nD : Nat := 1
abbrev τ : Topo := Topo.v7x

variable {F : FTy → Type} [FloatOps F]
-- ==== Proof.Shapes.lean ====
/-
  The kernel's body written as loops over small steps: shapes and rectangles. Every rectangle is a function of plain
  numbers, taken modulo its range, so that it is in bounds at any argument.
-/
module

public import Idealize.ShloMosaic.Lib.Exec

@[expose] public section

noncomputable section

namespace Cert.Proof.Body

open Idealize.ShloMosaic Idealize.SL.Sem

abbrev T8x128 : Shape := ⟨2, ![8, 128]⟩
abbrev T1x128 : Shape := ⟨2, ![1, 128]⟩
abbrev T64x128 : Shape := ⟨2, ![64, 128]⟩
abbrev T128x128 : Shape := ⟨2, ![128, 128]⟩
abbrev T32x128 : Shape := ⟨2, ![32, 128]⟩
abbrev T2x128 : Shape := ⟨2, ![2, 128]⟩
abbrev T256x1024 : Shape := ⟨2, ![256, 1024]⟩
abbrev T256x4096 : Shape := ⟨2, ![256, 4096]⟩
abbrev T2176x128 : Shape := ⟨2, ![2176, 128]⟩
abbrev T1x2176x128 : Shape := ⟨3, ![1, 2176, 128]⟩
abbrev T2x2176x128 : Shape := ⟨3, ![2, 2176, 128]⟩
abbrev T1 : Shape := ⟨1, ![1]⟩
abbrev T4 : Shape := ⟨1, ![4]⟩
abbrev T0 : Shape := ⟨0, ![]⟩

/-- The row of a plane buffer where half-step `h` of tile `t` starts: rows `8 r` of a tile's words hold plane
    `8 (r % 2)`, group `4 t + r / 2`. -/
def rowOff (t h : ℕ) : ℕ := 1088 * (h / 2 % 8 % 2) + 4 * (t % 32) + h / 2 % 8 / 2

theorem rowOff_lt (t h : ℕ) : rowOff t h + 952 < 2176 := by unfold rowOff; omega

/-- Eight rows of a plane buffer, 136 apart. -/
def planeRows (o : ℕ) (ho : o + 952 < 2176) : LoadRect T2176x128 :=
  ⟨![o, 0], T8x128.size, ![136, 1], by
    intro a; right; revert a; rw [Fin.forall_fin_two]
    refine ⟨?_, ?_⟩
    · show o + 136 * (8 - 1) < 2176; omega
    · show 0 + 1 * (128 - 1) < 128; omega⟩

theorem spos (a : Fin 2) : 0 < (![136, 1] : Fin 2 → ℕ) a := by revert a; decide

theorem pos8x128 : 0 < T8x128.numel := by decide
theorem pos128x128 : 0 < T128x128.numel := by decide

/-- Eight rows of a 64-row tile. -/
theorem slices8 (h : ℕ) : T64x128.Slices ![8 * (h / 2 % 8), 0] T8x128 := by
  have : ∀ r : Fin 8, T64x128.Slices ![8 * r.val, 0] T8x128 := by decide
  exact this ⟨h / 2 % 8, Nat.mod_lt _ (by decide)⟩

end Cert.Proof.Body
-- ==== Proof.Struct.lean ====
/-
  The kernel's body written as loops over small steps: every step is a function of its numbers, and takes what the
  body does afterwards as its last argument.
-/
module

public import proofs.«01_k».proof.Proof.Shapes

@[expose] public section

noncomputable section

namespace Cert.Proof.Body

open Idealize.ShloMosaic Idealize.SL.Sem

abbrev T6144x128 : Shape := ⟨2, ![6144, 128]⟩
abbrev T512x128 : Shape := ⟨2, ![512, 128]⟩
abbrev T6144x4x128 : Shape := ⟨3, ![6144, 4, 128]⟩
abbrev T512x4x128 : Shape := ⟨3, ![512, 4, 128]⟩
abbrev T24576x128 : Shape := ⟨2, ![24576, 128]⟩
abbrev T256x128 : Shape := ⟨2, ![256, 128]⟩
abbrev T256x256 : Shape := ⟨2, ![256, 256]⟩
abbrev T1x1x128x128 : Shape := ⟨4, ![1, 1, 128, 128]⟩
abbrev T1x1x256x128 : Shape := ⟨4, ![1, 1, 256, 128]⟩
abbrev T16x2x256x128 : Shape := ⟨4, ![16, 2, 256, 128]⟩
abbrev T2x64x128 : Shape := ⟨3, ![2, 64, 128]⟩
abbrev T1x64x128 : Shape := ⟨3, ![1, 64, 128]⟩
abbrev T2x2x256x128 : Shape := ⟨4, ![2, 2, 256, 128]⟩
abbrev T6x256x8x128 : Shape := ⟨4, ![6, 256, 8, 128]⟩
abbrev T1x256x8x128 : Shape := ⟨4, ![1, 256, 8, 128]⟩
abbrev T256x8x128 : Shape := ⟨3, ![256, 8, 128]⟩
abbrev T256x32x128 : Shape := ⟨3, ![256, 32, 128]⟩
abbrev T1x128x2x128 : Shape := ⟨4, ![1, 128, 2, 128]⟩
abbrev T1x128x1x128 : Shape := ⟨4, ![1, 128, 1, 128]⟩
abbrev T12 : Shape := ⟨1, ![12]⟩
abbrev T6 : Shape := ⟨1, ![6]⟩
abbrev T128 : Shape := ⟨1, ![128]⟩

/-! ## Facts on rectangles, at every number -/

theorem sqz : T1x2176x128.Squeezes T2176x128 := by decide
theorem sqOut : T1x256x8x128.Squeezes T256x8x128 := by decide
theorem sqY : T1x1x256x128.Squeezes T256x128 := by decide
theorem sq0 : T1.Squeezes T0 := by decide
theorem sc8 : T8x128.ShapeCasts T8x128 := by decide

theorem pos1x128 : 0 < T1x128.numel := by decide
theorem pos1x64x128 : 0 < T1x64x128.numel := by decide
theorem pos64x128 : 0 < T64x128.numel := by decide
theorem pos1x128x128 : 0 < (⟨3, ![1, 128, 128]⟩ : Shape).numel := by decide
theorem pos1x1x128x128 : 0 < T1x1x128x128.numel := by decide
theorem pos1x1x256x128 : 0 < T1x1x256x128.numel := by decide
theorem pos1x128x2x128 : 0 < T1x128x2x128.numel := by decide

theorem mod_lt' (n : ℕ) {k : ℕ} (h : 0 < k) : n % k < k := Nat.mod_lt _ h

theorem bhInb (bh : ℕ) : ∀ a, (![bh % 2, 0, 0] : Fin 3 → ℕ) a + T1x2176x128.size a ≤ T2x2176x128.size a := by
  have : ∀ b : Fin 2, ∀ a, (![b.val, 0, 0] : Fin 3 → ℕ) a + T1x2176x128.size a ≤ T2x2176x128.size a := by decide
  exact this ⟨bh % 2, mod_lt' _ (by decide)⟩

theorem tileInb (t bh : ℕ) :
    ∀ a, (![128 * (bh % 2), 128 * (t % 32)] : Fin 2 → ℕ) a + T128x128.size a ≤ T256x4096.size a := by
  have : ∀ b : Fin 2, ∀ t : Fin 32, ∀ a,
    (![128 * b.val, 128 * t.val] : Fin 2 → ℕ) a + T128x128.size a ≤ T256x4096.size a := by decide
  exact this ⟨bh % 2, mod_lt' _ (by decide)⟩ ⟨t % 32, mod_lt' _ (by decide)⟩

theorem c4Inb (c : ℕ) : ∀ a, (![c % 4] : Fin 1 → ℕ) a + T1.size a ≤ T4.size a := by
  have : ∀ c : Fin 4, ∀ a, (![c.val] : Fin 1 → ℕ) a + T1.size a ≤ T4.size a := by decide
  exact this ⟨c % 4, mod_lt' _ (by decide)⟩

theorem c12Inb (c : ℕ) : ∀ a, (![c % 12] : Fin 1 → ℕ) a + T1.size a ≤ T12.size a := by
  have : ∀ c : Fin 12, ∀ a, (![c.val] : Fin 1 → ℕ) a + T1.size a ≤ T12.size a := by decide
  exact this ⟨c % 12, mod_lt' _ (by decide)⟩

theorem c6Inb (c : ℕ) : ∀ a, (![c % 6] : Fin 1 → ℕ) a + T1.size a ≤ T6.size a := by
  have : ∀ c : Fin 6, ∀ a, (![c.val] : Fin 1 → ℕ) a + T1.size a ≤ T6.size a := by decide
  exact this ⟨c % 6, mod_lt' _ (by decide)⟩

theorem c1024Inb (c : ℕ) : ∀ a, (![0, 1024 * (c % 4)] : Fin 2 → ℕ) a + T256x1024.size a ≤ T256x4096.size a := by
  have : ∀ c : Fin 4, ∀ a, (![0, 1024 * c.val] : Fin 2 → ℕ) a + T256x1024.size a ≤ T256x4096.size a := by decide
  exact this ⟨c % 4, mod_lt' _ (by decide)⟩

theorem w1024 (c : ℕ) :
    (Rect.unit (s := T256x4096) ![0, 1024 * (c % 4)] T256x1024.size (c1024Inb c)).WholeWords (EltTy.packing .bf16) := by
  have : ∀ c : Fin 4, (Rect.unit (s := T256x4096) ![0, 1024 * (c.val % 4)] T256x1024.size (c1024Inb c.val)).WholeWords
    (EltTy.packing .bf16) := by decide
  have h := this ⟨c % 4, mod_lt' _ (by decide)⟩
  simpa only [Nat.mod_mod] using h

theorem s512Inb (s : ℕ) : ∀ a, (![512 * (s % 12), 0] : Fin 2 → ℕ) a + T512x128.size a ≤ T6144x128.size a := by
  have : ∀ s : Fin 12, ∀ a, (![512 * s.val, 0] : Fin 2 → ℕ) a + T512x128.size a ≤ T6144x128.size a := by decide
  exact this ⟨s % 12, mod_lt' _ (by decide)⟩

theorem w512 (s : ℕ) :
    (Rect.unit (s := T6144x128) ![512 * (s % 12), 0] T512x128.size (s512Inb s)).WholeWords (EltTy.packing .bf16) := by
  have : ∀ s : Fin 12, (Rect.unit (s := T6144x128) ![512 * (s.val % 12), 0] T512x128.size (s512Inb s.val)).WholeWords
    (EltTy.packing .bf16) := by decide
  have h := this ⟨s % 12, mod_lt' _ (by decide)⟩
  simpa only [Nat.mod_mod] using h

theorem p512Inb (s : ℕ) : ∀ a, (![512 * (s % 12), 0, 0] : Fin 3 → ℕ) a + T512x4x128.size a ≤ T6144x4x128.size a := by
  have : ∀ s : Fin 12, ∀ a, (![512 * s.val, 0, 0] : Fin 3 → ℕ) a + T512x4x128.size a ≤ T6144x4x128.size a := by decide
  exact this ⟨s % 12, mod_lt' _ (by decide)⟩

/-- 128 rows of the scales' buffer: half `h` of the pair `m` of step `s`. -/
theorem scaleInb (s m h : ℕ) :
    ∀ a, (![512 * (s % 12) + 256 * (m % 2) + 128 * (h % 2), 0] : Fin 2 → ℕ) a + T128x128.size a ≤ T6144x128.size a := by
  have : ∀ s : Fin 12, ∀ m h : Fin 2, ∀ a,
    (![512 * s.val + 256 * m.val + 128 * h.val, 0] : Fin 2 → ℕ) a + T128x128.size a ≤ T6144x128.size a := by decide
  exact this ⟨s % 12, mod_lt' _ (by decide)⟩ ⟨m % 2, mod_lt' _ (by decide)⟩ ⟨h % 2, mod_lt' _ (by decide)⟩

/-- The words of row `j / 4` of the codes of half `h` of the pair `m` of step `s`. -/
theorem wordsInb (s m j h : ℕ) :
    ∀ a, T128x128.size a = 0 ∨ (![2048 * (s % 12) + 1024 * (m % 2) + 512 * (h % 2) + j % 16 / 4, 0] : Fin 2 → ℕ) a
      + (![4, 1] : Fin 2 → ℕ) a * (T128x128.size a - 1) < T24576x128.size a := by
  intro a; right; revert a; rw [Fin.forall_fin_two]
  refine ⟨?_, ?_⟩
  · show 2048 * (s % 12) + 1024 * (m % 2) + 512 * (h % 2) + j % 16 / 4 + 4 * (128 - 1) < 24576; omega
  · show 0 + 1 * (128 - 1) < 128; omega

theorem nwInb (t : ℕ) : ∀ a, (![t % 32, 0] : Fin 2 → ℕ) a + T1x128.size a ≤ T32x128.size a := by
  have : ∀ t : Fin 32, ∀ a, (![t.val, 0] : Fin 2 → ℕ) a + T1x128.size a ≤ T32x128.size a := by decide
  exact this ⟨t % 32, mod_lt' _ (by decide)⟩

theorem posInb (bh : ℕ) : ∀ a, (![bh % 2, 0] : Fin 2 → ℕ) a + T1x128.size a ≤ T2x128.size a := by
  have : ∀ t : Fin 2, ∀ a, (![t.val, 0] : Fin 2 → ℕ) a + T1x128.size a ≤ T2x128.size a := by decide
  exact this ⟨bh % 2, mod_lt' _ (by decide)⟩

theorem turnInb (bh : ℕ) : ∀ a, (![bh % 2, 0, 0] : Fin 3 → ℕ) a + T1x64x128.size a ≤ T2x64x128.size a := by
  have : ∀ t : Fin 2, ∀ a, (![t.val, 0, 0] : Fin 3 → ℕ) a + T1x64x128.size a ≤ T2x64x128.size a := by decide
  exact this ⟨bh % 2, mod_lt' _ (by decide)⟩

abbrev T1x128x128 : Shape := ⟨3, ![1, 128, 128]⟩

theorem planeInb (bh p : ℕ) :
    ∀ a, (![bh % 2, 136 * (p % 16), 0] : Fin 3 → ℕ) a + T1x128x128.size a ≤ T2x2176x128.size a := by
  have : ∀ b : Fin 2, ∀ p : Fin 16, ∀ a,
    (![b.val, 136 * p.val, 0] : Fin 3 → ℕ) a + T1x128x128.size a ≤ T2x2176x128.size a := by decide
  exact this ⟨bh % 2, mod_lt' _ (by decide)⟩ ⟨p % 16, mod_lt' _ (by decide)⟩

theorem wplaneInb (p : ℕ) : ∀ a, (![136 * (p % 16), 0] : Fin 2 → ℕ) a + T128x128.size a ≤ T2176x128.size a := by
  have : ∀ p : Fin 16, ∀ a, (![136 * p.val, 0] : Fin 2 → ℕ) a + T128x128.size a ≤ T2176x128.size a := by decide
  exact this ⟨p % 16, mod_lt' _ (by decide)⟩

theorem xnInb (j bh half : ℕ) :
    ∀ a, (![j % 16, bh % 2, 128 * (half % 2), 0] : Fin 4 → ℕ) a + T1x1x128x128.size a ≤ T16x2x256x128.size a := by
  have : ∀ j : Fin 16, ∀ b h : Fin 2, ∀ a,
    (![j.val, b.val, 128 * h.val, 0] : Fin 4 → ℕ) a + T1x1x128x128.size a ≤ T16x2x256x128.size a := by decide
  exact this ⟨j % 16, mod_lt' _ (by decide)⟩ ⟨bh % 2, mod_lt' _ (by decide)⟩ ⟨half % 2, mod_lt' _ (by decide)⟩

theorem xnPacked (j bh half : ℕ) :
    (Rect.unit (s := T16x2x256x128) ![j % 16, bh % 2, 128 * (half % 2), 0] T1x1x128x128.size (xnInb j bh half)).PackedRows
      (EltTy.packing .bf16) := by
  have : ∀ j : Fin 16, ∀ b h : Fin 2, (Rect.unit (s := T16x2x256x128) ![j.val % 16, b.val % 2, 128 * (h.val % 2), 0]
    T1x1x128x128.size (xnInb j.val b.val h.val)).PackedRows (EltTy.packing .bf16) := by decide
  have h := this ⟨j % 16, mod_lt' _ (by decide)⟩ ⟨bh % 2, mod_lt' _ (by decide)⟩ ⟨half % 2, mod_lt' _ (by decide)⟩
  simpa only [Nat.mod_mod] using h

theorem xnRowInb (j bh : ℕ) :
    ∀ a, (![j % 16, bh % 2, 0, 0] : Fin 4 → ℕ) a + T1x1x256x128.size a ≤ T16x2x256x128.size a := by
  have : ∀ j : Fin 16, ∀ b : Fin 2, ∀ a,
    (![j.val, b.val, 0, 0] : Fin 4 → ℕ) a + T1x1x256x128.size a ≤ T16x2x256x128.size a := by decide
  exact this ⟨j % 16, mod_lt' _ (by decide)⟩ ⟨bh % 2, mod_lt' _ (by decide)⟩

theorem yInb (m bh : ℕ) :
    ∀ a, (![m % 2, bh % 2, 0, 0] : Fin 4 → ℕ) a + T1x1x256x128.size a ≤ T2x2x256x128.size a := by
  have : ∀ j : Fin 2, ∀ b : Fin 2, ∀ a,
    (![j.val, b.val, 0, 0] : Fin 4 → ℕ) a + T1x1x256x128.size a ≤ T2x2x256x128.size a := by decide
  exact this ⟨m % 2, mod_lt' _ (by decide)⟩ ⟨bh % 2, mod_lt' _ (by decide)⟩

theorem ySlices (bh : ℕ) : T256x256.Slices ![0, 128 * (bh % 2)] T256x128 := by
  have : ∀ b : Fin 2, T256x256.Slices ![0, 128 * b.val] T256x128 := by decide
  exact this ⟨bh % 2, mod_lt' _ (by decide)⟩

/-- Every fourth row of a 256-row tile, from row `r`. -/
theorem yrInb (r : ℕ) : ∀ a, T64x128.size a = 0 ∨ (![r % 4, 0] : Fin 2 → ℕ) a
      + (![4, 1] : Fin 2 → ℕ) a * (T64x128.size a - 1) < T256x128.size a := by
  intro a; right; revert a; rw [Fin.forall_fin_two]
  refine ⟨?_, ?_⟩
  · show r % 4 + 4 * (64 - 1) < 256; omega
  · show 0 + 1 * (128 - 1) < 128; omega

/-- Two heads of one batch half of an output slab. -/
theorem outInb (o bh c : ℕ) :
    ∀ a, (![o % 6, 128 * (bh % 2), 2 * (c % 4), 0] : Fin 4 → ℕ) a + T1x128x2x128.size a ≤ T6x256x8x128.size a := by
  have : ∀ o : Fin 6, ∀ b : Fin 2, ∀ c : Fin 4, ∀ a,
    (![o.val, 128 * b.val, 2 * c.val, 0] : Fin 4 → ℕ) a + T1x128x2x128.size a ≤ T6x256x8x128.size a := by decide
  exact this ⟨o % 6, mod_lt' _ (by decide)⟩ ⟨bh % 2, mod_lt' _ (by decide)⟩ ⟨c % 4, mod_lt' _ (by decide)⟩

theorem outPacked (o bh c : ℕ) :
    (Rect.unit (s := T6x256x8x128) ![o % 6, 128 * (bh % 2), 2 * (c % 4), 0] T1x128x2x128.size (outInb o bh c)).PackedRows
      (EltTy.packing .bf16) := by
  have : ∀ o : Fin 6, ∀ b : Fin 2, ∀ c : Fin 4, (Rect.unit (s := T6x256x8x128)
    ![o.val % 6, 128 * (b.val % 2), 2 * (c.val % 4), 0] T1x128x2x128.size (outInb o.val b.val c.val)).PackedRows
      (EltTy.packing .bf16) := by decide
  have h := this ⟨o % 6, mod_lt' _ (by decide)⟩ ⟨bh % 2, mod_lt' _ (by decide)⟩ ⟨c % 4, mod_lt' _ (by decide)⟩
  simpa only [Nat.mod_mod] using h

theorem slabInb (o : ℕ) : ∀ a, (![o % 6, 0, 0, 0] : Fin 4 → ℕ) a + T1x256x8x128.size a ≤ T6x256x8x128.size a := by
  have : ∀ o : Fin 6, ∀ a, (![o.val, 0, 0, 0] : Fin 4 → ℕ) a + T1x256x8x128.size a ≤ T6x256x8x128.size a := by decide
  exact this ⟨o % 6, mod_lt' _ (by decide)⟩

theorem slabWords (o : ℕ) :
    (Rect.unit (s := T6x256x8x128) ![o % 6, 0, 0, 0] T1x256x8x128.size (slabInb o)).WholeWords (EltTy.packing .bf16) := by
  have : ∀ o : Fin 6, (Rect.unit (s := T6x256x8x128) ![o.val % 6, 0, 0, 0] T1x256x8x128.size (slabInb o.val)).WholeWords
    (EltTy.packing .bf16) := by decide
  have h := this ⟨o % 6, mod_lt' _ (by decide)⟩
  simpa only [Nat.mod_mod] using h

theorem qInb (o : ℕ) : ∀ a, (![0, 8 * (o % 4), 0] : Fin 3 → ℕ) a + T256x8x128.size a ≤ T256x32x128.size a := by
  have : ∀ o : Fin 4, ∀ a, (![0, 8 * o.val, 0] : Fin 3 → ℕ) a + T256x8x128.size a ≤ T256x32x128.size a := by decide
  exact this ⟨o % 4, mod_lt' _ (by decide)⟩

theorem qWords (o : ℕ) :
    (Rect.unit (s := T256x32x128) ![0, 8 * (o % 4), 0] T256x8x128.size (qInb o)).WholeWords (EltTy.packing .bf16) := by
  have : ∀ o : Fin 4, (Rect.unit (s := T256x32x128) ![0, 8 * (o.val % 4), 0] T256x8x128.size (qInb o.val)).WholeWords
    (EltTy.packing .bf16) := by decide
  have h := this ⟨o % 4, mod_lt' _ (by decide)⟩
  simpa only [Nat.mod_mod] using h

theorem fits (p : ℕ) : Mxu.Fits (64 * (p % 2)) 256 := by
  have : ∀ p : Fin 2, Mxu.Fits (64 * p.val) 256 := by decide
  exact this ⟨p % 2, mod_lt' _ (by decide)⟩

theorem resh : T24576x128.numel = T6144x4x128.numel ∧ (2 ≤ T6144x4x128.rank ∧ 2 ≤ T24576x128.rank) := by decide

/-! ## Repeating a step -/

section
variable {P : Type 1} {β : Type}

/-- `n` steps in turn from number `c`, each handing its value to the next. -/
def iter (step : ℕ → (β → P) → β → P) (n c : ℕ) (K : β → P) : β → P :=
  (Nat.rec (motive := fun _ => ℕ → β → P) (fun _ => K) (fun _ ih c => step c (ih (c + 1))) n) c

/-- `n` steps in turn from number `c`. -/
def rep (step : ℕ → P → P) (n c : ℕ) (K : P) : P :=
  (Nat.rec (motive := fun _ => ℕ → P) (fun _ => K) (fun _ ih c => step c (ih (c + 1))) n) c

@[simp] theorem iter_zero (step : ℕ → (β → P) → β → P) (c : ℕ) (K : β → P) : iter step 0 c K = K := rfl
@[simp] theorem iter_succ (step : ℕ → (β → P) → β → P) (n c : ℕ) (K : β → P) :
    iter step (n + 1) c K = step c (iter step n (c + 1) K) := rfl
@[simp] theorem rep_zero (step : ℕ → P → P) (c : ℕ) (K : P) : rep step 0 c K = K := rfl
@[simp] theorem rep_succ (step : ℕ → P → P) (n c : ℕ) (K : P) :
    rep step (n + 1) c K = step c (rep step n (c + 1) K) := rfl
end

/-! ## The buffers and semaphores, and the parts that differ from one program to the other -/

variable {F : FTy → Type} [FloatOps F] {nD : Nat} {τ : Topo} {sig : RefSig} {Λ : Labels}

/-- The buffers and semaphores the body works on, by their place among its arguments. -/
structure Refs (sig : RefSig) where
  a0 : Memref sig .tc .hbm T256x4096 .bf16
  h0 : a0.IsWhole
  a1 : Memref sig .tc .hbm T32x128 .bf16
  h1 : a1.IsWhole
  a2 : Memref sig .tc .hbm T2x128 .i32
  h2 : a2.IsWhole
  a3 : Memref sig .tc .hbm T6144x4x128 .i32
  h3 : a3.IsWhole
  a4 : Memref sig .tc .hbm T6144x128 .bf16
  h4 : a4.IsWhole
  a5 : Memref sig .tc .hbm T256x32x128 .bf16
  h5 : a5.IsWhole
  a6 : Memref sig .tc .hbm T256x8x128 .bf16
  h6 : a6.IsWhole
  a7 : Memref sig .tc .hbm T256x8x128 .bf16
  h7 : a7.IsWhole
  a8 : Memref sig .tc .vmem T256x4096 .bf16
  h8 : a8.IsWhole
  a9 : Memref sig .tc .vmem T32x128 .bf16
  h9 : a9.IsWhole
  a10 : Memref sig .tc .vmem T2x128 .i32
  h10 : a10.IsWhole
  a11 : Memref sig .tc .vmem T6144x4x128 .i32
  h11 : a11.IsWhole
  a12 : Memref sig .tc .vmem T6144x128 .bf16
  h12 : a12.IsWhole
  a13 : Memref sig .tc .vmem T2x2176x128 .f32
  a14 : Memref sig .tc .vmem T2x2176x128 .f32
  a15 : Memref sig .tc .vmem T2176x128 .f32
  a16 : Memref sig .tc .vmem T2176x128 .f32
  a17 : Memref sig .tc .vmem T16x2x256x128 .bf16
  h17 : a17.IsWhole
  a18 : Memref sig .tc .vmem T2x64x128 .f32
  a19 : Memref sig .tc .vmem T2x64x128 .f32
  a21 : Memref sig .tc .vmem T2x2x256x128 .f32
  a23 : Memref sig .tc .vmem T6x256x8x128 .bf16
  h23 : a23.IsWhole
  s24 : DmaSems sig T4
  s25 : DmaSems sig T0
  s26 : DmaSems sig T0
  s27 : DmaSems sig T12
  s28 : DmaSems sig T12
  s29 : DmaSems sig T6

/-- What the two programs say differently: the halves of a tile's word pairs, the scales' buffer, the turned rows'
    buffer, the words of an unturned tile. -/
structure Leaves (F : FTy → Type) [FloatOps F] (P : Type 1) where
  pl : FVec F T128x128 .bf16 → FVec F T64x128 .f32
  ph : FVec F T128x128 .bf16 → FVec F T64x128 .f32
  scaleSt : (p m : ℕ) → (a b : FVec F T128x128 .bf16) → P → P
  scaleLd : (p m : ℕ) → (FVec F T256x128 .bf16 → P) → P
  turn : (m : ℕ) → (e0 e1 o0 o1 : FVec F T64x128 .f32) → (FVec F T1x128x2x128 .bf16 → P) → P
  flat : FVec F T256x128 .f32 → FVec F T1x128x2x128 .bf16

variable (R : Refs sig) (L : Leaves F (Prog (TpuEff nD τ sig (Elt F) Λ .tc) PUnit.{1}))

/-! ## Copies -/

abbrev xSem (c : ℕ) := ((R.s24.slice (Rect.unit (s := T4) ![c % 4] T1.size (c4Inb c))).squeeze T0 sq0).sem
abbrev wpSem (s : ℕ) := ((R.s27.slice (Rect.unit (s := T12) ![s % 12] T1.size (c12Inb s))).squeeze T0 sq0).sem
abbrev wsSem (s : ℕ) := ((R.s28.slice (Rect.unit (s := T12) ![s % 12] T1.size (c12Inb s))).squeeze T0 sq0).sem
abbrev oSem (o : ℕ) := ((R.s29.slice (Rect.unit (s := T6) ![o % 6] T1.size (c6Inb o))).squeeze T0 sq0).sem

abbrev xH (c : ℕ) := R.a0.slice (Rect.unit (s := T256x4096) ![0, 1024 * (c % 4)] T256x1024.size (c1024Inb c)) (fun _ => rfl)
abbrev xV (c : ℕ) := R.a8.slice (Rect.unit (s := T256x4096) ![0, 1024 * (c % 4)] T256x1024.size (c1024Inb c)) (fun _ => rfl)
abbrev wsH (s : ℕ) := R.a4.slice (Rect.unit (s := T6144x128) ![512 * (s % 12), 0] T512x128.size (s512Inb s)) (fun _ => rfl)
abbrev wsV (s : ℕ) := R.a12.slice (Rect.unit (s := T6144x128) ![512 * (s % 12), 0] T512x128.size (s512Inb s)) (fun _ => rfl)
abbrev wpH (s : ℕ) := R.a3.slice (Rect.unit (s := T6144x4x128) ![512 * (s % 12), 0, 0] T512x4x128.size (p512Inb s)) (fun _ => rfl)
abbrev wpV (s : ℕ) := R.a11.slice (Rect.unit (s := T6144x4x128) ![512 * (s % 12), 0, 0] T512x4x128.size (p512Inb s)) (fun _ => rfl)
abbrev slab (o : ℕ) := (R.a23.slice (Rect.unit (s := T6x256x8x128) ![o % 6, 0, 0, 0] T1x256x8x128.size (slabInb o))
  (fun _ => rfl)).squeeze T256x8x128 sqOut
abbrev qH (o : ℕ) := R.a5.slice (Rect.unit (s := T256x32x128) ![0, 8 * (o % 4), 0] T256x8x128.size (qInb o)) (fun _ => rfl)

def startNw (K : (Prog (TpuEff nD τ sig (Elt F) Λ .tc) PUnit.{1})) : (Prog (TpuEff nD τ sig (Elt F) Λ .tc) PUnit.{1}) :=
  .op (.enqueueDma R.a1 (.here R.a9) (.dma R.s25.sem) R.h1.wordExact R.h9.wordExact ⟨Or.inl rfl, trivial⟩) fun _ => K
def startPos (K : (Prog (TpuEff nD τ sig (Elt F) Λ .tc) PUnit.{1})) : (Prog (TpuEff nD τ sig (Elt F) Λ .tc) PUnit.{1}) :=
  .op (.enqueueDma R.a2 (.here R.a10) (.dma R.s26.sem) R.h2.wordExact R.h10.wordExact ⟨Or.inl rfl, trivial⟩) fun _ => K
def startX (c : ℕ) (K : (Prog (TpuEff nD τ sig (Elt F) Λ .tc) PUnit.{1})) : (Prog (TpuEff nD τ sig (Elt F) Λ .tc) PUnit.{1}) :=
  .op (.enqueueDma (xH R c) (.here (xV R c)) (.dma (xSem R c)) (R.h0.wordExact_slice rfl _ (w1024 c))
    (R.h8.wordExact_slice rfl _ (w1024 c)) ⟨Or.inl rfl, trivial⟩) fun _ => K
def startWs (s : ℕ) (K : (Prog (TpuEff nD τ sig (Elt F) Λ .tc) PUnit.{1})) : (Prog (TpuEff nD τ sig (Elt F) Λ .tc) PUnit.{1}) :=
  .op (.enqueueDma (wsH R s) (.here (wsV R s)) (.dma (wsSem R s)) (R.h4.wordExact_slice rfl _ (w512 s))
    (R.h12.wordExact_slice rfl _ (w512 s)) ⟨Or.inl rfl, trivial⟩) fun _ => K
def startWp (s : ℕ) (K : (Prog (TpuEff nD τ sig (Elt F) Λ .tc) PUnit.{1})) : (Prog (TpuEff nD τ sig (Elt F) Λ .tc) PUnit.{1}) :=
  .op (.enqueueDma (wpH R s) (.here (wpV R s)) (.dma (wpSem R s)) (View.wordExact_bits rfl) (View.wordExact_bits rfl)
    ⟨Or.inl rfl, trivial⟩) fun _ => K
def startQ (o : ℕ) (K : (Prog (TpuEff nD τ sig (Elt F) Λ .tc) PUnit.{1})) : (Prog (TpuEff nD τ sig (Elt F) Λ .tc) PUnit.{1}) :=
  .op (.enqueueDma (slab R o) (.here (qH R o)) (.dma (oSem R o))
    ((R.h23.wordExact_slice rfl _ (slabWords o)).reshape _ _) (R.h5.wordExact_slice rfl _ (qWords o))
    ⟨Or.inl rfl, trivial⟩) fun _ => K
def startK (K : (Prog (TpuEff nD τ sig (Elt F) Λ .tc) PUnit.{1})) : (Prog (TpuEff nD τ sig (Elt F) Λ .tc) PUnit.{1}) :=
  .op (.enqueueDma (slab R 4) (.here R.a6) (.dma (oSem R 4))
    ((R.h23.wordExact_slice rfl _ (slabWords 4)).reshape _ _) R.h6.wordExact ⟨Or.inl rfl, trivial⟩) fun _ => K
def startV (K : (Prog (TpuEff nD τ sig (Elt F) Λ .tc) PUnit.{1})) : (Prog (TpuEff nD τ sig (Elt F) Λ .tc) PUnit.{1}) :=
  .op (.enqueueDma (slab R 5) (.here R.a7) (.dma (oSem R 5))
    ((R.h23.wordExact_slice rfl _ (slabWords 5)).reshape _ _) R.h7.wordExact ⟨Or.inl rfl, trivial⟩) fun _ => K

def waitNw (K : (Prog (TpuEff nD τ sig (Elt F) Λ .tc) PUnit.{1})) : (Prog (TpuEff nD τ sig (Elt F) Λ .tc) PUnit.{1}) := .op (.waitDma2 R.s25.sem R.a1 R.a9 R.h1.wordExact R.h9.wordExact) fun _ => K
def waitPos (K : (Prog (TpuEff nD τ sig (Elt F) Λ .tc) PUnit.{1})) : (Prog (TpuEff nD τ sig (Elt F) Λ .tc) PUnit.{1}) := .op (.waitDma2 R.s26.sem R.a2 R.a10 R.h2.wordExact R.h10.wordExact) fun _ => K
def waitX (c : ℕ) (K : (Prog (TpuEff nD τ sig (Elt F) Λ .tc) PUnit.{1})) : (Prog (TpuEff nD τ sig (Elt F) Λ .tc) PUnit.{1}) :=
  .op (.waitDma2 (xSem R c) (xH R c) (xV R c) (R.h0.wordExact_slice rfl _ (w1024 c))
    (R.h8.wordExact_slice rfl _ (w1024 c))) fun _ => K
def waitWs (s : ℕ) (K : (Prog (TpuEff nD τ sig (Elt F) Λ .tc) PUnit.{1})) : (Prog (TpuEff nD τ sig (Elt F) Λ .tc) PUnit.{1}) :=
  .op (.waitDma2 (wsSem R s) (wsH R s) (wsV R s) (R.h4.wordExact_slice rfl _ (w512 s))
    (R.h12.wordExact_slice rfl _ (w512 s))) fun _ => K
def waitWp (s : ℕ) (K : (Prog (TpuEff nD τ sig (Elt F) Λ .tc) PUnit.{1})) : (Prog (TpuEff nD τ sig (Elt F) Λ .tc) PUnit.{1}) :=
  .op (.waitDma2 (wpSem R s) (wpH R s) (wpV R s) (View.wordExact_bits rfl) (View.wordExact_bits rfl)) fun _ => K
def waitQ (o : ℕ) (K : (Prog (TpuEff nD τ sig (Elt F) Λ .tc) PUnit.{1})) : (Prog (TpuEff nD τ sig (Elt F) Λ .tc) PUnit.{1}) :=
  .op (.waitDma2 (oSem R o) (slab R o) (qH R o) ((R.h23.wordExact_slice rfl _ (slabWords o)).reshape _ _)
    (R.h5.wordExact_slice rfl _ (qWords o))) fun _ => K
def waitK (K : (Prog (TpuEff nD τ sig (Elt F) Λ .tc) PUnit.{1})) : (Prog (TpuEff nD τ sig (Elt F) Λ .tc) PUnit.{1}) :=
  .op (.waitDma2 (oSem R 4) (slab R 4) R.a6 ((R.h23.wordExact_slice rfl _ (slabWords 4)).reshape _ _)
    R.h6.wordExact) fun _ => K
def waitV (K : (Prog (TpuEff nD τ sig (Elt F) Λ .tc) PUnit.{1})) : (Prog (TpuEff nD τ sig (Elt F) Λ .tc) PUnit.{1}) :=
  .op (.waitDma2 (oSem R 5) (slab R 5) R.a7 ((R.h23.wordExact_slice rfl _ (slabWords 5)).reshape _ _)
    R.h7.wordExact) fun _ => K

/-! ## The angles -/

/-- The frequency of each row of a head's half. -/
def freqs : FVec F T64x128 .f32 :=
  exp (mulf (sitofp .f32 (iota .tc T64x128 32 [0] (by decide)))
    (broadcast T64x128 (Scalar.ofBits .f32 0xBE135D8E#32)))

/-- The angle of each row, for the positions of a batch half. -/
def angle (v : IVec T1x128 32) : FVec F T64x128 .f32 :=
  mulf (broadcastTo T64x128 (sitofp .f32 v) (by decide)) freqs

def turnSt (m : Memref sig .tc .vmem T2x64x128 .f32) (bh : ℕ) (v : FVec F T64x128 .f32) (K : (Prog (TpuEff nD τ sig (Elt F) Λ .tc) PUnit.{1})) : (Prog (TpuEff nD τ sig (Elt F) Λ .tc) PUnit.{1}) :=
  .op (.load m (Rect.unit (s := T2x64x128) ![bh % 2, 0, 0] T1x64x128.size (turnInb bh)).toLoadRect
    (View.loadsAt_vmem pos1x64x128)) fun _ =>
  .op (.store m (Rect.unit (s := T2x64x128) ![bh % 2, 0, 0] T1x64x128.size (turnInb bh))
    (shapeCast T1x64x128 v (by decide)) Finset.univ (View.stores_vmem_bits_univ pos1x64x128 rfl) (.inl rfl)) fun _ => K

def angles (bh : ℕ) (K : (Prog (TpuEff nD τ sig (Elt F) Λ .tc) PUnit.{1})) : (Prog (TpuEff nD τ sig (Elt F) Λ .tc) PUnit.{1}) :=
  .op (.load R.a10 (Rect.unit (s := T2x128) ![bh % 2, 0] T1x128.size (posInb bh)).toLoadRect
    (View.loadsAt_vmem pos1x128)) fun (v : Vec F T1x128 .i32) =>
  turnSt R.a18 bh (cos (angle v)) <| turnSt R.a19 bh (sin (angle v)) K

/-! ## Splitting tiles into planes -/

abbrev planeOf (m : Memref sig .tc .vmem T2x2176x128 .f32) (bh : ℕ) : Memref sig .tc .vmem T2176x128 .f32 :=
  (m.slice (Rect.unit (s := T2x2176x128) ![bh % 2, 0, 0] T1x2176x128.size (bhInb bh)) (fun _ => rfl)).squeeze T2176x128 sqz

/-- Eight rows of a tile's half into the planes. -/
def half (m : Memref sig .tc .vmem T2176x128 .f32) (t h : ℕ) (v : FVec F T64x128 .f32) (K : (Prog (TpuEff nD τ sig (Elt F) Λ .tc) PUnit.{1})) : (Prog (TpuEff nD τ sig (Elt F) Λ .tc) PUnit.{1}) :=
  .op (.load m (planeRows (rowOff t h) (rowOff_lt t h)) (View.loadsAt_vmem pos8x128)) fun _ =>
  .op (.store m ⟨planeRows (rowOff t h) (rowOff_lt t h), spos⟩
    (shapeCast T8x128 (extractStridedSlice T8x128 ![8 * (h / 2 % 8), 0] v (slices8 h)) sc8) Finset.univ
    (View.stores_vmem_bits_univ pos8x128 rfl) (.inl rfl)) fun _ => K

def rows (m n : Memref sig .tc .vmem T2176x128 .f32) (t : ℕ) (lo hi : FVec F T64x128 .f32) (K : (Prog (TpuEff nD τ sig (Elt F) Λ .tc) PUnit.{1})) : (Prog (TpuEff nD τ sig (Elt F) Λ .tc) PUnit.{1}) :=
  rep (fun r K => half m t (2 * r) lo (half n t (2 * r + 1) hi K)) 8 0 K

/-- A tile of the weight of the norm. -/
def wtile (t : ℕ) (K : (Prog (TpuEff nD τ sig (Elt F) Λ .tc) PUnit.{1})) : (Prog (TpuEff nD τ sig (Elt F) Λ .tc) PUnit.{1}) :=
  .op (.load R.a9 (Rect.unit (s := T32x128) ![t % 32, 0] T1x128.size (nwInb t)).toLoadRect
    (View.loadsAt_vmem pos1x128)) fun (v : Vec F T1x128 .bf16) =>
  let w : FVec F T128x128 .bf16 := truncf .bf16 (broadcastTo T128x128 (shapeCast T1x128 (extf .f32 v (by decide) : FVec F T1x128 .f32) (by decide))
    (by decide)) (by decide)
  rows R.a15 R.a16 t (L.pl w) (L.ph w) K

def sqAdd (sq lo hi : FVec F T64x128 .f32) : FVec F T64x128 .f32 := addf sq (addf (mulf lo lo) (mulf hi hi))

/-- A tile of `x`, and the squares of its elements. -/
def xtile (t bh : ℕ) (sq : FVec F T64x128 .f32) (K : FVec F T64x128 .f32 → (Prog (TpuEff nD τ sig (Elt F) Λ .tc) PUnit.{1})) : (Prog (TpuEff nD τ sig (Elt F) Λ .tc) PUnit.{1}) :=
  .op (.load R.a8 (Rect.unit (s := T256x4096) ![128 * (bh % 2), 128 * (t % 32)] T128x128.size (tileInb t bh)).toLoadRect
    (View.loadsAt_vmem pos128x128)) fun (v : Vec F T128x128 .bf16) =>
  rows (planeOf R.a13 bh) (planeOf R.a14 bh) t (L.pl v) (L.ph v) (K (sqAdd sq (L.pl v) (L.ph v)))

def xchunk (c : ℕ) (K : FVec F T64x128 .f32 × FVec F T64x128 .f32 → (Prog (TpuEff nD τ sig (Elt F) Λ .tc) PUnit.{1})) (s : FVec F T64x128 .f32 × FVec F T64x128 .f32) : (Prog (TpuEff nD τ sig (Elt F) Λ .tc) PUnit.{1}) :=
  waitX R c <| iter (fun i K s => xtile R L (8 * c + i) 0 s.1 fun s0 => xtile R L (8 * c + i) 1 s.2 fun s1 => K (s0, s1)) 8 0 K s

/-- One over the root mean square of each batch row. -/
def invRms (sq : FVec F T64x128 .f32) : FVec F T1x128 .f32 :=
  rsqrt (addf (mulf (shapeCast T1x128 (multiReduction .add [0] T128 sq 0x00000000#32 (by decide) (.inl rfl) rfl)
    (by decide)) (broadcast T1x128 (Scalar.ofBits .f32 0x39800000#32))) (broadcast T1x128 (Scalar.ofBits .f32 0x358637BD#32)))

/-! ## The multiplication -/

/-- One plane of `x` scaled, into the multiplication's rows. -/
def norm1 (r : FVec F T1x128 .f32) (x : Memref sig .tc .vmem T2x2176x128 .f32) (w : Memref sig .tc .vmem T2176x128 .f32)
    (j bh hf : ℕ) (K : (Prog (TpuEff nD τ sig (Elt F) Λ .tc) PUnit.{1})) : (Prog (TpuEff nD τ sig (Elt F) Λ .tc) PUnit.{1}) :=
  .op (.load x (Rect.unit (s := T2x2176x128) ![bh % 2, 136 * ((16 * hf + j) / 2 % 16), 0] T1x128x128.size
    (planeInb bh _)).toLoadRect (View.loadsAt_vmem pos1x128x128)) fun (a : Vec F T1x128x128 .f32) =>
  .op (.load w (Rect.unit (s := T2176x128) ![136 * ((16 * hf + j) / 2 % 16), 0] T128x128.size
    (wplaneInb _)).toLoadRect (View.loadsAt_vmem pos128x128)) fun (b : Vec F T128x128 .f32) =>
  .op (.load R.a17 (Rect.unit (s := T16x2x256x128) ![j % 16, bh % 2, 128 * (hf % 2), 0] T1x1x128x128.size
    (xnInb j bh hf)).toLoadRect (View.loadsAt_vmem pos1x1x128x128)) fun _ =>
  .op (.store R.a17 (Rect.unit (s := T16x2x256x128) ![j % 16, bh % 2, 128 * (hf % 2), 0] T1x1x128x128.size (xnInb j bh hf))
    (shapeCast T1x1x128x128 (truncf .bf16 (mulf (mulf (shapeCast T128x128 a (by decide)) (broadcastTo T128x128 r (by decide))) b : FVec F T128x128 .f32)
      (by decide) : FVec F T128x128 .bf16) (by decide)) Finset.univ
    (View.stores_vmem pos1x1x128x128 (R.h17.storeExact_slice rfl _ (xnPacked j bh hf)) (fun _ => rfl)) (.inl rfl)) fun _ => K

def pick {β : Type} (j : ℕ) (a b : β) : β := if j % 2 = 0 then a else b

def normalise (r0 r1 : FVec F T1x128 .f32) (j : ℕ) (K : (Prog (TpuEff nD τ sig (Elt F) Λ .tc) PUnit.{1})) : (Prog (TpuEff nD τ sig (Elt F) Λ .tc) PUnit.{1}) :=
  norm1 R r0 (pick j R.a13 R.a14) (pick j R.a15 R.a16) j 0 0 <|
  norm1 R r0 (pick j R.a13 R.a14) (pick j R.a15 R.a16) j 0 1 <|
  norm1 R r1 (pick j R.a13 R.a14) (pick j R.a15 R.a16) j 1 0 <|
  norm1 R r1 (pick j R.a13 R.a14) (pick j R.a15 R.a16) j 1 1 K

theorem catOk : Shape.Concatenates [T256x128, T256x128] T256x256 1 := by decide

def catCols (a b : FVec F T256x128 .bf16) : FVec F T256x256 .bf16 :=
  concatenate T256x256 1 [⟨T256x128, a⟩, ⟨T256x128, b⟩] catOk

/-- The right-hand tile of pass `j`: column `b` is a batch row. -/
def ldRhs (j : ℕ) (K : FVec F T256x256 .bf16 → (Prog (TpuEff nD τ sig (Elt F) Λ .tc) PUnit.{1})) : (Prog (TpuEff nD τ sig (Elt F) Λ .tc) PUnit.{1}) :=
  .op (.load R.a17 (Rect.unit (s := T16x2x256x128) ![j % 16, 0 % 2, 0, 0] T1x1x256x128.size (xnRowInb j 0)).toLoadRect
    (View.loadsAt_vmem pos1x1x256x128)) fun (a : Vec F T1x1x256x128 .bf16) =>
  .op (.load R.a17 (Rect.unit (s := T16x2x256x128) ![j % 16, 1 % 2, 0, 0] T1x1x256x128.size (xnRowInb j 1)).toLoadRect
    (View.loadsAt_vmem pos1x1x256x128)) fun (b : Vec F T1x1x256x128 .bf16) =>
  K (catCols (shapeCast T256x128 a (by decide)) (shapeCast T256x128 b (by decide)))

/-- The words with head `a`'s codes in the low halves, head `b`'s in the high ones. -/
def codes (j : ℕ) (a b : IVec T128x128 32) : IVec T128x128 32 :=
  if j % 4 < 2 then ori (andi a (broadcast T128x128 65535#32)) (shli b (broadcast T128x128 16#32))
  else ori (shrui a (broadcast T128x128 16#32)) (andi b (broadcast T128x128 (-65536#32)))

def field (w : IVec T128x128 32) (sc : FVec F T256x128 .bf16) : FVec F T256x128 .bf16 :=
  mulf (subf (bitcastToFloat .bf16 (bitcast T256x128 16 (ori (andi w (broadcast T128x128 983055#32))
    (broadcast T128x128 1124090624#32)) (by decide))) (broadcast T256x128 (Scalar.ofBits .bf16 0x4308#16))) sc

def dequant (j : ℕ) (a b : IVec T128x128 32) (sc : FVec F T256x128 .bf16) : FVec F T256x256 .bf16 :=
  catCols (field (if j % 2 = 0 then codes j a b else shrui (codes j a b) (broadcast T128x128 8#32)) sc)
    (field (shrui (codes j a b) (broadcast T128x128 (if j % 2 = 0 then 4#32 else 12#32))) sc)

abbrev words : Memref sig .tc .vmem T24576x128 .i32 := R.a11.reshape T24576x128 resh.1 resh.2 R.h11.contiguous

def ldWords (s m j h : ℕ) (K : IVec T128x128 32 → (Prog (TpuEff nD τ sig (Elt F) Λ .tc) PUnit.{1})) : (Prog (TpuEff nD τ sig (Elt F) Λ .tc) PUnit.{1}) :=
  .op (.load (words R) (⟨![2048 * (s % 12) + 1024 * (m % 2) + 512 * (h % 2) + j % 16 / 4, 0], T128x128.size, ![4, 1],
    wordsInb s m j h⟩ : LoadRect T24576x128) (View.loadsAt_vmem pos128x128)) fun (v : Vec F T128x128 .i32) => K v

abbrev unitOf (m : ℕ) : Fin 2 := ⟨m % 2, mod_lt' _ (by decide)⟩

/-- Pass `j` of pair `m` on its unit. -/
def pass (s p j m : ℕ) (rhs : FVec F T256x256 .bf16) (K : Mxu F → (Prog (TpuEff nD τ sig (Elt F) Λ .tc) PUnit.{1})) (x : Mxu F) : (Prog (TpuEff nD τ sig (Elt F) Λ .tc) PUnit.{1}) :=
  .op (.assume (x.PushOk (unitOf m) (unitOf j) false)) fun _ =>
  ldWords R s m j 0 fun a => ldWords R s m j 1 fun b => L.scaleLd p m fun sc =>
  K ((x.pushed (unitOf m) (unitOf j) false rhs).accLhs (unitOf m) (unitOf j) (64 * (p % 2)) (dequant j a b sc) (fits p))

def ldScale (s m h : ℕ) (K : FVec F T128x128 .bf16 → (Prog (TpuEff nD τ sig (Elt F) Λ .tc) PUnit.{1})) : (Prog (TpuEff nD τ sig (Elt F) Λ .tc) PUnit.{1}) :=
  .op (.load R.a12 (Rect.unit (s := T6144x128) ![512 * (s % 12) + 256 * (m % 2) + 128 * (h % 2), 0] T128x128.size
    (scaleInb s m h)).toLoadRect (View.loadsAt_vmem pos128x128)) fun (v : Vec F T128x128 .bf16) => K v

def pairScales (s p m : ℕ) (K : (Prog (TpuEff nD τ sig (Elt F) Λ .tc) PUnit.{1})) : (Prog (TpuEff nD τ sig (Elt F) Λ .tc) PUnit.{1}) :=
  ldScale R s m 0 fun a => ldScale R s m 1 fun b => L.scaleSt p m a b K

def jstep (nrm : ℕ → (Prog (TpuEff nD τ sig (Elt F) Λ .tc) PUnit.{1}) → (Prog (TpuEff nD τ sig (Elt F) Λ .tc) PUnit.{1})) (piece : ℕ → (Mxu F → (Prog (TpuEff nD τ sig (Elt F) Λ .tc) PUnit.{1})) → Mxu F → (Prog (TpuEff nD τ sig (Elt F) Λ .tc) PUnit.{1})) (s p j : ℕ) (K : Mxu F → (Prog (TpuEff nD τ sig (Elt F) Λ .tc) PUnit.{1})) (x : Mxu F) : (Prog (TpuEff nD τ sig (Elt F) Λ .tc) PUnit.{1}) :=
  nrm j <| ldRhs R j fun rhs => pass R L s p j 0 rhs (pass R L s p j 1 rhs (piece j K)) x

/-- Step `s`: the heads of its two pairs, into accumulator `p`. -/
def multiply (nrm : ℕ → (Prog (TpuEff nD τ sig (Elt F) Λ .tc) PUnit.{1}) → (Prog (TpuEff nD τ sig (Elt F) Λ .tc) PUnit.{1})) (piece : ℕ → (Mxu F → (Prog (TpuEff nD τ sig (Elt F) Λ .tc) PUnit.{1})) → Mxu F → (Prog (TpuEff nD τ sig (Elt F) Λ .tc) PUnit.{1})) (s p : ℕ) (K : Mxu F → (Prog (TpuEff nD τ sig (Elt F) Λ .tc) PUnit.{1})) (x : Mxu F) : (Prog (TpuEff nD τ sig (Elt F) Λ .tc) PUnit.{1}) :=
  waitWs R s <| waitWp R s <| pairScales R L s p 0 <| pairScales R L s p 1 <| iter (jstep R L nrm piece s p) 16 0 K x

/-! ## Draining -/

def ySt (m bh : ℕ) (y : FVec F T256x256 .f32) (K : (Prog (TpuEff nD τ sig (Elt F) Λ .tc) PUnit.{1})) : (Prog (TpuEff nD τ sig (Elt F) Λ .tc) PUnit.{1}) :=
  .op (.load R.a21 (Rect.unit (s := T2x2x256x128) ![m % 2, bh % 2, 0, 0] T1x1x256x128.size (yInb m bh)).toLoadRect
    (View.loadsAt_vmem pos1x1x256x128)) fun _ =>
  .op (.store R.a21 (Rect.unit (s := T2x2x256x128) ![m % 2, bh % 2, 0, 0] T1x1x256x128.size (yInb m bh))
    (shapeCast T1x1x256x128 (extractStridedSlice T256x128 ![0, 128 * (bh % 2)] y (ySlices bh)) (by decide)) Finset.univ
    (View.stores_vmem_bits_univ pos1x1x256x128 rfl) (.inl rfl)) fun _ => K

def popAcc (p m : ℕ) (K : Mxu F → (Prog (TpuEff nD τ sig (Elt F) Λ .tc) PUnit.{1})) (x : Mxu F) : (Prog (TpuEff nD τ sig (Elt F) Λ .tc) PUnit.{1}) :=
  ySt R m 0 (x.read (unitOf m) (64 * (p % 2)) (fits p)) <| ySt R m 1 (x.read (unitOf m) (64 * (p % 2)) (fits p)) <|
  K (x.pop (unitOf m) (64 * (p % 2)) 256 (fits p))

def outSt (o bh c : ℕ) (v : FVec F T1x128x2x128 .bf16) (K : (Prog (TpuEff nD τ sig (Elt F) Λ .tc) PUnit.{1})) : (Prog (TpuEff nD τ sig (Elt F) Λ .tc) PUnit.{1}) :=
  .op (.load R.a23 (Rect.unit (s := T6x256x8x128) ![o % 6, 128 * (bh % 2), 2 * (c % 4), 0] T1x128x2x128.size
    (outInb o bh c)).toLoadRect (View.loadsAt_vmem pos1x128x2x128)) fun _ =>
  .op (.store R.a23 (Rect.unit (s := T6x256x8x128) ![o % 6, 128 * (bh % 2), 2 * (c % 4), 0] T1x128x2x128.size
    (outInb o bh c)) v Finset.univ
    (View.stores_vmem pos1x128x2x128 (R.h23.storeExact_slice rfl _ (outPacked o bh c)) (fun _ => rfl)) (.inl rfl)) fun _ => K

def turnLd (m : Memref sig .tc .vmem T2x64x128 .f32) (bh : ℕ) (K : FVec F T64x128 .f32 → (Prog (TpuEff nD τ sig (Elt F) Λ .tc) PUnit.{1})) : (Prog (TpuEff nD τ sig (Elt F) Λ .tc) PUnit.{1}) :=
  .op (.load m (Rect.unit (s := T2x64x128) ![bh % 2, 0, 0] T1x64x128.size (turnInb bh)).toLoadRect
    (View.loadsAt_vmem pos1x64x128)) fun (v : Vec F T1x64x128 .f32) => K (shapeCast T64x128 v (by decide))

abbrev yOf (m bh : ℕ) : Memref sig .tc .vmem T256x128 .f32 :=
  (R.a21.slice (Rect.unit (s := T2x2x256x128) ![m % 2, bh % 2, 0, 0] T1x1x256x128.size (yInb m bh)) (fun _ => rfl)).squeeze
    T256x128 sqY

def yLd (m bh r : ℕ) (K : FVec F T64x128 .f32 → (Prog (TpuEff nD τ sig (Elt F) Λ .tc) PUnit.{1})) : (Prog (TpuEff nD τ sig (Elt F) Λ .tc) PUnit.{1}) :=
  .op (.load (yOf R m bh) (⟨![r % 4, 0], T64x128.size, ![4, 1], yrInb r⟩ : LoadRect T256x128)
    (View.loadsAt_vmem pos64x128)) fun (v : Vec F T64x128 .f32) => K v

/-- The heads of pair `m`, turned by their angles. -/
def finRot (o p m bh : ℕ) (K : (Prog (TpuEff nD τ sig (Elt F) Λ .tc) PUnit.{1})) : (Prog (TpuEff nD τ sig (Elt F) Λ .tc) PUnit.{1}) :=
  turnLd R.a18 bh fun c => turnLd R.a19 bh fun s =>
  yLd R m bh 0 fun a0 => yLd R m bh 1 fun b0 => yLd R m bh 2 fun a1 => yLd R m bh 3 fun b1 =>
  L.turn m (subf (mulf a0 c) (mulf a1 s)) (subf (mulf b0 c) (mulf b1 s)) (addf (mulf a0 s) (mulf a1 c))
    (addf (mulf b0 s) (mulf b1 c)) fun v =>
  outSt R o bh (2 * (p % 2) + m) v K

/-- The heads of pair `m` as they are. -/
def finFlat (o p m bh : ℕ) (K : (Prog (TpuEff nD τ sig (Elt F) Λ .tc) PUnit.{1})) : (Prog (TpuEff nD τ sig (Elt F) Λ .tc) PUnit.{1}) :=
  .op (.load R.a21 (Rect.unit (s := T2x2x256x128) ![m % 2, bh % 2, 0, 0] T1x1x256x128.size (yInb m bh)).toLoadRect
    (View.loadsAt_vmem pos1x1x256x128)) fun (v : Vec F T1x1x256x128 .f32) =>
  outSt R o bh (2 * (p % 2) + m) (L.flat (shapeCast T256x128 v (by decide))) K

/-- Piece `i` of the draining of accumulator `p`: two pops, four ends. -/
def drain (fin : (o p m bh : ℕ) → (Prog (TpuEff nD τ sig (Elt F) Λ .tc) PUnit.{1}) → (Prog (TpuEff nD τ sig (Elt F) Λ .tc) PUnit.{1})) (o p i : ℕ) (K : Mxu F → (Prog (TpuEff nD τ sig (Elt F) Λ .tc) PUnit.{1})) (x : Mxu F) : (Prog (TpuEff nD τ sig (Elt F) Λ .tc) PUnit.{1}) :=
  if i < 2 then popAcc R p i K x else fin o p ((i - 2) / 2) (i % 2) (K x)

/-- The pieces of a draining between the passes: from the third on, while there are any. -/
def between (piece : ℕ → (Mxu F → (Prog (TpuEff nD τ sig (Elt F) Λ .tc) PUnit.{1})) → Mxu F → (Prog (TpuEff nD τ sig (Elt F) Λ .tc) PUnit.{1})) (j : ℕ) (K : Mxu F → (Prog (TpuEff nD τ sig (Elt F) Λ .tc) PUnit.{1})) (x : Mxu F) : (Prog (TpuEff nD τ sig (Elt F) Λ .tc) PUnit.{1}) :=
  if 2 ≤ j ∧ j < 8 then piece (j - 2) K x else K x

def noNorm (_ : ℕ) (K : (Prog (TpuEff nD τ sig (Elt F) Λ .tc) PUnit.{1})) : (Prog (TpuEff nD τ sig (Elt F) Λ .tc) PUnit.{1}) := K
def noPiece (_ : ℕ) (K : Mxu F → (Prog (TpuEff nD τ sig (Elt F) Λ .tc) PUnit.{1})) (x : Mxu F) : (Prog (TpuEff nD τ sig (Elt F) Λ .tc) PUnit.{1}) := K x

/-! ## The whole body -/

/-- One round: the second half of slab `o`, the first of the next, and slab `o` off. -/
def round (o : ℕ) (K : Mxu F → (Prog (TpuEff nD τ sig (Elt F) Λ .tc) PUnit.{1})) (x : Mxu F) : (Prog (TpuEff nD τ sig (Elt F) Λ .tc) PUnit.{1}) :=
  multiply R L noNorm (between (drain R (finRot R L) o 0)) (2 * o + 1) 1
    (multiply R L noNorm (between (drain R (finRot R L) o 1)) (2 * o + 2) 0
      fun x => if o < 4 then startQ R o (K x) else startK R (K x)) x

/-- All up to the rounds. -/
def head (K : Mxu F → (Prog (TpuEff nD τ sig (Elt F) Λ .tc) PUnit.{1})) : (Prog (TpuEff nD τ sig (Elt F) Λ .tc) PUnit.{1}) :=
  startNw R <| startPos R <| rep (startX R) 4 0 <| rep (fun s K => startWs R s (startWp R s K)) 12 0 <|
  waitPos R <| angles R 0 <| angles R 1 <| waitNw R <| rep (wtile R L) 32 0 <|
  iter (xchunk R L) 4 0 (fun sq => multiply R L (normalise R (invRms sq.1) (invRms sq.2)) noPiece 0 0 K Mxu.init)
    (broadcast T64x128 (Scalar.ofBits .f32 0x00000000#32), broadcast T64x128 (Scalar.ofBits .f32 0x00000000#32))

/-- All after the rounds. -/
def tail (x : Mxu F) : (Prog (TpuEff nD τ sig (Elt F) Λ .tc) PUnit.{1}) :=
  multiply R L noNorm (between (drain R (finFlat R L) 5 0)) 11 1
    (iter (drain R (finFlat R L) 5 1) 6 0 fun x =>
      startV R <| rep (waitQ R) 4 0 <| waitK R <| waitV R <| .op (.assume x.Drained) fun _ => .ret ⟨⟩) x

/-- The body. -/
def main : (Prog (TpuEff nD τ sig (Elt F) Λ .tc) PUnit.{1}) := head R L (iter (round R L) 5 0 (tail R L))

end Cert.Proof.Body
-- ==== Proof.BodyK.lean ====
/-
  The body of `Kernel` is the body written as loops (Struct), with this program's own parts.
-/
module

public import proofs.«01_k».proof.Kernel
public import proofs.«01_k».proof.Proof.Gen.Kernel.Skeleton
public import Idealize.ShloMosaic.Lib.Exec
public import Idealize.ShloMosaic.Lib.Tactic
public import proofs.«01_k».proof.Proof.Struct

@[expose] public section

noncomputable section

namespace Cert.Proof.KernelBody

open Idealize.ShloMosaic Idealize.SL.Sem
open Cert.Kernel Cert.Proof.Body
open Facts₀ Facts

variable {F : FTy → Type} [BitOps F]
variable [Facts]

theorem scaleStInb (p m q : ℕ) : ∀ a, S1x1x64x128.size a = 0 ∨
    (![p % 2, m % 2, q % 2, 0] : Fin 4 → ℕ) a + (![1, 1, 2, 1] : Fin 4 → ℕ) a * (S1x1x64x128.size a - 1)
      < S2x2x128x128.size a := by
  have : ∀ p m q : Fin 2, ∀ a, S1x1x64x128.size a = 0 ∨
    (![p.val, m.val, q.val, 0] : Fin 4 → ℕ) a + (![1, 1, 2, 1] : Fin 4 → ℕ) a * (S1x1x64x128.size a - 1)
      < S2x2x128x128.size a := by decide
  exact this ⟨p % 2, mod_lt' _ (by decide)⟩ ⟨m % 2, mod_lt' _ (by decide)⟩ ⟨q % 2, mod_lt' _ (by decide)⟩

theorem scaleLdInb (p m : ℕ) : ∀ a, (![p % 2, m % 2, 0, 0] : Fin 4 → ℕ) a + S1x1x128x128.size a
    ≤ S2x2x128x128.size a := by
  have : ∀ p m : Fin 2, ∀ a, (![p.val, m.val, 0, 0] : Fin 4 → ℕ) a + S1x1x128x128.size a
    ≤ S2x2x128x128.size a := by decide
  exact this ⟨p % 2, mod_lt' _ (by decide)⟩ ⟨m % 2, mod_lt' _ (by decide)⟩

theorem turnStInb (m q : ℕ) : ∀ a, S1x64x128.size a = 0 ∨
    (![m % 2, q % 2, 0] : Fin 3 → ℕ) a + (![1, 2, 1] : Fin 3 → ℕ) a * (S1x64x128.size a - 1)
      < S2x128x128.size a := by
  have : ∀ m q : Fin 2, ∀ a, S1x64x128.size a = 0 ∨
    (![m.val, q.val, 0] : Fin 3 → ℕ) a + (![1, 2, 1] : Fin 3 → ℕ) a * (S1x64x128.size a - 1)
      < S2x128x128.size a := by decide
  exact this ⟨m % 2, mod_lt' _ (by decide)⟩ ⟨q % 2, mod_lt' _ (by decide)⟩

theorem turnLdInb (m : ℕ) : ∀ a, (![m % 2, 0, 0] : Fin 3 → ℕ) a + S1x128x128.size a ≤ S2x128x128.size a := by
  have : ∀ m : Fin 2, ∀ a, (![m.val, 0, 0] : Fin 3 → ℕ) a + S1x128x128.size a ≤ S2x128x128.size a := by decide
  exact this ⟨m % 2, mod_lt' _ (by decide)⟩

/-- Every other row of the scales' buffer. -/
def scaleSt1 (b : Memref sig .tc .vmem S2x2x128x128 .i32) (p m q : ℕ) (w : IVec S64x128 32)
    (K : Prog (TpuEff nD τ sig (Elt F) Λ₀ .tc) PUnit.{1}) : Prog (TpuEff nD τ sig (Elt F) Λ₀ .tc) PUnit.{1} :=
  .op (.load b (⟨![p % 2, m % 2, q % 2, 0], S1x1x64x128.size, ![1, 1, 2, 1], scaleStInb p m q⟩ :
    LoadRect S2x2x128x128) (View.loadsAt_vmem (by decide : 0 < S1x1x64x128.numel))) fun _ =>
  .op (.store b ⟨(⟨![p % 2, m % 2, q % 2, 0], S1x1x64x128.size, ![1, 1, 2, 1], scaleStInb p m q⟩ :
    LoadRect S2x2x128x128), spos_1_1_2_1⟩ (shapeCast S1x1x64x128 w (by decide)) Finset.univ
    (View.stores_vmem_bits_univ (by decide : 0 < S1x1x64x128.numel) rfl) (.inl rfl)) fun _ => K

/-- Every other row of the turned rows' buffer. -/
def turnSt1 (b : Memref sig .tc .vmem S2x128x128 .i32) (m q : ℕ) (lo hi : FVec F S64x128 .f32)
    (K : Prog (TpuEff nD τ sig (Elt F) Λ₀ .tc) PUnit.{1}) : Prog (TpuEff nD τ sig (Elt F) Λ₀ .tc) PUnit.{1} :=
  .op (.load b (⟨![m % 2, q % 2, 0], S1x64x128.size, ![1, 2, 1], turnStInb m q⟩ :
    LoadRect S2x128x128) (View.loadsAt_vmem (by decide : 0 < S1x64x128.numel))) fun _ =>
  .op (.store b ⟨(⟨![m % 2, q % 2, 0], S1x64x128.size, ![1, 2, 1], turnStInb m q⟩ :
    LoadRect S2x128x128), spos_1_2_1⟩ (shapeCast S1x64x128 (packElementwise lo hi) (by decide)) Finset.univ
    (View.stores_vmem_bits_univ (by decide : 0 < S1x64x128.numel) rfl) (.inl rfl)) fun _ => K

/-- The words of two heads, each turned over, as the pair of heads of an output row. -/
def pairT (w : IVec S128x128 32) : FVec F S1x128x2x128 .bf16 :=
  bitcastToFloat .bf16 (bitcast S1x128x2x128 16 (shapeCast S1x128x1x128 (shapeCast S128x128
    (packElementwise
      (transpose S128x128 [1, 0] (bitcastToFloat .f32 (shli w (broadcast S128x128 16#32)) : FVec F S128x128 .f32) (by decide))
      (transpose S128x128 [1, 0] (bitcastToFloat .f32 (andi w (broadcast S128x128 (-65536#32))) : FVec F S128x128 .f32) (by decide)))
    (by decide)) (by decide)) (by decide))

/-- The words of a turned tile. -/
def wordsOf (v : FVec F T128x128 .bf16) : IVec S64x128 32 :=
  bitcast S64x128 32 (bitcastToInt (transpose S128x128 [1, 0] v (by decide))) (by decide)

section
variable (arg0 : Memref sig .tc .hbm S256x4096 .bf16) (harg0 : arg0.IsWhole) (arg1 : Memref sig .tc .hbm S32x128 .bf16) (harg1 : arg1.IsWhole) (arg2 : Memref sig .tc .hbm S2x128 .i32) (harg2 : arg2.IsWhole) (arg3 : Memref sig .tc .hbm S6144x4x128 .i32) (harg3 : arg3.IsWhole) (arg4 : Memref sig .tc .hbm S6144x128 .bf16) (harg4 : arg4.IsWhole) (arg5 : Memref sig .tc .hbm S256x32x128 .bf16) (harg5 : arg5.IsWhole) (arg6 : Memref sig .tc .hbm S256x8x128 .bf16) (harg6 : arg6.IsWhole) (arg7 : Memref sig .tc .hbm S256x8x128 .bf16) (harg7 : arg7.IsWhole) (arg8 : Memref sig .tc .vmem S256x4096 .bf16) (harg8 : arg8.IsWhole) (arg9 : Memref sig .tc .vmem S32x128 .bf16) (harg9 : arg9.IsWhole) (arg10 : Memref sig .tc .vmem S2x128 .i32) (harg10 : arg10.IsWhole) (arg11 : Memref sig .tc .vmem S6144x4x128 .i32) (harg11 : arg11.IsWhole) (arg12 : Memref sig .tc .vmem S6144x128 .bf16) (harg12 : arg12.IsWhole) (arg13 : Memref sig .tc .vmem S2x2176x128 .f32) (harg13 : arg13.IsWhole) (arg14 : Memref sig .tc .vmem S2x2176x128 .f32) (harg14 : arg14.IsWhole) (arg15 : Memref sig .tc .vmem S2176x128 .f32) (harg15 : arg15.IsWhole) (arg16 : Memref sig .tc .vmem S2176x128 .f32) (harg16 : arg16.IsWhole) (arg17 : Memref sig .tc .vmem S16x2x256x128 .bf16) (harg17 : arg17.IsWhole) (arg18 : Memref sig .tc .vmem S2x64x128 .f32) (harg18 : arg18.IsWhole) (arg19 : Memref sig .tc .vmem S2x64x128 .f32) (harg19 : arg19.IsWhole) (arg20 : Memref sig .tc .vmem S2x2x128x128 .i32) (harg20 : arg20.IsWhole) (arg21 : Memref sig .tc .vmem S2x2x256x128 .f32) (harg21 : arg21.IsWhole) (arg22 : Memref sig .tc .vmem S2x128x128 .i32) (harg22 : arg22.IsWhole) (arg23 : Memref sig .tc .vmem S6x256x8x128 .bf16) (harg23 : arg23.IsWhole) (arg24 : DmaSems sig S4) (arg25 : DmaSems sig S_) (arg26 : DmaSems sig S_) (arg27 : DmaSems sig S12) (arg28 : DmaSems sig S12) (arg29 : DmaSems sig S6)

/-- The parts of the body that this program says in its own way: word pairs are 32-bit words. -/
def leaves : Leaves F (Prog (TpuEff nD τ sig (Elt F) Λ₀ .tc) PUnit.{1}) where
  pl v := bitcastToFloat .f32 (shli (wordsOf v) (broadcast S64x128 16#32))
  ph v := bitcastToFloat .f32 (andi (wordsOf v) (broadcast S64x128 (-65536#32)))
  scaleSt p m a b K :=
    scaleSt1 arg20 p m 0 (ori (andi (bitcast S64x128 32 (bitcastToInt a) (by decide)) (broadcast S64x128 65535#32))
      (shli (bitcast S64x128 32 (bitcastToInt b) (by decide)) (broadcast S64x128 16#32))) <|
    scaleSt1 arg20 p m 1 (ori (shrui (bitcast S64x128 32 (bitcastToInt a) (by decide)) (broadcast S64x128 16#32))
      (andi (bitcast S64x128 32 (bitcastToInt b) (by decide)) (broadcast S64x128 (-65536#32)))) K
  scaleLd p m K := .op (.load arg20 (Rect.unit (s := S2x2x128x128) ![p % 2, m % 2, 0, 0] S1x1x128x128.size
    (scaleLdInb p m)).toLoadRect (View.loadsAt_vmem (by decide : 0 < S1x1x128x128.numel))) fun (v : Vec F S1x1x128x128 .i32) =>
      K (bitcastToFloat .bf16 (bitcast S256x128 16 (shapeCast S128x128 v (by decide) : IVec S128x128 32) (by decide)))
  turn m e0 e1 o0 o1 K :=
    turnSt1 arg22 m 0 e0 e1 <| turnSt1 arg22 m 1 o0 o1 <|
    .op (.load arg22 (Rect.unit (s := S2x128x128) ![m % 2, 0, 0] S1x128x128.size (turnLdInb m)).toLoadRect
      (View.loadsAt_vmem (by decide : 0 < S1x128x128.numel))) fun (v : Vec F S1x128x128 .i32) =>
        K (pairT (shapeCast S128x128 v (by decide)))
  flat y := pairT (bitcast S128x128 32 (bitcastToInt (truncf .bf16 y (by decide) : FVec F S256x128 .bf16)) (by decide))

/-- The buffers of this program. -/
def refs : Refs sig := ⟨arg0, harg0, arg1, harg1, arg2, harg2, arg3, harg3, arg4, harg4, arg5, harg5, arg6, harg6, arg7, harg7, arg8, harg8, arg9, harg9, arg10, harg10, arg11, harg11, arg12, harg12, arg13, arg14, arg15, arg16, arg17, harg17, arg18, arg19, arg21, arg23, harg23, arg24, arg25, arg26, arg27, arg28, arg29⟩

theorem body_eq : cc0_rmsnorm_int4_qkv_rope (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 arg28 arg29 =
    main (refs arg0 harg0 arg1 harg1 arg2 harg2 arg3 harg3 arg4 harg4 arg5 harg5 arg6 harg6 arg7 harg7 arg8 harg8 arg9 harg9 arg10 harg10 arg11 harg11 arg12 harg12 arg13 arg14 arg15 arg16 arg17 harg17 arg18 arg19 arg21 arg23 harg23 arg24 arg25 arg26 arg27 arg28 arg29) (leaves arg20 arg22) := by
  unfold cc0_rmsnorm_int4_qkv_rope k0_part491 k0_part446
  simp -iota -proj only [Scf.Loop.for, Scf.for_eq]
  sl_kernel_rfl

end

end Cert.Proof.KernelBody
-- ==== Proof.Logic.lean ====
/-
  A small logic for one core's program: which elements are in flight, on which semaphore (`Safe`), and what the
  buffers hold (`Con`), each a statement without resources; together they give the program's triple (`sound`).
-/
module

public import Idealize.ShloMosaic.Lib.Exec

@[expose] public section

noncomputable section

namespace Cert.Proof.Logic

open Idealize.ShloMosaic
open Idealize.SL
open Idealize.SL.RA Idealize.SL.Sem Idealize.SL.ProofMode
open Idealize.SL.BI (sProp bigSep)
open scoped Idealize.SL.BI
open Idealize.SL.BI.BIBase Idealize.SL.BI.Laws

section
variable {nD : Nat} {τ : Topo} {sig : RefSig} {Val : EltTy → Type} {Λ : Labels} {α : Type}

/-- What the buffers of device `d` hold, as its core names them. -/
abbrev Conts (τ : Topo) (sig : RefSig) (Val : EltTy → Type) (d : Dev nD) : Type :=
  ∀ b : Ref sig .tc, Buf Val (Thread.loc (τ := τ) d.tc b)

/-- The semaphore each element is in flight on, if any, and the credit each semaphore waits for. -/
structure St (τ : Topo) (sig : RefSig) (d : Dev nD) where
  w : ∀ b : Ref sig .tc, Idx (Thread.loc (τ := τ) d.tc b) → Option (DmaSem sig)
  p : DmaSem sig → Option ℕ

/-- The elements of `b` in flight on `k` (`none`: at hand). -/
def St.at {d : Dev nD} (σ : St τ sig d) (b : Ref sig .tc) (k : Option (DmaSem sig)) :
    Finset (Idx (Thread.loc (τ := τ) d.tc b)) := Finset.univ.filter fun i => σ.w b i = k

variable (d : Dev nD) (B W : Finset (Ref sig .tc)) (T : Finset (DmaSem sig))

/-- A program that loads and stores only what is at hand, writes only buffers of `W`, starts copies only on idle semaphores and waits only for
    copies started; its checks hold. Ends in `Q`. -/
inductive Safe (Q : α → St τ sig d → Prop) :
    Prog (TpuEff nD τ sig Val Λ .tc) α → St τ sig d → Prop
  | ret (a : α) (σ : St τ sig d) : Q a σ → Safe Q (.ret a) σ
  | load {cs : CoreSpace} {s : Shape} {e : EltTy} (m : Memref sig .tc cs s e) (r : LoadRect s) (h : m.view.LoadsAt r)
      (k : (r.shape.Idx → Val e) → Prog (TpuEff nD τ sig Val Λ .tc) α) (σ : St τ sig d) :
      m.view.ref ∈ B → m.view.setOn r.set ⊆ σ.at m.view.ref none → (∀ v, Safe Q (k v) σ) → Safe Q (.op (.load m r h) k) σ
  | store {cs : CoreSpace} {s : Shape} {e : EltTy} (m : Memref sig .tc cs s e) (r : Rect s) (v : r.shape.Idx → Val e)
      (M : Finset r.shape.Idx) (h : (m.access r).Stores M) (hm : M = Finset.univ ∨ ∀ a, r.stride a = 1)
      (k : PUnit → Prog (TpuEff nD τ sig Val Λ .tc) α) (σ : St τ sig d) :
      m.view.ref ∈ B → m.view.ref ∈ W → (m.access r).setOn M ⊆ σ.at m.view.ref none → Safe Q (k ⟨⟩) σ → Safe Q (.op (.store m r v M h hm) k) σ
  | assume (P : Prop) (dec : Decidable P) (k : PLift P → Prog (TpuEff nD τ sig Val Λ .tc) α) (σ : St τ sig d) (h : P) :
      Safe Q (k ⟨h⟩) σ → Safe Q (.op (.assume P dec) k) σ
  | start {sp sp' : Space} {s₀ : Shape} {e₀ : EltTy} {s : Shape} {e : EltTy} (src : Memref sig .tc sp s₀ e₀)
      (dst : Memref sig .tc sp' s e) (via : ReadAs Val s₀ e₀ s e) (sem : DmaSem sig)
      (hsrc : src.view.WordExact) (hdst : dst.view.WordExact)
      (hsem : DmaTarget.Typed (nD := nD) (τ := τ) (p := .tc) sp (.dma sem) (.here dst))
      (k : PUnit → Prog (TpuEff nD τ sig Val Λ .tc) α) (σ σ' : St τ sig d) :
      src.view.ref ∈ B → dst.view.ref ∈ B → dst.view.ref ∈ W → sem ∈ T → src.view.ref ≠ dst.view.ref →
      0 < s.numel → σ.p sem = none → (∀ b i, σ.w b i ≠ some sem) →
      src.view.set ⊆ σ.at src.view.ref none → dst.view.set ⊆ σ.at dst.view.ref none →
      src.view.set = σ'.at src.view.ref (some sem) → dst.view.set = σ'.at dst.view.ref (some sem) →
      (∀ b, b ≠ src.view.ref → b ≠ dst.view.ref → ∀ i, σ'.w b i ≠ some sem) →
      (∀ b i, σ'.w b i = some sem ∨ σ'.w b i = σ.w b i) →
      σ'.p sem = some dst.view.dmaCredit → (∀ t, t ≠ sem → σ'.p t = σ.p t) →
      Safe Q (k ⟨⟩) σ' → Safe Q (.op (.enqueueDmaAs src (.here dst) via (.dma sem) hsrc hdst hsem) k) σ
  | wait {κ : Kind} (sem : DmaSem sig) (b : Ref sig κ) (s : Shape) (e : EltTy) (hk : Proc.tc (τ := τ) = .tc ∨ b.HasMemref s e)
      (k : PUnit → Prog (TpuEff nD τ sig Val Λ .tc) α) (σ σ' : St τ sig d) :
      sem ∈ T → σ.p sem = some (b.dmaCredit s e) →
      (∀ b i, σ'.w b i = if σ.w b i = some sem then none else σ.w b i) →
      σ'.p sem = none → (∀ t, t ≠ sem → σ'.p t = σ.p t) →
      Safe Q (k ⟨⟩) σ' → Safe Q (.op (.waitDma sem b s e hk) k) σ

/-- What one effect makes of the contents: a copy is done when it is started. -/
def step : {β : Type} → TpuEff nD τ sig Val Λ .tc β → (β → Conts τ sig Val d → Prop) → Conts τ sig Val d → Prop
  | _, .load m r _, K, f => K (m.view.readAt Val r (f m.view.ref)) f
  | _, .store m r w M _ _, K, f =>
      K ⟨⟩ (Function.update f m.view.ref ((m.access r).write Val (f m.view.ref) w M))
  | _, .assume _ _, K, f => ∀ h, K h f
  | _, .enqueueDmaAs src (.here dst) via _ _ _ _, K, f =>
      K ⟨⟩ (Function.update f dst.view.ref (dst.view.write Val (f dst.view.ref) (via.apply (src.view.read Val (f src.view.ref))) Finset.univ))
  | _, .waitDma _ _ _ _ _, K, f => K ⟨⟩ f
  | _, _, _, _ => True

/-- The program ends with contents in `Q`, if it ends. -/
def Con (Q : α → Conts τ sig Val d → Prop) :
    Prog (TpuEff nD τ sig Val Λ .tc) α → Conts τ sig Val d → Prop
  | .ret a, f => Q a f
  | .op e k, f => step d e (fun b f => Con Q (k b) f) f

end

section Sound
variable {nD : Nat} {τ : Topo} {sig : RefSig} {Ix : Type} [DecidableEq Ix]
variable {Val : EltTy → Type} {Name : Type} [DecidableEq Name]
variable {U : Type} [URA U] {Lvl : Type} [Preorder Lvl] {Λ : Labels}
local notation "𝕄" => MT nD τ sig Ix Val Name U Lvl
variable (EC : UEmb Counters (MT nD τ sig Ix Val Name U Lvl))
variable {defs : Defs nD τ sig Val Λ} (𝒱 : Variants) (d : Dev nD) (bd : Option 𝒱.V)
variable (B : Finset (Ref sig .tc)) (T : Finset (DmaSem sig)) (ι : Ix)

/-- The elements in flight on `k`, at their contents. -/
def cells (σ : St τ sig d) (f : Conts τ sig Val d) (k : Option (DmaSem sig)) : sProp (MT nD τ sig Ix Val Name U Lvl) :=
  bigSep B fun b => Thread.loc (τ := τ) d.tc b ↦[σ.at b k]{fullShare} f b

/-- One semaphore: idle, or holding what is in flight on it. -/
def sem1 (σ : St τ sig d) (f : Conts τ sig Val d) (s : DmaSem sig) : sProp (MT nD τ sig Ix Val Name U Lvl) :=
  match σ.p s with
  | none => semVal (Dev.tc (τ := τ) d, .dma s) 0
  | some N => Transfers.Flight EC d.tc (.dma s) ι N (cells d B σ f (some s))

def own (σ : St τ sig d) (f : Conts τ sig Val d) : sProp (MT nD τ sig Ix Val Name U Lvl) :=
  iprop(cells d B σ f none ∗ bigSep T (sem1 EC d B ι σ f) ∗ ∃ W, owes d.tc 0 W)

variable {d B T} {W : Finset (Ref sig .tc)}

theorem cells_congr {σ σ' : St τ sig d} {f f' : Conts τ sig Val d} {k k' : Option (DmaSem sig)}
    (h : ∀ b ∈ B, ∀ i, σ.w b i = k ↔ σ'.w b i = k') (hf : ∀ b ∈ B, ∀ i, σ.w b i = k → f b i = f' b i) :
    (cells d B σ f k : sProp 𝕄) = cells d B σ' f' k' := by
  refine BI.bigSep_congr fun b hb => ?_
  have hs : σ.at b k = σ'.at b k' := by
    ext i; simp only [St.at, Finset.mem_filter, Finset.mem_univ, true_and]; exact h b hb i
  rw [← hs]
  exact pointsTo_congr fun i hi => hf b hb i (by simpa [St.at] using hi)

/-- One buffer's elements out of the others'. -/
theorem cells_erase {σ : St τ sig d} {f : Conts τ sig Val d} {k : Option (DmaSem sig)} {b : Ref sig .tc} (hb : b ∈ B) :
    (cells d B σ f k : sProp 𝕄)
      = (iprop((Thread.loc (τ := τ) d.tc b ↦[σ.at b k]{fullShare} f b) ∗ cells d (B.erase b) σ f k) : sProp 𝕄) :=
  BI.bigSep_erase hb

/-- Elements newly in flight. -/
theorem cells_split {σ σ' : St τ sig d} {f : Conts τ sig Val d} {s : DmaSem sig}
    (h0 : ∀ b i, σ.w b i ≠ some s) (h1 : ∀ b i, σ'.w b i = some s → σ.w b i = none)
    (h2 : ∀ b i, σ'.w b i = some s ∨ σ'.w b i = σ.w b i) :
    (cells d B σ f none : sProp 𝕄) = iprop(cells d B σ' f none ∗ cells d B σ' f (some s)) := by
    refine Eq.trans ?_ (BI.bigSep_sep B _ _)
    refine BI.bigSep_congr fun b _ => ?_
    have hu : σ.at b none = σ'.at b none ∪ σ'.at b (some s) := by
      ext i
      simp only [St.at, Finset.mem_union, Finset.mem_filter, Finset.mem_univ, true_and]
      constructor
      · intro h
        rcases h2 b i with h' | h'
        · exact .inr h'
        · exact .inl (h'.trans h)
      · rintro (h | h)
        · rcases h2 b i with h' | h'
          · rw [h] at h'; cases h'
          · rw [← h', h]
        · exact h1 b i h
    have hd : Disjoint (σ'.at b none) (σ'.at b (some s)) := by
      rw [Finset.disjoint_left]
      intro i hi hj
      simp only [St.at, Finset.mem_filter, Finset.mem_univ, true_and] at hi hj
      rw [hi] at hj; cases hj
    rw [hu]
    have h := pointsTo_union (Ix := Ix) (Name := Name) (U := U) (Lvl := Lvl) (q := fullShare) (f := f b) hd
    exact BI.equiv_iff.mp ⟨h.1, h.2⟩

theorem sep_emp_eq (P : sProp 𝕄) : P = iprop(P ∗ emp) := by
  have h : P ⊣⊢ iprop(P ∗ emp) := ⟨sep_emp.2, sep_emp.1⟩
  exact BI.equiv_iff.mp ⟨h.1, h.2⟩

theorem sems_erase {Φ : DmaSem sig → sProp 𝕄} {s : DmaSem sig} (h : s ∈ T) :
    bigSep T Φ = iprop(Φ s ∗ bigSep (T.erase s) Φ) := BI.bigSep_erase h

/-- What a copy holds while in flight: its source and its destination. -/
theorem cells_flight {σ : St τ sig d} {f : Conts τ sig Val d} {s : Option (DmaSem sig)} {a b : Ref sig .tc}
    (ha : a ∈ B) (hb : b ∈ B) (hab : a ≠ b) (h : ∀ c, c ≠ a → c ≠ b → ∀ i, σ.w c i ≠ s) :
    (cells d B σ f s : sProp 𝕄)
      = iprop((Thread.loc (τ := τ) d.tc b ↦[σ.at b s]{fullShare} f b) ∗ (Thread.loc (τ := τ) d.tc a ↦[σ.at a s]{fullShare} f a)) := by
  rw [cells_erase hb, cells_erase (Finset.mem_erase.mpr ⟨hab, ha⟩)]
  have : (cells d ((B.erase b).erase a) σ f s : sProp 𝕄) = iprop(emp) := by
    refine Eq.trans (BI.bigSep_congr fun c hc => ?_) (BI.bigSep_emp_const ((B.erase b).erase a))
    simp only [Finset.mem_erase] at hc
    have : σ.at c s = ∅ := by
      ext i
      simp only [St.at, Finset.mem_filter, Finset.mem_univ, true_and, Finset.notMem_empty, iff_false]
      exact h c hc.1 hc.2.1 i
    rw [this]; exact pointsTo_empty
  rw [this]
  exact congrArg _ (sep_emp_eq _).symm

variable {ι}

/-- Contents matter only where something is in flight. -/
theorem sem1_congr {σ σ' : St τ sig d} {f f' : Conts τ sig Val d} {s : DmaSem sig} (hp : σ'.p s = σ.p s)
    (h : ∀ b ∈ B, ∀ i, σ.w b i = some s ↔ σ'.w b i = some s) (hf : ∀ b ∈ B, ∀ i, σ.w b i = some s → f b i = f' b i) :
    (sem1 EC d B ι σ f s : sProp 𝕄) = sem1 EC d B ι σ' f' s := by
  unfold sem1
  rw [hp, cells_congr h hf]

theorem sound [Infinite Name] [EC.LandsIn (upEmb : UEmb _ 𝕄)] {α : Type} {Q₁ : α → St τ sig d → Prop} {Q₂ : α → Conts τ sig Val d → Prop}
    {p : Prog (TpuEff nD τ sig Val Λ .tc) α} {σ : St τ sig d} (hs : Safe d B W T Q₁ p σ) :
    ∀ {f : Conts τ sig Val d}, Con d Q₂ p f →
      own EC d B T ι σ f ⊢ wp frame (wpE defs 𝒱 (Dev.tc (τ := τ) d) bd) Set.univ p
        (fun a => iprop(∃ σ' f', ⌜Q₁ a σ' ∧ Q₂ a f'⌝ ∗ own EC d B T ι σ' f')) := by
  induction hs with
  | ret a σ h =>
    intro f hc
    rw [wp_ret]
    iintro H
    imodintro
    iexists σ, f
    isplitr
    · ipureintro; exact ⟨h, hc⟩
    iexact H
  | load m r h k σ hb hr _ ih =>
    intro f hc
    have ih := ih (m.view.readAt Val r (f m.view.ref)) hc
    unfold own at ih ⊢
    rw [cells_erase hb] at ih ⊢
    iintro ⟨⟨Hm, Hc⟩, HT, HW⟩
    iapply (wp_load 𝒱 (Dev.tc (τ := τ) d) bd Set.univ hr) $$ Hm
    iintro Hm
    iapply ih
    isplitl [Hm Hc]
    · isplitl [Hm]; · iexact Hm
      iexact Hc
    isplitl [HT]; · iexact HT
    iexact HW
  | store m r v M h hm k σ hb _ hr _ ih =>
    intro f hc
    have ih := ih hc
    unfold own at ih ⊢
    rw [cells_erase hb] at ih ⊢
    iintro ⟨⟨Hm, Hc⟩, HT, HW⟩
    iapply (wp_store 𝒱 (Dev.tc (τ := τ) d) bd Set.univ hr) $$ Hm
    iintro Hm
    iapply ih
    isplitl [Hm Hc]
    · isplitl [Hm]
      · rw [Function.update_self]; iexact Hm
      have e : (cells d (B.erase m.view.ref) σ (Function.update f m.view.ref ((m.access r).write Val (f m.view.ref) v M)) none : sProp 𝕄)
          = cells d (B.erase m.view.ref) σ f none :=
        cells_congr (fun _ _ _ => Iff.rfl) fun b hb _ _ => by rw [Function.update_of_ne (Finset.mem_erase.mp hb).1]
      rw [e]
      iexact Hc
    isplitl [HT]
    · have e : (bigSep T (sem1 EC d B ι σ (Function.update f m.view.ref ((m.access r).write Val (f m.view.ref) v M))) : sProp 𝕄)
          = bigSep T (sem1 EC d B ι σ f) := BI.bigSep_congr fun s _ => sem1_congr EC rfl (fun _ _ _ => Iff.rfl) fun b _ i hi => ?_
      · rw [e]; iexact HT
      by_cases hbm : b = m.view.ref
      · subst hbm
        rw [Function.update_self]
        exact View.write_of_not_mem (v := m.access r) _ _ _ fun hc => by
          have := hr hc
          simp only [St.at, Finset.mem_filter, Finset.mem_univ, true_and] at this
          rw [hi] at this; cases this
      · rw [Function.update_of_ne hbm]
    iexact HW
  | assume P dec k σ h _ ih =>
    intro f hc
    iintro H
    iapply (wp_assume 𝒱 (Dev.tc (τ := τ) d) bd Set.univ h)
    iapply (ih (hc ⟨h⟩))
    iexact H
  | start src dst via sem hsrc hdst hsem k σ σ' hbs hbd _ ht hne hn hp hw hs hd hs' hd' ho hk hp' hp'' _ ih =>
    intro f hc
    have h1 : ∀ b i, σ'.w b i = some sem → σ.w b i = none := by
      intro b i hi
      by_cases h : b = src.view.ref
      · subst h
        have : i ∈ σ'.at src.view.ref (some sem) := by simp [St.at, hi]
        simpa [St.at] using hs (hs' ▸ this)
      by_cases h : b = dst.view.ref
      · subst h
        have : i ∈ σ'.at dst.view.ref (some sem) := by simp [St.at, hi]
        simpa [St.at] using hd (hd' ▸ this)
      exact absurd hi (ho b ‹_› h i)
    have ih := ih hc
    set f' := Function.update f dst.view.ref (dst.view.write Val (f dst.view.ref) (via.apply (src.view.read Val (f src.view.ref))) Finset.univ) with hf'
    have hoff : ∀ b i, σ'.w b i ≠ some sem → f' b i = f b i := by
      intro b i hi
      by_cases h : b = dst.view.ref
      · subst h
        rw [hf', Function.update_self]
        refine View.write_of_not_mem (v := dst.view) _ _ _ fun hc => hi ?_
        have : i ∈ dst.view.set := hc
        rw [hd'] at this
        simpa [St.at] using this
      · rw [hf', Function.update_of_ne h]
    have hw' : ∀ t, t ≠ sem → ∀ b i, σ.w b i = some t ↔ σ'.w b i = some t := by
      intro t ht b i
      constructor
      · intro h
        rcases hk b i with h' | h'
        · rw [h1 b i h'] at h; cases h
        · rw [h', h]
      · intro h
        rcases hk b i with h' | h'
        · rw [h'] at h; exact absurd (Option.some.inj h).symm ht
        · rw [← h', h]
    have hfl := cells_flight (Ix := Ix) (Name := Name) (U := U) (Lvl := Lvl) (σ := σ') (f := f) (s := some sem) hbs hbd hne ho
    have hfl' := cells_flight (Ix := Ix) (Name := Name) (U := U) (Lvl := Lvl) (σ := σ') (f := f') (s := some sem) hbs hbd hne ho
    rw [show f' src.view.ref = f src.view.ref from Function.update_of_ne hne _ _, ← hs', ← hd', hf', Function.update_self, ← hf'] at hfl'
    rw [← hs', ← hd'] at hfl
    unfold own at ih ⊢
    rw [cells_split hw h1 hk, hfl, sems_erase ht]
    rw [sems_erase ht] at ih
    have e1 : (sem1 EC d B ι σ f sem : sProp 𝕄) = semVal (Dev.tc (τ := τ) d, .dma sem) 0 := by unfold sem1; rw [hp]
    have e2 : (sem1 EC d B ι σ' f' sem : sProp 𝕄)
        = Transfers.Flight EC (Dev.tc (τ := τ) d) (.dma sem) ι dst.view.dmaCredit (cells d B σ' f' (some sem)) := by unfold sem1; rw [hp']
    rw [e2, hfl'] at ih
    rw [e1]
    have e3 : (cells d B σ' f' none : sProp 𝕄) = cells d B σ' f none :=
      cells_congr (fun _ _ _ => Iff.rfl) fun b _ i hi => hoff b i (by rw [hi]; exact fun h => nomatch h)
    have e4 : (bigSep (T.erase sem) (sem1 EC d B ι σ' f') : sProp 𝕄) = bigSep (T.erase sem) (sem1 EC d B ι σ f) :=
      BI.bigSep_congr fun t ht => (sem1_congr EC (hp'' t (Finset.mem_erase.mp ht).1).symm
        (fun b _ i => (hw' t (Finset.mem_erase.mp ht).1 b i).symm)
        (fun b _ i hi => hoff b i (fun h => (Finset.mem_erase.mp ht).1 (Option.some.inj (hi.symm.trans h)))))
    rw [e3, e4] at ih
    iintro ⟨⟨Hc, Hd, Hs⟩, ⟨Hv, HT⟩, HW⟩
    iapply (Transfers.wp_dmaLocal EC 𝒱 (Dev.tc (τ := τ) d) bd ι dst.view.dmaCredit rfl (View.dmaCredit_pos _ hn) (Finset.Subset.refl _)) $$ [Hs Hd Hv]
    · isplitl [Hs]; · iexact Hs
      isplitl [Hd]; · iexact Hd
      iexact Hv
    iintro Hf
    iapply ih
    isplitl [Hc]; · iexact Hc
    isplitl [Hf HT]
    · isplitl [Hf]; · iexact Hf
      iexact HT
    iexact HW
  | wait sem b s e hk k σ σ' ht hp hw hp' hp'' _ ih =>
    intro f hc
    have ih := ih hc
    have h0 : ∀ b i, σ'.w b i ≠ some sem := by
      intro b i h
      rw [hw] at h
      split at h
      · cases h
      · exact absurd h ‹_›
    have hn : ∀ t, t ≠ sem → ∀ b i, σ.w b i = some t ↔ σ'.w b i = some t := by
      intro t ht b i
      rw [hw]
      split
      · rename_i h; rw [h]; exact ⟨fun h => absurd (Option.some.inj h).symm ht, fun h => nomatch h⟩
      · rfl
    unfold own at ih ⊢
    rw [sems_erase ht] at ih ⊢
    have e1 : (sem1 EC d B ι σ' f sem : sProp 𝕄) = semVal (Dev.tc (τ := τ) d, .dma sem) 0 := by unfold sem1; rw [hp']
    have e2 : (sem1 EC d B ι σ f sem : sProp 𝕄)
        = Transfers.Flight EC (Dev.tc (τ := τ) d) (.dma sem) ι (b.dmaCredit s e) (cells d B σ f (some sem)) := by unfold sem1; rw [hp]
    have e3 : (cells d B σ' f none : sProp 𝕄) = iprop(cells d B σ f none ∗ cells d B σ f (some sem)) := by
      refine cells_split h0 (fun b i h => by rw [hw, if_pos h]) fun b i => ?_
      rw [hw]
      split
      · exact .inl ‹_›
      · exact .inr rfl
    have e4 : (bigSep (T.erase sem) (sem1 EC d B ι σ' f) : sProp 𝕄) = bigSep (T.erase sem) (sem1 EC d B ι σ f) :=
      BI.bigSep_congr fun t ht => (sem1_congr EC (hp'' t (Finset.mem_erase.mp ht).1).symm
        (fun b _ i => (hn t (Finset.mem_erase.mp ht).1 b i).symm) (fun _ _ _ _ => rfl))
    rw [e1, e3, e4] at ih
    rw [e2]
    iintro ⟨Hc, ⟨Hf, HT⟩, ⟨%W, HW⟩⟩
    iapply (Transfers.wp_waitLocalSized EC 𝒱 (Dev.tc (τ := τ) d) bd ι rfl) $$ [Hf HW]
    · isplitl [Hf]; · iexact Hf
      iexact HW
    iintro ⟨HD, Hv, HW⟩
    iapply ih
    isplitl [Hc HD]
    · isplitl [Hc]; · iexact Hc
      iexact HD
    isplitl [Hv HT]
    · isplitl [Hv]; · iexact Hv
      iexact HT
    iexists _; iexact HW

end Sound

end Cert.Proof.Logic
-- ==== Proof.Plan.lean ====
/-
  States of the copies in flight by name: each copy has a tag, its footprint and its semaphore; the state is the set
  of the tags in flight.
-/
module

public import proofs.«01_k».proof.Proof.Logic

@[expose] public section

noncomputable section

namespace Cert.Proof.Logic

open Idealize.ShloMosaic
open Idealize.SL.Sem
open scoped Classical

variable {nD : Nat} {τ : Topo} {sig : RefSig} {Val : EltTy → Type} {Λ : Labels} {α : Type}

/-- The elements of a view. -/
def Hit {sp : Space} {s : Shape} {e : EltTy} (d : Dev nD) (v : View sig .tc sp s e) (b : Ref sig .tc)
    (i : Idx (Thread.loc (τ := τ) d.tc b)) : Prop := ∃ h : b = v.ref, (h ▸ i : Idx (Thread.loc (τ := τ) d.tc v.ref)) ∈ v.set

theorem hit_self {sp : Space} {s : Shape} {e : EltTy} {d : Dev nD} {v : View sig .tc sp s e}
    {i : Idx (Thread.loc (τ := τ) d.tc v.ref)} : Hit (τ := τ) d v v.ref i ↔ i ∈ v.set :=
  ⟨fun ⟨_, h⟩ => h, fun h => ⟨rfl, h⟩⟩

/-- Names of copies, with where they read and write and the semaphore each is waited for on. -/
structure Plan (d : Dev nD) (Tag : Type) where
  sem : Tag → DmaSem sig
  inj : Function.Injective sem
  foot : Tag → (b : Ref sig .tc) → Idx (Thread.loc (τ := τ) d.tc b) → Prop
  disj : ∀ s t b i, foot s b i → foot t b i → s = t
  amt : Tag → ℕ

variable {d : Dev nD} {Tag : Type} (P : Plan (τ := τ) (sig := sig) d Tag)

/-- The copies of `A` are in flight. -/
def Plan.st (A : Set Tag) : St τ sig d where
  w b i := if h : ∃ t ∈ A, P.foot t b i then some (P.sem h.choose) else none
  p k := if h : ∃ t ∈ A, P.sem t = k then some (P.amt h.choose) else none

variable {P}

theorem Plan.w_some {A : Set Tag} {b : Ref sig .tc} {i : Idx (Thread.loc (τ := τ) d.tc b)} {t : Tag} :
    (P.st A).w b i = some (P.sem t) ↔ t ∈ A ∧ P.foot t b i := by
  unfold Plan.st
  dsimp only
  split
  · rename_i h
    constructor
    · intro e
      have := P.inj (Option.some.inj e)
      exact this ▸ h.choose_spec
    · rintro ⟨_, hf⟩
      rw [P.disj _ _ _ _ hf h.choose_spec.2]
  · rename_i h
    exact ⟨fun e => (nomatch e), fun e => absurd ⟨t, e⟩ h⟩

theorem Plan.w_none {A : Set Tag} {b : Ref sig .tc} {i : Idx (Thread.loc (τ := τ) d.tc b)} :
    (P.st A).w b i = none ↔ ∀ t ∈ A, ¬ P.foot t b i := by
  unfold Plan.st
  dsimp only
  split
  · rename_i h
    exact ⟨fun e => (nomatch e), fun e => absurd h.choose_spec.2 (e _ h.choose_spec.1)⟩
  · rename_i h
    exact ⟨fun _ t ht hf => h ⟨t, ht, hf⟩, fun _ => rfl⟩

theorem Plan.w_cases {A : Set Tag} (b : Ref sig .tc) (i : Idx (Thread.loc (τ := τ) d.tc b)) :
    (P.st A).w b i = none ∨ ∃ t, (P.st A).w b i = some (P.sem t) ∧ t ∈ A ∧ P.foot t b i := by
  by_cases h : ∃ t ∈ A, P.foot t b i
  · obtain ⟨t, ht⟩ := h
    exact .inr ⟨t, Plan.w_some.mpr ht, ht⟩
  · exact .inl (Plan.w_none.mpr fun t ht hf => h ⟨t, ht, hf⟩)

theorem Plan.p_some {A : Set Tag} {t : Tag} (h : t ∈ A) : (P.st A).p (P.sem t) = some (P.amt t) := by
  unfold Plan.st
  dsimp only
  have h' : ∃ u ∈ A, P.sem u = P.sem t := ⟨t, h, rfl⟩
  rw [dif_pos h', P.inj h'.choose_spec.2]

theorem Plan.p_none {A : Set Tag} {t : Tag} (h : t ∉ A) : (P.st A).p (P.sem t) = none := by
  unfold Plan.st
  dsimp only
  exact dif_neg fun ⟨u, hu, e⟩ => h (P.inj e ▸ hu)

theorem Plan.p_congr {A A' : Set Tag} {k : DmaSem sig} (h : ∀ t, P.sem t = k → (t ∈ A ↔ t ∈ A')) :
    (P.st A).p k = (P.st A').p k := by
  by_cases hk : ∃ t, P.sem t = k
  · obtain ⟨t, rfl⟩ := hk
    by_cases ht : t ∈ A
    · rw [Plan.p_some ht, Plan.p_some ((h t rfl).mp ht)]
    · rw [Plan.p_none ht, Plan.p_none fun h' => ht ((h t rfl).mpr h')]
  · unfold Plan.st
    dsimp only
    rw [dif_neg fun ⟨t, _, e⟩ => hk ⟨t, e⟩, dif_neg fun ⟨t, _, e⟩ => hk ⟨t, e⟩]

variable {B W : Finset (Ref sig .tc)} {T : Finset (DmaSem sig)} {Q : α → St τ sig d → Prop}

theorem Plan.load {A : Set Tag} {cs : CoreSpace} {s : Shape} {e : EltTy} {m : Memref sig .tc cs s e} {r : LoadRect s} {h : m.view.LoadsAt r}
    {k : (r.shape.Idx → Val e) → Prog (TpuEff nD τ sig Val Λ .tc) α} (hB : m.view.ref ∈ B)
    (hr : ∀ i ∈ m.view.setOn r.set, ∀ t ∈ A, ¬ P.foot t m.view.ref i) (hk : ∀ v, Safe d B W T Q (k v) (P.st A)) :
    Safe d B W T Q (.op (.load m r h) k) (P.st A) :=
  .load m r h k _ hB (fun i hi => by
    simp only [St.at, Finset.mem_filter, Finset.mem_univ, true_and]
    exact Plan.w_none.mpr (hr i hi)) hk

theorem Plan.store {A : Set Tag} {cs : CoreSpace} {s : Shape} {e : EltTy} {m : Memref sig .tc cs s e} {r : Rect s} {v : r.shape.Idx → Val e}
    {h : (m.access r).Stores Finset.univ} {hm : (Finset.univ : Finset r.shape.Idx) = Finset.univ ∨ ∀ a, r.stride a = 1}
    {k : PUnit → Prog (TpuEff nD τ sig Val Λ .tc) α} (hB : m.view.ref ∈ B ∧ m.view.ref ∈ W)
    (hr : ∀ i ∈ m.view.setOn r.set, ∀ t ∈ A, ¬ P.foot t m.view.ref i) (hk : Safe d B W T Q (k ⟨⟩) (P.st A)) :
    Safe d B W T Q (.op (.store m r v Finset.univ h hm) k) (P.st A) :=
  .store m r v _ h hm k _ hB.1 hB.2 (fun i hi => by
    simp only [St.at, Finset.mem_filter, Finset.mem_univ, true_and]
    refine Plan.w_none.mpr (hr i ?_)
    have e : (m.access r).setOn Finset.univ = m.view.setOn r.set := (View.setOn_univ _).trans (View.set_slice m.view r)
    exact e ▸ hi) hk

theorem Plan.assume {A : Set Tag} {C : Prop} {dec : Decidable C} {k : PLift C → Prog (TpuEff nD τ sig Val Λ .tc) α} (h : C)
    (hk : Safe d B W T Q (k ⟨h⟩) (P.st A)) : Safe d B W T Q (.op (.assume C dec) k) (P.st A) :=
  .assume C dec k _ h hk

theorem Plan.start {A : Set Tag} {sp sp' : Space} {s : Shape} {e : EltTy} (t : Tag) {src : Memref sig .tc sp s e}
    {dst : Memref sig .tc sp' s e} {sem : DmaSem sig}
    {hsrc : src.view.WordExact} {hdst : dst.view.WordExact}
    {hsem : DmaTarget.Typed (nD := nD) (τ := τ) (p := .tc) sp (.dma sem) (.here dst)}
    {k : PUnit → Prog (TpuEff nD τ sig Val Λ .tc) α} (hs : P.sem t = sem) (ht : t ∉ A)
    (hf : ∀ b i, P.foot t b i ↔ Hit (τ := τ) d src.view b i ∨ Hit (τ := τ) d dst.view b i)
    (ha : P.amt t = dst.view.dmaCredit)
    (hBs : src.view.ref ∈ B) (hBd : dst.view.ref ∈ B ∧ dst.view.ref ∈ W) (hT : sem ∈ T) (hne : src.view.ref ≠ dst.view.ref) (hn : 0 < s.numel)
    (hk : Safe d B W T Q (k ⟨⟩) (P.st (insert t A))) :
    Safe d B W T Q (.op (.enqueueDma src (.here dst) (.dma sem) hsrc hdst hsem) k) (P.st A) := by
  subst hs
  have hfree : ∀ b i, P.foot t b i → (P.st A).w b i = none := fun b i h =>
    Plan.w_none.mpr fun u hu hfu => ht (P.disj _ _ _ _ h hfu ▸ hu)
  have hset : ∀ {sp : Space} {s : Shape} {e : EltTy} (v : View sig .tc sp s e) (_ : ∀ i, P.foot t v.ref i ↔ Hit (τ := τ) d v v.ref i),
      v.set = (P.st (insert t A)).at v.ref (some (P.sem t)) := by
    intro sp s e v hv
    ext i
    simp only [St.at, Finset.mem_filter, Finset.mem_univ, true_and]
    refine Iff.trans ?_ Plan.w_some.symm
    rw [hv, hit_self]
    simp
  have hsf : ∀ i, P.foot t src.view.ref i ↔ Hit (τ := τ) d src.view src.view.ref i := fun i =>
    (hf _ i).trans ⟨fun h => h.elim id fun ⟨h, _⟩ => absurd h hne, .inl⟩
  have hdf : ∀ i, P.foot t dst.view.ref i ↔ Hit (τ := τ) d dst.view dst.view.ref i := fun i =>
    (hf _ i).trans ⟨fun h => h.elim (fun ⟨h, _⟩ => absurd h.symm hne) id, .inr⟩
  refine .start src dst .same (P.sem t) hsrc hdst hsem k _ (P.st (insert t A)) hBs hBd.1 hBd.2 hT hne hn (Plan.p_none ht) ?_ ?_ ?_
    (hset _ hsf) (hset _ hdf) ?_ ?_ ?_ ?_ hk
  · intro b i h
    exact ht (Plan.w_some.mp h).1
  · intro i hi
    simp only [St.at, Finset.mem_filter, Finset.mem_univ, true_and]
    exact hfree src.view.ref i ((hsf i).mpr (hit_self.mpr hi))
  · intro i hi
    simp only [St.at, Finset.mem_filter, Finset.mem_univ, true_and]
    exact hfree dst.view.ref i ((hdf i).mpr (hit_self.mpr hi))
  · intro b h1 h2 i h
    rcases (hf b i).mp (Plan.w_some.mp h).2 with ⟨h, _⟩ | ⟨h, _⟩
    · exact h1 h
    · exact h2 h
  · intro b i
    rcases Plan.w_cases (P := P) (A := insert t A) b i with h | ⟨u, h, hu, hfu⟩
    · right
      rw [h]
      exact (Plan.w_none.mpr fun u hu => Plan.w_none.mp h u (Set.mem_insert_of_mem _ hu)).symm
    · rcases hu with rfl | hu
      · exact .inl h
      · exact .inr (h.trans (Plan.w_some.mpr ⟨hu, hfu⟩).symm)
  · rw [Plan.p_some (Set.mem_insert t A), ha]
  · intro k hk
    refine Plan.p_congr fun u hu => ?_
    have : u ≠ t := fun h => hk (h ▸ hu).symm
    simp [this]

theorem Plan.wait {A : Set Tag} {κ : Kind} (t : Tag) {sem : DmaSem sig} {b : Ref sig κ} {s : Shape} {e : EltTy}
    {hk : Proc.tc (τ := τ) = .tc ∨ b.HasMemref s e}
    {k : PUnit → Prog (TpuEff nD τ sig Val Λ .tc) α} (hs : P.sem t = sem) (ht : t ∈ A) (ha : P.amt t = b.dmaCredit s e) (hT : sem ∈ T)
    (hk' : Safe d B W T Q (k ⟨⟩) (P.st (A \ {t}))) :
    Safe d B W T Q (.op (.waitDma sem b s e hk) k) (P.st A) := by
  subst hs
  refine .wait (P.sem t) b s e hk k _ (P.st (A \ {t})) hT (by rw [Plan.p_some ht, ha]) ?_ ?_ ?_ hk'
  · intro b i
    rcases Plan.w_cases (P := P) (A := A) b i with h | ⟨u, h, hu, hfu⟩
    · rw [h, if_neg (fun h => nomatch h)]
      exact Plan.w_none.mpr fun u hu => Plan.w_none.mp h u hu.1
    · by_cases hut : u = t
      · subst hut
        rw [if_pos h]
        exact Plan.w_none.mpr fun v hv hfv => hv.2 (P.disj _ _ _ _ hfv hfu)
      · rw [h, if_neg (fun e => hut (P.inj (Option.some.inj e)))]
        exact Plan.w_some.mpr ⟨⟨hu, hut⟩, hfu⟩
  · exact Plan.p_none fun h => h.2 rfl
  · intro k hk
    refine Plan.p_congr fun u hu => ?_
    have : u ≠ t := fun h => hk (h ▸ hu).symm
    simp [this]

end Cert.Proof.Logic
-- ==== Proof.Copies.lean ====
/-
  The copies the body makes, their footprints, and which rectangles lie in which footprint.
-/
module

public import proofs.«01_k».proof.Proof.Plan
public import proofs.«01_k».proof.Proof.Struct
public import Idealize.ShloMosaic.Lib.ValueLayout

@[expose] public section

noncomputable section

namespace Cert.Proof.Body

open Idealize.ShloMosaic
open Idealize.SL.Sem
open Cert.Proof.Logic

/-- The copies: the norm's weight, the positions, `x` by chunks, scales and codes by steps, the slabs out. -/
inductive Tag where
  | nw | pos
  | x (c : Fin 4) | ws (s : Fin 12) | wp (s : Fin 12) | o (o : Fin 6)
  deriving DecidableEq

variable {nD : Nat} {τ : Topo} {sig : RefSig} {Λ : Labels}

variable (R : Refs sig)

def semOf : Tag → DmaSem sig
  | .nw => R.s25.sem
  | .pos => R.s26.sem
  | .x c => xSem R c
  | .ws s => wsSem R s
  | .wp s => wpSem R s
  | .o o => oSem R o

variable (d : Dev nD)

def outHit (o : ℕ) (b : Ref sig .tc) (i : Idx (Thread.loc (τ := τ) d.tc b)) : Prop :=
  if o < 4 then Hit (τ := τ) d (qH R o).view b i
  else if o = 4 then Hit (τ := τ) d R.a6.view b i else Hit (τ := τ) d R.a7.view b i

def foot : Tag → (b : Ref sig .tc) → Idx (Thread.loc (τ := τ) d.tc b) → Prop
  | .nw, b, i => Hit (τ := τ) d R.a1.view b i ∨ Hit (τ := τ) d R.a9.view b i
  | .pos, b, i => Hit (τ := τ) d R.a2.view b i ∨ Hit (τ := τ) d R.a10.view b i
  | .x c, b, i => Hit (τ := τ) d (xH R c).view b i ∨ Hit (τ := τ) d (xV R c).view b i
  | .ws s, b, i => Hit (τ := τ) d (wsH R s).view b i ∨ Hit (τ := τ) d (wsV R s).view b i
  | .wp s, b, i => Hit (τ := τ) d (wpH R s).view b i ∨ Hit (τ := τ) d (wpV R s).view b i
  | .o o, b, i => Hit (τ := τ) d (slab R o).view b i ∨ outHit R d o b i

def amtOf : Tag → ℕ
  | .nw => R.a9.view.dmaCredit
  | .pos => R.a10.view.dmaCredit
  | .x c => (xV R c).view.dmaCredit
  | .ws s => (wsV R s).view.dmaCredit
  | .wp s => (wpV R s).view.dmaCredit
  | .o o => if o.val < 4 then (qH R o).view.dmaCredit else if o.val = 4 then R.a6.view.dmaCredit else R.a7.view.dmaCredit

/-- The buffers are distinct and tracked, and so are the semaphores. -/
structure Setup (R : Refs sig) (B : Finset (Ref sig .tc)) (T : Finset (DmaSem sig)) where
  n : Ref sig .tc → ℕ
  mem : ∀ b, n b < 24 → b ∈ B
  /-- The buffers written. -/
  W : Finset (Ref sig .tc)
  memW : ∀ b, 5 ≤ n b ∧ n b < 24 → b ∈ B ∧ b ∈ W
  n0 : n R.a0.view.ref = 0
  n1 : n R.a1.view.ref = 1
  n2 : n R.a2.view.ref = 2
  n3 : n R.a3.view.ref = 3
  n4 : n R.a4.view.ref = 4
  n5 : n R.a5.view.ref = 5
  n6 : n R.a6.view.ref = 6
  n7 : n R.a7.view.ref = 7
  n8 : n R.a8.view.ref = 8
  n9 : n R.a9.view.ref = 9
  n10 : n R.a10.view.ref = 10
  n11 : n R.a11.view.ref = 11
  n12 : n R.a12.view.ref = 12
  n13 : n R.a13.view.ref = 13
  n14 : n R.a14.view.ref = 14
  n15 : n R.a15.view.ref = 15
  n16 : n R.a16.view.ref = 16
  n17 : n R.a17.view.ref = 17
  n18 : n R.a18.view.ref = 18
  n19 : n R.a19.view.ref = 19
  n21 : n R.a21.view.ref = 21
  n23 : n R.a23.view.ref = 23
  semInj : Function.Injective (semOf R)
  semMem : ∀ t, semOf R t ∈ T

section
variable {R} {d} {B : Finset (Ref sig .tc)} {T : Finset (DmaSem sig)}

theorem hit_n (S : Setup R B T) {sp : Space} {s : Shape} {e : EltTy} {v : View sig .tc sp s e} {b : Ref sig .tc}
    {i : Idx (Thread.loc (τ := τ) d.tc b)} (h : Hit (τ := τ) d v b i) : S.n b = S.n v.ref := by rw [h.1]

theorem hit_slice_n (S : Setup R B T) {sp : Space} {s : Shape} {e : EltTy} {v : View sig .tc sp s e} {r : Rect s} {b : Ref sig .tc}
    {i : Idx (Thread.loc (τ := τ) d.tc b)} {k : ℕ} (h : Hit (τ := τ) d (v.slice r) b i) (hk : S.n v.ref = k) : S.n b = k :=
  (hit_n S h).trans hk

theorem slab_ref (o : ℕ) : (slab R o).view.ref = R.a23.view.ref := rfl

theorem slab_n (S : Setup R B T) {o : ℕ} {b : Ref sig .tc} {i : Idx (Thread.loc (τ := τ) d.tc b)} (h : Hit (τ := τ) d (slab R o).view b i) :
    S.n b = 23 := (hit_n S h).trans ((congrArg S.n (slab_ref o)).trans S.n23)

theorem outHit_n (S : Setup R B T) {o : ℕ} {b : Ref sig .tc} {i : Idx (Thread.loc (τ := τ) d.tc b)} (h : outHit R d o b i) :
    S.n b = 5 ∨ S.n b = 6 ∨ S.n b = 7 := by
  unfold outHit at h
  split at h
  · exact .inl ((hit_n S h).trans S.n5)
  split at h
  · exact .inr (.inl ((hit_n S h).trans S.n6))
  · exact .inr (.inr ((hit_n S h).trans S.n7))

theorem foot_o_n (S : Setup R B T) {o : Fin 6} {b : Ref sig .tc} {i : Idx (Thread.loc (τ := τ) d.tc b)} (h : foot R d (.o o) b i) :
    S.n b = 23 ∨ S.n b = 5 ∨ S.n b = 6 ∨ S.n b = 7 := by
  unfold foot at h
  rcases h with h | h
  · exact .inl (slab_n S (o := o.val) h)
  · exact .inr (outHit_n S h)

/-- The buffers of a footprint. -/
theorem foot_n (S : Setup R B T) {t : Tag} {b : Ref sig .tc} {i : Idx (Thread.loc (τ := τ) d.tc b)} (h : foot R d t b i) :
    match t with
    | .nw => S.n b = 1 ∨ S.n b = 9
    | .pos => S.n b = 2 ∨ S.n b = 10
    | .x _ => S.n b = 0 ∨ S.n b = 8
    | .ws _ => S.n b = 4 ∨ S.n b = 12
    | .wp _ => S.n b = 3 ∨ S.n b = 11
    | .o _ => S.n b = 23 ∨ S.n b = 5 ∨ S.n b = 6 ∨ S.n b = 7 := by
  cases t <;> unfold foot at h
  · exact h.imp (fun h => (hit_n S h).trans S.n1) (fun h => (hit_n S h).trans S.n9)
  · exact h.imp (fun h => (hit_n S h).trans S.n2) (fun h => (hit_n S h).trans S.n10)
  · exact h.imp (fun h => hit_slice_n S h S.n0) (fun h => hit_slice_n S h S.n8)
  · exact h.imp (fun h => hit_slice_n S h S.n4) (fun h => hit_slice_n S h S.n12)
  · exact h.imp (fun h => hit_slice_n S h S.n3) (fun h => hit_slice_n S h S.n11)
  · exact foot_o_n S h

theorem hit_slices {sp : Space} {s : Shape} {e : EltTy} {v : View sig .tc sp s e} {r r' : Rect s} {b : Ref sig .tc}
    {i : Idx (Thread.loc (τ := τ) d.tc b)} (h1 : Hit (τ := τ) d (v.slice r) b i) (h2 : Hit (τ := τ) d (v.slice r') b i) :
    ∃ x, x ∈ r.set ∧ x ∈ r'.set := by
  obtain ⟨rfl, h1⟩ := h1
  obtain ⟨_, h2⟩ := h2
  have h1 : i ∈ (v.slice r).set := h1
  have h2 : i ∈ (v.slice r').set := h2
  rw [View.set_slice, Finset.mem_map] at h1 h2
  obtain ⟨x, hx, e⟩ := h1
  obtain ⟨y, hy, e'⟩ := h2
  exact ⟨x, hx, v.emb.injective (e.trans e'.symm) ▸ hy⟩

theorem hit_slab {o : ℕ} {b : Ref sig .tc} {i : Idx (Thread.loc (τ := τ) d.tc b)} :
    Hit (τ := τ) d (slab R o).view b i ↔
      Hit (τ := τ) d (R.a23.slice (Rect.unit (s := T6x256x8x128) ![o % 6, 0, 0, 0] T1x256x8x128.size (slabInb o)) (fun _ => rfl)).view b i := by
  have e : (slab R o).view.set = (R.a23.slice (Rect.unit (s := T6x256x8x128) ![o % 6, 0, 0, 0] T1x256x8x128.size (slabInb o)) (fun _ => rfl)).view.set :=
    View.set_reshape _ _
  constructor
  · rintro ⟨rfl, h⟩; exact ⟨rfl, e ▸ h⟩
  · rintro ⟨rfl, h⟩; exact ⟨rfl, e ▸ h⟩

theorem foot_disj (S : Setup R B T) (s t : Tag) (b : Ref sig .tc) (i : Idx (Thread.loc (τ := τ) d.tc b))
    (h : foot R d s b i) (h' : foot R d t b i) : s = t := by
  have hn := foot_n S h
  have hn' := foot_n S h'
  cases s <;> cases t <;> dsimp only at hn hn' <;> (try rfl) <;> (try (exfalso; omega))
  · rename_i c c'
    have : c.val % 4 = c'.val % 4 := by
      dsimp only [foot] at h h'
      rcases h with h | h <;> rcases h' with h' | h'
      · obtain ⟨x, h1, h2⟩ := hit_slices h h'
        have h1 := Rect.mem_set_unit.mp h1 1
        have h2 := Rect.mem_set_unit.mp h2 1
        simp at h1 h2; omega
      · have a := (hit_n S h).symm.trans (hit_n S h'); have b := S.n0; have c := S.n8; change S.n R.a0.view.ref = S.n R.a8.view.ref at a; omega
      · have a := (hit_n S h).symm.trans (hit_n S h'); have b := S.n0; have c := S.n8; change S.n R.a8.view.ref = S.n R.a0.view.ref at a; omega
      · obtain ⟨x, h1, h2⟩ := hit_slices h h'
        have h1 := Rect.mem_set_unit.mp h1 1
        have h2 := Rect.mem_set_unit.mp h2 1
        simp at h1 h2; omega
    rw [show c = c' from Fin.ext (by omega)]
  · rename_i c c'
    have : c.val % 12 = c'.val % 12 := by
      dsimp only [foot] at h h'
      rcases h with h | h <;> rcases h' with h' | h'
      · obtain ⟨x, h1, h2⟩ := hit_slices h h'
        have h1 := Rect.mem_set_unit.mp h1 0
        have h2 := Rect.mem_set_unit.mp h2 0
        simp at h1 h2; omega
      · have a := (hit_n S h).symm.trans (hit_n S h'); have b := S.n4; have c := S.n12; change S.n R.a4.view.ref = S.n R.a12.view.ref at a; omega
      · have a := (hit_n S h).symm.trans (hit_n S h'); have b := S.n4; have c := S.n12; change S.n R.a12.view.ref = S.n R.a4.view.ref at a; omega
      · obtain ⟨x, h1, h2⟩ := hit_slices h h'
        have h1 := Rect.mem_set_unit.mp h1 0
        have h2 := Rect.mem_set_unit.mp h2 0
        simp at h1 h2; omega
    rw [show c = c' from Fin.ext (by omega)]
  · rename_i c c'
    have : c.val % 12 = c'.val % 12 := by
      dsimp only [foot] at h h'
      rcases h with h | h <;> rcases h' with h' | h'
      · obtain ⟨x, h1, h2⟩ := hit_slices h h'
        have h1 := Rect.mem_set_unit.mp h1 0
        have h2 := Rect.mem_set_unit.mp h2 0
        simp at h1 h2; omega
      · have a := (hit_n S h).symm.trans (hit_n S h'); have b := S.n3; have c := S.n11; change S.n R.a3.view.ref = S.n R.a11.view.ref at a; omega
      · have a := (hit_n S h).symm.trans (hit_n S h'); have b := S.n3; have c := S.n11; change S.n R.a11.view.ref = S.n R.a3.view.ref at a; omega
      · obtain ⟨x, h1, h2⟩ := hit_slices h h'
        have h1 := Rect.mem_set_unit.mp h1 0
        have h2 := Rect.mem_set_unit.mp h2 0
        simp at h1 h2; omega
    rw [show c = c' from Fin.ext (by omega)]
  · rename_i c c'
    have hc := c.isLt
    have hc' := c'.isLt
    have hs : ∀ o : ℕ, Hit (τ := τ) d (slab R o).view b i → S.n b = 23 := fun o h => (hit_n S h).trans ((congrArg S.n (slab_ref _)).trans S.n23)
    have ho : ∀ o : ℕ, outHit R d o b i → (o < 4 ∧ S.n b = 5) ∨ (o = 4 ∧ S.n b = 6) ∨ (4 ≤ o ∧ o ≠ 4 ∧ S.n b = 7) := by
      intro o h
      unfold outHit at h
      split at h
      · exact .inl ⟨‹_›, (hit_n S h).trans S.n5⟩
      split at h
      · exact .inr (.inl ⟨‹_›, (hit_n S h).trans S.n6⟩)
      · exact .inr (.inr ⟨by omega, ‹_›, (hit_n S h).trans S.n7⟩)
    have : c.val = c'.val := by
      dsimp only [foot] at h h'
      rcases h with h | h <;> rcases h' with h' | h'
      · obtain ⟨x, h1, h2⟩ := hit_slices (hit_slab.mp h) (hit_slab.mp h')
        have h1 := Rect.mem_set_unit.mp h1 0
        have h2 := Rect.mem_set_unit.mp h2 0
        simp at h1 h2; omega
      · have := hs _ h; have := ho _ h'; omega
      · have := hs _ h'; have := ho _ h; omega
      · rcases ho _ h with h1 | h1 | h1 <;> rcases ho _ h' with h2 | h2 | h2 <;> try omega
        unfold outHit at h h'
        rw [if_pos h1.1] at h
        rw [if_pos h2.1] at h'
        obtain ⟨x, h3, h4⟩ := hit_slices h h'
        have h3 := Rect.mem_set_unit.mp h3 1
        have h4 := Rect.mem_set_unit.mp h4 1
        simp at h3 h4; omega
    rw [show c = c' from Fin.ext this]

/-- The copies as a plan. -/
def plan (S : Setup R B T) (d : Dev nD) : Plan (τ := τ) (sig := sig) d Tag where
  sem := semOf R
  inj := S.semInj
  foot := foot R d
  disj := foot_disj S
  amt := amtOf R

/-! ## Where the rectangles the body touches lie -/

/-- A rectangle none of the copies of `A` touches. -/
def Off (S : Setup R B T) (d : Dev nD) (A : Set Tag) {sp : Space} {s : Shape} {e : EltTy} (m : Memref sig .tc sp s e) (r : Finset s.Idx) : Prop :=
  ∀ i ∈ m.view.setOn r, ∀ t ∈ A, ¬ foot (τ := τ) R d t m.view.ref i

variable {S : Setup R B T} {A : Set Tag}

theorem off_free {sp : Space} {s : Shape} {e : EltTy} {m : Memref sig .tc sp s e} {r : Finset s.Idx}
    (h : 13 ≤ S.n m.view.ref ∧ S.n m.view.ref < 23) : Off (τ := τ) S d A m r := by
  intro i _ t _ hf
  have := foot_n S hf
  cases t <;> dsimp only at this <;> omega

theorem off_home {sp : Space} {s : Shape} {e : EltTy} {m : Memref sig .tc sp s e} {r : Finset s.Idx} (t : Tag) (ht : t ∉ A)
    (h : ∀ i ∈ m.view.setOn r, foot (τ := τ) R d t m.view.ref i) : Off (τ := τ) S d A m r :=
  fun i hi u hu hf => ht (foot_disj S _ _ _ _ (h i hi) hf ▸ hu)

/-- Inside a slice. -/
theorem hit_of_subset {sp : Space} {s : Shape} {e : EltTy} {m : Memref sig .tc sp s e} {r : Rect s} {h} {M : Finset s.Idx}
    (hs : M ⊆ r.set) : ∀ i ∈ m.view.setOn M, Hit (τ := τ) d (m.slice r h).view m.view.ref i := by
  intro i hi
  refine ⟨rfl, ?_⟩
  show i ∈ (m.view.slice r).set
  rw [View.set_slice]
  exact Finset.map_subset_map.mpr hs hi

theorem off_nw (ht : Tag.nw ∉ A) {r : Finset T32x128.Idx} : Off (τ := τ) S d A R.a9 r :=
  off_home .nw ht fun i hi => .inr ⟨rfl, Finset.map_subset_map.mpr (Finset.subset_univ _) hi⟩

theorem off_pos (ht : Tag.pos ∉ A) {r : Finset T2x128.Idx} : Off (τ := τ) S d A R.a10 r :=
  off_home .pos ht fun i hi => .inr ⟨rfl, Finset.map_subset_map.mpr (Finset.subset_univ _) hi⟩

theorem off_x (t bh c : ℕ) (hc : t % 32 / 8 = c % 4) (ht : Tag.x ⟨c % 4, mod_lt' _ (by decide)⟩ ∉ A) :
    Off (τ := τ) S d A R.a8 (Rect.unit (s := T256x4096) ![128 * (bh % 2), 128 * (t % 32)] T128x128.size (tileInb t bh)).toLoadRect.set := by
  refine off_home _ ht fun i hi => .inr (hit_of_subset ?_ i hi)
  intro x hx
  have h0 := Rect.mem_set_unit.mp hx 0
  have h1 := Rect.mem_set_unit.mp hx 1
  refine Rect.mem_set_unit.mpr fun a => ?_
  revert a
  rw [show (∀ a : Fin T256x4096.rank, _) ↔ _ from Fin.forall_fin_two]
  simp at h0 h1 ⊢
  omega

theorem off_ws (s m h : ℕ) (ht : Tag.ws ⟨s % 12, mod_lt' _ (by decide)⟩ ∉ A) :
    Off (τ := τ) S d A R.a12 (Rect.unit (s := T6144x128) ![512 * (s % 12) + 256 * (m % 2) + 128 * (h % 2), 0] T128x128.size
    (scaleInb s m h)).toLoadRect.set := by
  refine off_home _ ht fun i hi => .inr (hit_of_subset ?_ i hi)
  intro x hx
  have h0 := Rect.mem_set_unit.mp hx 0
  have h1 := Rect.mem_set_unit.mp hx 1
  refine Rect.mem_set_unit.mpr fun a => ?_
  revert a
  rw [show (∀ a : Fin T6144x128.rank, _) ↔ _ from Fin.forall_fin_two]
  simp at h0 h1 ⊢
  omega

theorem off_o (o bh c : ℕ) (ht : Tag.o ⟨o % 6, mod_lt' _ (by decide)⟩ ∉ A) :
    Off (τ := τ) S d A R.a23 (Rect.unit (s := T6x256x8x128) ![o % 6, 128 * (bh % 2), 2 * (c % 4), 0] T1x128x2x128.size
    (outInb o bh c)).toLoadRect.set := by
  refine off_home _ ht fun i hi => .inl (hit_slab.mpr (hit_of_subset ?_ i hi))
  intro x hx
  have h0 := Rect.mem_set_unit.mp hx 0
  have h1 := Rect.mem_set_unit.mp hx 1
  have h2 := Rect.mem_set_unit.mp hx 2
  have h3 := Rect.mem_set_unit.mp hx 3
  have l1 := (x 1).isLt
  have l2 := (x 2).isLt
  have l3 := (x 3).isLt
  refine Rect.mem_set_unit.mpr fun a => ?_
  change _ < 256 at l1
  change _ < 8 at l2
  change _ < 128 at l3
  match a with
  | 0 => simp at h0 ⊢; omega
  | 1 => simp at h0 ⊢; omega
  | 2 => simp at h0 ⊢; omega
  | 3 => simp at h0 ⊢; omega

/-- Row `4 a + b` of the codes read as rows is row `b` of head row `a`. -/
theorem words_idx (x : T24576x128.Idx) : Shape.reshapeEquiv resh.1 x
    = ValueIdx.ix3 (⟨(x 0).val / 4, by have := ValueIdx.idx2_lt0 x; omega⟩ : Fin 6144) (⟨(x 0).val % 4, by omega⟩ : Fin 4) (x 1 : Fin 128) := by
  refine Shape.reshapeEquiv_eq_of_rowMajor _ ?_
  refine (Shape.rowMajor_val_three _).trans (Eq.trans ?_ (Shape.rowMajor_val_two _).symm)
  show ((x 0).val / 4 * 4 + (x 0).val % 4) * 128 + (x 1).val = (x 0).val * 128 + (x 1).val
  omega

theorem off_wp (s m j h : ℕ) (ht : Tag.wp ⟨s % 12, mod_lt' _ (by decide)⟩ ∉ A) :
    Off (τ := τ) S d A (words R) (⟨![2048 * (s % 12) + 1024 * (m % 2) + 512 * (h % 2) + j % 16 / 4, 0], T128x128.size, ![4, 1],
    wordsInb s m j h⟩ : LoadRect T24576x128).set := by
  refine off_home _ ht fun i hi => .inr ?_
  obtain ⟨x, hx, rfl⟩ := Finset.mem_map.mp hi
  obtain ⟨a, ha, ea⟩ := (LoadRect.mem_set _).mp hx 0
  obtain ⟨b, hb, eb⟩ := (LoadRect.mem_set _).mp hx 1
  refine ⟨rfl, ?_⟩
  show R.a11.view.emb (Shape.reshapeEquiv resh.1 x) ∈ (R.a11.view.slice
    (Rect.unit (s := T6144x4x128) ![512 * (s % 12 % 12), 0, 0] T512x4x128.size (p512Inb (s % 12)))).set
  rw [View.set_slice]
  refine Finset.mem_map_of_mem _ ?_
  have ha : a < 128 := ha
  have hb : b < 128 := hb
  have ea : (x 0).val = 2048 * (s % 12) + 1024 * (m % 2) + 512 * (h % 2) + j % 16 / 4 + 4 * a := ea
  rw [words_idx x]
  refine Rect.mem_set_unit.mpr fun a => ?_
  match a with
  | 0 => simp [ValueIdx.ix3]; omega
  | 1 => simp [ValueIdx.ix3]; omega
  | 2 => simp [ValueIdx.ix3]; exact (x 1).isLt

end

end Cert.Proof.Body
-- ==== Proof.Safe.lean ====
/-
  The body touches only what is at hand: its steps one by one, then the whole.
-/
module

public import proofs.«01_k».proof.Proof.Copies
public import Idealize.ShloMosaic.Lib.Mxu.Lemmas

@[expose] public section

noncomputable section

namespace Cert.Proof.Body

open Idealize.ShloMosaic
open Idealize.SL.Sem
open Cert.Proof.Logic

/-- Which copies are in flight: each kind is started and waited for in order. -/
structure Fly where
  nw : Bool
  pos : Bool
  xl : ℕ
  xh : ℕ
  sl : ℕ
  sh : ℕ
  wl : ℕ
  wh : ℕ
  ol : ℕ
  oh : ℕ

def Fly.set (G : Fly) : Set Tag := fun t => match t with
  | .nw => G.nw = true
  | .pos => G.pos = true
  | .x c => G.xl ≤ c.val ∧ c.val < G.xh
  | .ws s => G.sl ≤ s.val ∧ s.val < G.sh
  | .wp s => G.wl ≤ s.val ∧ s.val < G.wh
  | .o o => G.ol ≤ o.val ∧ o.val < G.oh

theorem insert_eq {A A' : Set Tag} (t : Tag) (h : ∀ u, u ≠ t → (A' u ↔ A u)) (ht : A' t) : insert t A = A' := by
  ext u
  by_cases hu : u = t
  · subst hu; exact ⟨fun _ => ht, fun _ => Set.mem_insert _ _⟩
  · exact ⟨fun h' => (h u hu).mpr (h'.resolve_left hu), fun h' => .inr ((h u hu).mp h')⟩

theorem erase_eq {A A' : Set Tag} (t : Tag) (h : ∀ u, u ≠ t → (A' u ↔ A u)) (ht : ¬ A' t) : A \ {t} = A' := by
  ext u
  by_cases hu : u = t
  · subst hu; exact ⟨fun h' => absurd rfl h'.2, fun h' => absurd h' ht⟩
  · exact ⟨fun h' => (h u hu).mpr h'.1, fun h' => ⟨(h u hu).mp h', hu⟩⟩

variable {F : FTy → Type} [FloatOps F] {nD : Nat} {τ : Topo} {sig : RefSig} {Λ : Labels}
variable {R : Refs sig} {L : Leaves F (Prog (TpuEff nD τ sig (Elt F) Λ .tc) PUnit.{1})}
variable {K : Prog (TpuEff nD τ sig (Elt F) Λ .tc) PUnit.{1}}
variable {B : Finset (Ref sig .tc)} {T : Finset (DmaSem sig)} {S : Setup R B T} {d : Dev nD}

/-- Safe from the copies `G`, ending with none in flight. -/
def Ok (S : Setup R B T) (d : Dev nD) (G : Fly) (p : Prog (TpuEff nD τ sig (Elt F) Λ .tc) PUnit.{1}) : Prop :=
  Safe d B S.W T (fun _ σ => σ = (plan S d).st ∅) p ((plan S d).st G.set)

/-- The parts the two programs say differently touch nothing in flight. -/
structure LeafSafe (S : Setup R B T) (d : Dev nD) (L : Leaves F (Prog (TpuEff nD τ sig (Elt F) Λ .tc) PUnit.{1})) : Prop where
  scaleSt : ∀ p m a b K G, Ok S d G K → Ok S d G (L.scaleSt p m a b K)
  scaleLd : ∀ p m K G, (∀ v, Ok S d G (K v)) → Ok S d G (L.scaleLd p m K)
  turn : ∀ m e0 e1 o0 o1 K G, (∀ v, Ok S d G (K v)) → Ok S d G (L.turn m e0 e1 o0 o1 K)

theorem ok_load {G : Fly} {cs : CoreSpace} {s : Shape} {e : EltTy} {m : Memref sig .tc cs s e} {r : LoadRect s} {h : m.view.LoadsAt r}
    {k : (r.shape.Idx → Elt F e) → Prog (TpuEff nD τ sig (Elt F) Λ .tc) PUnit.{1}} (hB : S.n m.view.ref < 24)
    (hr : Off (τ := τ) S d G.set m r.set) (hk : ∀ v, Ok S d G (k v)) : Ok S d G (.op (.load m r h) k) :=
  Plan.load (P := plan S d) (S.mem _ hB) hr hk

theorem ok_store {G : Fly} {cs : CoreSpace} {s : Shape} {e : EltTy} {m : Memref sig .tc cs s e} {r : Rect s} {v : r.shape.Idx → Elt F e}
    {h : (m.access r).Stores Finset.univ} {hm : (Finset.univ : Finset r.shape.Idx) = Finset.univ ∨ ∀ a, r.stride a = 1}
    {k : PUnit → Prog (TpuEff nD τ sig (Elt F) Λ .tc) PUnit.{1}} (hB : 5 ≤ S.n m.view.ref ∧ S.n m.view.ref < 24)
    (hr : Off (τ := τ) S d G.set m r.set) (hk : Ok S d G (k ⟨⟩)) : Ok S d G (.op (.store m r v Finset.univ h hm) k) :=
  Plan.store (P := plan S d) (S.memW _ hB) hr hk

/-! ## Copies -/

theorem ok_startNw {G : Fly} (h : G.nw = false) (hk : Ok S d { G with nw := true } K) : Ok S d G (startNw (F := F) R K) := by
  refine Plan.start (P := plan S d) .nw rfl (fun h' => by have : G.nw = true := h'; rw [h] at this; cases this) (fun _ _ => Iff.rfl) rfl (S.mem _ (by rw [S.n1]; decide))
    (S.memW _ (by rw [S.n9]; decide)) (S.semMem .nw) (fun h => by have := congrArg S.n h; rw [S.n1, S.n9] at this; cases this) (by decide) ?_
  rw [insert_eq (A' := ({ G with nw := true } : Fly).set) .nw (fun u hu => by cases u <;> first | rfl | exact absurd rfl hu) rfl]
  exact hk

theorem ok_startPos {G : Fly} (h : G.pos = false) (hk : Ok S d { G with pos := true } K) : Ok S d G (startPos (F := F) R K) := by
  refine Plan.start (P := plan S d) .pos rfl (fun h' => by have : G.pos = true := h'; rw [h] at this; cases this) (fun _ _ => Iff.rfl) rfl (S.mem _ (by rw [S.n2]; decide))
    (S.memW _ (by rw [S.n10]; decide)) (S.semMem .pos) (fun h => by have := congrArg S.n h; rw [S.n2, S.n10] at this; cases this) (by decide) ?_
  rw [insert_eq (A' := ({ G with pos := true } : Fly).set) .pos (fun u hu => by cases u <;> first | rfl | exact absurd rfl hu) rfl]
  exact hk

theorem ok_startX {G : Fly} (c : ℕ) (hc : c < 4) (hl : G.xl ≤ c) (h : G.xh = c) (hk : Ok S d { G with xh := c + 1 } K) :
    Ok S d G (startX (F := F) R c K) := by
  refine Plan.start (P := plan S d) (.x ⟨c, hc⟩) rfl (fun h' => by have : G.xl ≤ c ∧ c < G.xh := h'; omega) (fun _ _ => Iff.rfl) rfl
    (S.mem _ (by show S.n R.a0.view.ref < 24; rw [S.n0]; decide)) (S.memW _ (by show 5 ≤ S.n R.a8.view.ref ∧ S.n R.a8.view.ref < 24; rw [S.n8]; decide)) (S.semMem (.x ⟨c, hc⟩))
    (fun h => by have : S.n R.a0.view.ref = S.n R.a8.view.ref := congrArg S.n h; rw [S.n0, S.n8] at this; cases this) (show 0 < Shape.numel T256x1024 by decide) ?_
  rw [insert_eq (A' := ({ G with xh := c + 1 } : Fly).set) (.x ⟨c, hc⟩) ?_ ?_]
  · exact hk
  · intro u hu
    cases u with
    | x c' =>
      have : c'.val ≠ c := fun e => hu (by congr 1; exact Fin.ext e)
      show (G.xl ≤ c'.val ∧ c'.val < c + 1) ↔ (G.xl ≤ c'.val ∧ c'.val < G.xh)
      omega
    | _ => rfl
  · exact ⟨hl, Nat.lt_succ_self c⟩

theorem ok_startWs {G : Fly} (c : ℕ) (hc : c < 12) (hl : G.sl ≤ c) (h : G.sh = c) (hk : Ok S d { G with sh := c + 1 } K) :
    Ok S d G (startWs (F := F) R c K) := by
  refine Plan.start (P := plan S d) (.ws ⟨c, hc⟩) rfl (fun h' => by have : G.sl ≤ c ∧ c < G.sh := h'; omega) (fun _ _ => Iff.rfl) rfl
    (S.mem _ (by show S.n R.a4.view.ref < 24; rw [S.n4]; decide)) (S.memW _ (by show 5 ≤ S.n R.a12.view.ref ∧ S.n R.a12.view.ref < 24; rw [S.n12]; decide)) (S.semMem (.ws ⟨c, hc⟩))
    (fun h => by have : S.n R.a4.view.ref = S.n R.a12.view.ref := congrArg S.n h; rw [S.n4, S.n12] at this; cases this) (show 0 < Shape.numel T512x128 by decide) ?_
  rw [insert_eq (A' := ({ G with sh := c + 1 } : Fly).set) (.ws ⟨c, hc⟩) ?_ ?_]
  · exact hk
  · intro u hu
    cases u with
    | ws c' =>
      have : c'.val ≠ c := fun e => hu (by congr 1; exact Fin.ext e)
      show (G.sl ≤ c'.val ∧ c'.val < c + 1) ↔ (G.sl ≤ c'.val ∧ c'.val < G.sh)
      omega
    | _ => rfl
  · exact ⟨hl, Nat.lt_succ_self c⟩

theorem ok_startWp {G : Fly} (c : ℕ) (hc : c < 12) (hl : G.wl ≤ c) (h : G.wh = c) (hk : Ok S d { G with wh := c + 1 } K) :
    Ok S d G (startWp (F := F) R c K) := by
  refine Plan.start (P := plan S d) (.wp ⟨c, hc⟩) rfl (fun h' => by have : G.wl ≤ c ∧ c < G.wh := h'; omega) (fun _ _ => Iff.rfl) rfl
    (S.mem _ (by show S.n R.a3.view.ref < 24; rw [S.n3]; decide)) (S.memW _ (by show 5 ≤ S.n R.a11.view.ref ∧ S.n R.a11.view.ref < 24; rw [S.n11]; decide)) (S.semMem (.wp ⟨c, hc⟩))
    (fun h => by have : S.n R.a3.view.ref = S.n R.a11.view.ref := congrArg S.n h; rw [S.n3, S.n11] at this; cases this) (show 0 < Shape.numel T512x4x128 by decide) ?_
  rw [insert_eq (A' := ({ G with wh := c + 1 } : Fly).set) (.wp ⟨c, hc⟩) ?_ ?_]
  · exact hk
  · intro u hu
    cases u with
    | wp c' =>
      have : c'.val ≠ c := fun e => hu (by congr 1; exact Fin.ext e)
      show (G.wl ≤ c'.val ∧ c'.val < c + 1) ↔ (G.wl ≤ c'.val ∧ c'.val < G.wh)
      omega
    | _ => rfl
  · exact ⟨hl, Nat.lt_succ_self c⟩

theorem insert_o {G : Fly} (c : ℕ) (hc : c < 6) (hl : G.ol ≤ c) (h : G.oh = c) :
    insert (Tag.o ⟨c, hc⟩) G.set = ({ G with oh := c + 1 } : Fly).set := by
  refine insert_eq _ ?_ ?_
  · intro u hu
    cases u with
    | o c' =>
      have : c'.val ≠ c := fun e => hu (by congr 1; exact Fin.ext e)
      show (G.ol ≤ c'.val ∧ c'.val < c + 1) ↔ (G.ol ≤ c'.val ∧ c'.val < G.oh)
      omega
    | _ => rfl
  · exact ⟨hl, Nat.lt_succ_self c⟩

theorem slab_mem (S : Setup R B T) (o : ℕ) : (slab R o).view.ref ∈ B := S.mem _ (by rw [slab_ref, S.n23]; decide)

theorem ok_startQ {G : Fly} (c : ℕ) (hc : c < 4) (hl : G.ol ≤ c) (h : G.oh = c) (hk : Ok S d { G with oh := c + 1 } K) :
    Ok S d G (startQ (F := F) R c K) := by
  refine Plan.start (P := plan S d) (.o ⟨c, by omega⟩) rfl (fun h' => by have : G.ol ≤ c ∧ c < G.oh := h'; omega)
    (fun b i => ?_) ?_ (slab_mem S c) (S.memW _ (by show 5 ≤ S.n R.a5.view.ref ∧ S.n R.a5.view.ref < 24; rw [S.n5]; decide)) (S.semMem (.o ⟨c, by omega⟩))
    (fun h => by have := congrArg S.n h; rw [slab_ref, S.n23] at this; have h5 : 23 = S.n R.a5.view.ref := this; rw [S.n5] at h5; cases h5) (by decide) ?_
  · show (Hit (τ := τ) d (slab R c).view b i ∨ if c < 4 then Hit (τ := τ) d (qH R c).view b i else _) ↔ _
    rw [if_pos hc]
  · exact if_pos hc
  rw [insert_o c _ hl h]
  exact hk

theorem ok_startK {G : Fly} (hl : G.ol ≤ 4) (h : G.oh = 4) (hk : Ok S d { G with oh := 5 } K) :
    Ok S d G (startK (F := F) R K) := by
  refine Plan.start (P := plan S d) (.o 4) rfl (fun h' => by have : G.ol ≤ 4 ∧ 4 < G.oh := h'; omega)
    (fun b i => Iff.rfl) rfl (slab_mem S 4) (S.memW _ (by show 5 ≤ S.n R.a6.view.ref ∧ S.n R.a6.view.ref < 24; rw [S.n6]; decide)) (S.semMem (.o 4))
    (fun h => by have := congrArg S.n h; rw [slab_ref, S.n23] at this; have h5 : 23 = S.n R.a6.view.ref := this; rw [S.n6] at h5; cases h5) (by decide) ?_
  rw [show (Tag.o 4) = Tag.o ⟨4, by decide⟩ from rfl, insert_o 4 _ hl h]
  exact hk

theorem ok_startV {G : Fly} (hl : G.ol ≤ 5) (h : G.oh = 5) (hk : Ok S d { G with oh := 6 } K) :
    Ok S d G (startV (F := F) R K) := by
  refine Plan.start (P := plan S d) (.o 5) rfl (fun h' => by have : G.ol ≤ 5 ∧ 5 < G.oh := h'; omega)
    (fun b i => Iff.rfl) rfl (slab_mem S 5) (S.memW _ (by show 5 ≤ S.n R.a7.view.ref ∧ S.n R.a7.view.ref < 24; rw [S.n7]; decide)) (S.semMem (.o 5))
    (fun h => by have := congrArg S.n h; rw [slab_ref, S.n23] at this; have h5 : 23 = S.n R.a7.view.ref := this; rw [S.n7] at h5; cases h5) (by decide) ?_
  rw [show (Tag.o 5) = Tag.o ⟨5, by decide⟩ from rfl, insert_o 5 _ hl h]
  exact hk

theorem ok_waitNw {G : Fly} (h : G.nw = true) (hk : Ok S d { G with nw := false } K) : Ok S d G (waitNw (F := F) R K) := by
  refine Plan.wait (P := plan S d) .nw rfl h rfl (S.semMem .nw) ?_
  rw [erase_eq (A' := ({ G with nw := false } : Fly).set) .nw (fun u hu => by cases u <;> first | rfl | exact absurd rfl hu) (fun h => nomatch h)]
  exact hk

theorem ok_waitPos {G : Fly} (h : G.pos = true) (hk : Ok S d { G with pos := false } K) : Ok S d G (waitPos (F := F) R K) := by
  refine Plan.wait (P := plan S d) .pos rfl h rfl (S.semMem .pos) ?_
  rw [erase_eq (A' := ({ G with pos := false } : Fly).set) .pos (fun u hu => by cases u <;> first | rfl | exact absurd rfl hu) (fun h => nomatch h)]
  exact hk

theorem ok_waitX {G : Fly} (c : ℕ) (hc : c < 4) (hl : G.xl = c) (h : c < G.xh) (hk : Ok S d { G with xl := c + 1 } K) :
    Ok S d G (waitX (F := F) R c K) := by
  refine Plan.wait (P := plan S d) (.x ⟨c, hc⟩) rfl ⟨hl.le, h⟩ rfl (S.semMem (.x ⟨c, hc⟩)) ?_
  rw [erase_eq (A' := ({ G with xl := c + 1 } : Fly).set) (.x ⟨c, hc⟩) ?_ ?_]
  · exact hk
  · intro u hu
    cases u with
    | x c' =>
      have : c'.val ≠ c := fun e => hu (by congr 1; exact Fin.ext e)
      show (c + 1 ≤ c'.val ∧ c'.val < G.xh) ↔ (G.xl ≤ c'.val ∧ c'.val < G.xh)
      omega
    | _ => rfl
  · intro h; have : c + 1 ≤ c ∧ c < G.xh := h; omega

theorem ok_waitWs {G : Fly} (c : ℕ) (hc : c < 12) (hl : G.sl = c) (h : c < G.sh) (hk : Ok S d { G with sl := c + 1 } K) :
    Ok S d G (waitWs (F := F) R c K) := by
  refine Plan.wait (P := plan S d) (.ws ⟨c, hc⟩) rfl ⟨hl.le, h⟩ rfl (S.semMem (.ws ⟨c, hc⟩)) ?_
  rw [erase_eq (A' := ({ G with sl := c + 1 } : Fly).set) (.ws ⟨c, hc⟩) ?_ ?_]
  · exact hk
  · intro u hu
    cases u with
    | ws c' =>
      have : c'.val ≠ c := fun e => hu (by congr 1; exact Fin.ext e)
      show (c + 1 ≤ c'.val ∧ c'.val < G.sh) ↔ (G.sl ≤ c'.val ∧ c'.val < G.sh)
      omega
    | _ => rfl
  · intro h; have : c + 1 ≤ c ∧ c < G.sh := h; omega

theorem ok_waitWp {G : Fly} (c : ℕ) (hc : c < 12) (hl : G.wl = c) (h : c < G.wh) (hk : Ok S d { G with wl := c + 1 } K) :
    Ok S d G (waitWp (F := F) R c K) := by
  refine Plan.wait (P := plan S d) (.wp ⟨c, hc⟩) rfl ⟨hl.le, h⟩ rfl (S.semMem (.wp ⟨c, hc⟩)) ?_
  rw [erase_eq (A' := ({ G with wl := c + 1 } : Fly).set) (.wp ⟨c, hc⟩) ?_ ?_]
  · exact hk
  · intro u hu
    cases u with
    | wp c' =>
      have : c'.val ≠ c := fun e => hu (by congr 1; exact Fin.ext e)
      show (c + 1 ≤ c'.val ∧ c'.val < G.wh) ↔ (G.wl ≤ c'.val ∧ c'.val < G.wh)
      omega
    | _ => rfl
  · intro h; have : c + 1 ≤ c ∧ c < G.wh := h; omega

theorem erase_o {G : Fly} (c : ℕ) (hc : c < 6) (hl : G.ol = c) :
    G.set \ {Tag.o ⟨c, hc⟩} = ({ G with ol := c + 1 } : Fly).set := by
  refine erase_eq _ ?_ ?_
  · intro u hu
    cases u with
    | o c' =>
      have : c'.val ≠ c := fun e => hu (by congr 1; exact Fin.ext e)
      show (c + 1 ≤ c'.val ∧ c'.val < G.oh) ↔ (G.ol ≤ c'.val ∧ c'.val < G.oh)
      omega
    | _ => rfl
  · intro h; have : c + 1 ≤ c ∧ c < G.oh := h; omega

theorem ok_waitQ {G : Fly} (c : ℕ) (hc : c < 4) (hl : G.ol = c) (h : c < G.oh) (hk : Ok S d { G with ol := c + 1 } K) :
    Ok S d G (waitQ (F := F) R c K) := by
  refine Plan.wait (P := plan S d) (.o ⟨c, by omega⟩) rfl ⟨hl.le, h⟩ (if_pos hc) (S.semMem (.o ⟨c, by omega⟩)) ?_
  rw [erase_o c _ hl]
  exact hk

theorem ok_waitK {G : Fly} (hl : G.ol = 4) (h : 4 < G.oh) (hk : Ok S d { G with ol := 5 } K) :
    Ok S d G (waitK (F := F) R K) := by
  refine Plan.wait (P := plan S d) (.o ⟨4, by decide⟩) rfl ⟨hl.le, h⟩ rfl (S.semMem (.o 4)) ?_
  rw [erase_o 4 _ hl]
  exact hk

theorem ok_waitV {G : Fly} (hl : G.ol = 5) (h : 5 < G.oh) (hk : Ok S d { G with ol := 6 } K) :
    Ok S d G (waitV (F := F) R K) := by
  refine Plan.wait (P := plan S d) (.o ⟨5, by decide⟩) rfl ⟨hl.le, h⟩ rfl (S.semMem (.o 5)) ?_
  rw [erase_o 5 _ hl]
  exact hk

/-! ## Repeated steps -/

theorem iter_ok {β : Type} {step : ℕ → (β → Prog (TpuEff nD τ sig (Elt F) Λ .tc) PUnit.{1}) → β → Prog (TpuEff nD τ sig (Elt F) Λ .tc) PUnit.{1}}
    {K : β → Prog (TpuEff nD τ sig (Elt F) Λ .tc) PUnit.{1}} (Iv : ℕ → β → Prop) (Gf : ℕ → Fly) (n : ℕ) : ∀ c,
    (∀ i, c ≤ i → i < c + n → ∀ k, (∀ y, Iv (i + 1) y → Ok S d (Gf (i + 1)) (k y)) → ∀ x, Iv i x → Ok S d (Gf i) (step i k x)) →
    (∀ y, Iv (c + n) y → Ok S d (Gf (c + n)) (K y)) → ∀ x, Iv c x → Ok S d (Gf c) (iter step n c K x) := by
  induction n with
  | zero => exact fun c _ hK x hx => hK x hx
  | succ n ih =>
    intro c hs hK x hx
    rw [iter_succ]
    refine hs c le_rfl (by omega) _ (fun y hy => ih (c + 1) (fun i h1 h2 => hs i (by omega) (by omega)) ?_ y hy) x hx
    rw [show c + 1 + n = c + (n + 1) by omega]
    exact hK

theorem rep_ok {step : ℕ → Prog (TpuEff nD τ sig (Elt F) Λ .tc) PUnit.{1} → Prog (TpuEff nD τ sig (Elt F) Λ .tc) PUnit.{1}}
    (Gf : ℕ → Fly) (n : ℕ) : ∀ c,
    (∀ i, c ≤ i → i < c + n → ∀ k, Ok S d (Gf (i + 1)) k → Ok S d (Gf i) (step i k)) →
    Ok S d (Gf (c + n)) K → Ok S d (Gf c) (rep step n c K) := by
  induction n with
  | zero => exact fun c _ hK => hK
  | succ n ih =>
    intro c hs hK
    rw [rep_succ]
    refine hs c le_rfl (by omega) _ (ih (c + 1) (fun i h1 h2 => hs i (by omega) (by omega)) ?_)
    rw [show c + 1 + n = c + (n + 1) by omega]
    exact hK

/-! ## Before the passes -/

variable {G : Fly}

theorem ok_turnSt {m : Memref sig .tc .vmem T2x64x128 .f32} {bh : ℕ} {v} (hm : 13 ≤ S.n m.view.ref ∧ S.n m.view.ref < 23) (hk : Ok S d G K) :
    Ok S d G (turnSt (F := F) m bh v K) :=
  ok_load (by omega) (off_free hm) fun _ => ok_store (by omega) (off_free hm) hk

theorem ok_angles {bh : ℕ} (h : G.pos = false) (hk : Ok S d G K) : Ok S d G (angles (F := F) R bh K) :=
  ok_load (by rw [S.n10]; decide) (off_pos fun h' => by have : G.pos = true := h'; rw [h] at this; cases this) fun _ =>
    ok_turnSt (by rw [S.n18]; decide) <| ok_turnSt (by rw [S.n19]; decide) hk

theorem ok_half {m : Memref sig .tc .vmem T2176x128 .f32} {t h : ℕ} {v} (hm : 13 ≤ S.n m.view.ref ∧ S.n m.view.ref < 23) (hk : Ok S d G K) :
    Ok S d G (half (F := F) m t h v K) :=
  ok_load (by omega) (off_free hm) fun _ => ok_store (by omega) (off_free hm) hk

theorem ok_rows {m n : Memref sig .tc .vmem T2176x128 .f32} {t : ℕ} {lo hi} (hm : 13 ≤ S.n m.view.ref ∧ S.n m.view.ref < 23)
    (hn : 13 ≤ S.n n.view.ref ∧ S.n n.view.ref < 23) (hk : Ok S d G K) : Ok S d G (rows (F := F) m n t lo hi K) :=
  rep_ok (fun _ => G) 8 0 (fun _ _ _ _ hk => ok_half hm (ok_half hn hk)) hk

theorem ok_wtile {t : ℕ} (h : G.nw = false) (hk : Ok S d G K) : Ok S d G (wtile R L t K) :=
  ok_load (by rw [S.n9]; decide) (off_nw fun h' => by have : G.nw = true := h'; rw [h] at this; cases this) fun _ =>
    ok_rows (by rw [S.n15]; decide) (by rw [S.n16]; decide) hk

theorem ok_xtile {t bh : ℕ} {sq} {K : FVec F T64x128 .f32 → Prog (TpuEff nD τ sig (Elt F) Λ .tc) PUnit.{1}}
    (h : t % 32 / 8 < G.xl) (hk : ∀ v, Ok S d G (K v)) : Ok S d G (xtile R L t bh sq K) :=
  ok_load (by rw [S.n8]; decide) (off_x t bh (t % 32 / 8) (by omega) fun h' => by
      have : G.xl ≤ t % 32 / 8 % 4 ∧ t % 32 / 8 % 4 < G.xh := h'; omega) fun _ =>
    ok_rows (by show 13 ≤ S.n R.a13.view.ref ∧ S.n R.a13.view.ref < 23; rw [S.n13]; decide)
      (by show 13 ≤ S.n R.a14.view.ref ∧ S.n R.a14.view.ref < 23; rw [S.n14]; decide) (hk _)

theorem ok_xchunk {c : ℕ} {s} {K : FVec F T64x128 .f32 × FVec F T64x128 .f32 → Prog (TpuEff nD τ sig (Elt F) Λ .tc) PUnit.{1}}
    (hc : c < 4) (hl : G.xl = c) (hh : c < G.xh) (hk : ∀ v, Ok S d { G with xl := c + 1 } (K v)) : Ok S d G (xchunk R L c K s) :=
  ok_waitX c hc hl hh <| iter_ok (fun _ _ => True) (fun _ => { G with xl := c + 1 }) 8 0
    (fun i _ hi _ hk _ _ => ok_xtile (show (8 * c + i) % 32 / 8 < c + 1 by omega) fun _ =>
      ok_xtile (show (8 * c + i) % 32 / 8 < c + 1 by omega) fun _ => hk _ trivial) (fun _ _ => hk _) _ trivial

/-! ## Passes -/

theorem ok_norm1 {r} {x : Memref sig .tc .vmem T2x2176x128 .f32} {w : Memref sig .tc .vmem T2176x128 .f32} {j bh hf : ℕ}
    (hx : 13 ≤ S.n x.view.ref ∧ S.n x.view.ref < 23) (hw : 13 ≤ S.n w.view.ref ∧ S.n w.view.ref < 23) (hk : Ok S d G K) :
    Ok S d G (norm1 (F := F) R r x w j bh hf K) :=
  ok_load (by omega) (off_free hx) fun _ => ok_load (by omega) (off_free hw) fun _ =>
    ok_load (by rw [S.n17]; decide) (off_free (by rw [S.n17]; decide)) fun _ =>
    ok_store (by rw [S.n17]; decide) (off_free (by rw [S.n17]; decide)) hk

theorem ok_normalise {r0 r1} {j : ℕ} (hk : Ok S d G K) : Ok S d G (normalise (F := F) R r0 r1 j K) := by
  have hx : 13 ≤ S.n (pick j R.a13 R.a14).view.ref ∧ S.n (pick j R.a13 R.a14).view.ref < 23 := by
    unfold pick; split
    · rw [S.n13]; decide
    · rw [S.n14]; decide
  have hw : 13 ≤ S.n (pick j R.a15 R.a16).view.ref ∧ S.n (pick j R.a15 R.a16).view.ref < 23 := by
    unfold pick; split
    · rw [S.n15]; decide
    · rw [S.n16]; decide
  exact ok_norm1 hx hw <| ok_norm1 hx hw <| ok_norm1 hx hw <| ok_norm1 hx hw hk

theorem ok_ldRhs {j : ℕ} {K : FVec F T256x256 .bf16 → Prog (TpuEff nD τ sig (Elt F) Λ .tc) PUnit.{1}} (hk : ∀ v, Ok S d G (K v)) :
    Ok S d G (ldRhs R j K) :=
  ok_load (by rw [S.n17]; decide) (off_free (by rw [S.n17]; decide)) fun _ =>
    ok_load (by rw [S.n17]; decide) (off_free (by rw [S.n17]; decide)) fun _ => hk _

theorem ok_ldWords {s m j h : ℕ} {K : IVec T128x128 32 → Prog (TpuEff nD τ sig (Elt F) Λ .tc) PUnit.{1}} (hs : s < 12) (hl : s < G.wl)
    (hk : ∀ v, Ok S d G (K v)) : Ok S d G (ldWords R s m j h K) :=
  ok_load (by show S.n R.a11.view.ref < 24; rw [S.n11]; decide) (off_wp s m j h fun h' => by
    have : G.wl ≤ s % 12 ∧ s % 12 < G.wh := h'; omega) fun _ => hk _

theorem ok_ldScale {s m h : ℕ} {K : FVec F T128x128 .bf16 → Prog (TpuEff nD τ sig (Elt F) Λ .tc) PUnit.{1}} (hs : s < 12) (hl : s < G.sl)
    (hk : ∀ v, Ok S d G (K v)) : Ok S d G (ldScale R s m h K) :=
  ok_load (by rw [S.n12]; decide) (off_ws s m h fun h' => by
    have : G.sl ≤ s % 12 ∧ s % 12 < G.sh := h'; omega) fun _ => hk _

theorem ok_pairScales (hL : LeafSafe S d L) {s p m : ℕ} (hs : s < 12) (hl : s < G.sl) (hk : Ok S d G K) : Ok S d G (pairScales R L s p m K) :=
  ok_ldScale hs hl fun _ => ok_ldScale hs hl fun _ => hL.scaleSt _ _ _ _ _ _ hk

/-- No tile staged, and only the accumulators `D` live. -/
def Inv (D : Fin 2 → ℕ → Prop) (x : Mxu F) : Prop :=
  (∀ q r, x.reg q r = none) ∧ ∀ q r, x.live q r = true → D q (r.val / 256)

theorem Inv.mono {D D' : Fin 2 → ℕ → Prop} {x : Mxu F} (h : Inv D x) (hD : ∀ q P, P < 4 → D q P → D' q P) : Inv D' x :=
  ⟨h.1, fun q r hr => hD _ _ (by have := r.isLt; omega) (h.2 q r hr)⟩

theorem ok_pass (hL : LeafSafe S d L) {s p j m : ℕ} {rhs} {x : Mxu F} {K : Mxu F → Prog (TpuEff nD τ sig (Elt F) Λ .tc) PUnit.{1}}
    {D : Fin 2 → ℕ → Prop} (hs : s < 12) (hl : s < G.wl) (hD : D (unitOf m) (p % 2)) (hx : Inv D x) (hk : ∀ x, Inv D x → Ok S d G (K x)) :
    Ok S d G (pass R L s p j m rhs K x) := by
  refine Plan.assume (P := plan S d) (Mxu.pushOk_of_none x _ _ _ (hx.1 _ _)) ?_
  refine ok_ldWords hs hl fun a => ok_ldWords hs hl fun b => hL.scaleLd _ _ _ _ fun sc => hk _ ⟨fun q r => ?_, fun q r hr => ?_⟩
  · by_cases hq : q = unitOf m ∧ r = unitOf j
    · obtain ⟨rfl, rfl⟩ := hq
      exact Mxu.reg_accLhs ..
    · rw [Mxu.reg_accLhs_ne (hne := hq), Mxu.reg_pushed_ne (hne := hq)]
      exact hx.1 _ _
  · rw [Mxu.live_accLhs] at hr
    split at hr
    · next h =>
      obtain ⟨rfl, h1, h2⟩ := h
      rwa [show r.val / 256 = p % 2 by omega]
    · rw [Mxu.live_pushed] at hr
      exact hx.2 _ _ hr

variable {nrm : ℕ → Prog (TpuEff nD τ sig (Elt F) Λ .tc) PUnit.{1} → Prog (TpuEff nD τ sig (Elt F) Λ .tc) PUnit.{1}}
variable {piece : ℕ → (Mxu F → Prog (TpuEff nD τ sig (Elt F) Λ .tc) PUnit.{1}) → Mxu F → Prog (TpuEff nD τ sig (Elt F) Λ .tc) PUnit.{1}}

theorem ok_multiply (hL : LeafSafe S d L) {s p : ℕ} {x : Mxu F} {K : Mxu F → Prog (TpuEff nD τ sig (Elt F) Λ .tc) PUnit.{1}}
    (D : ℕ → Fin 2 → ℕ → Prop) (hs : s < 12) (hsl : G.sl = s) (hsh : s < G.sh) (hwl : G.wl = s) (hwh : s < G.wh)
    (hn : ∀ G : Fly, ∀ j K, Ok S d G K → Ok S d G (nrm j K))
    (hp : ∀ G' : Fly, G'.ol = G.ol → G'.oh = G.oh → ∀ j, j < 16 → ∀ K, (∀ x, Inv (D (j + 1)) x → Ok S d G' (K x)) → ∀ x, Inv (D j) x → Ok S d G' (piece j K x))
    (hD : ∀ j q, D j q (p % 2)) (hx : Inv (D 0) x)
    (hk : ∀ x, Inv (D 16) x → Ok S d { G with sl := s + 1, wl := s + 1 } (K x)) :
    Ok S d G (multiply R L nrm piece s p K x) := by
  refine ok_waitWs s hs hsl hsh <| ok_waitWp s hs hwl hwh <| ok_pairScales hL hs (Nat.lt_succ_self s) <|
    ok_pairScales hL hs (Nat.lt_succ_self s) ?_
  refine iter_ok (fun j x => Inv (D j) x) (fun _ => { G with sl := s + 1, wl := s + 1 }) 16 0 (fun j _ hj k hk x hx => ?_) hk x hx
  refine hn _ _ _ <| ok_ldRhs fun rhs => ok_pass hL hs (Nat.lt_succ_self s) (hD _ _) hx fun x hx =>
    ok_pass hL hs (Nat.lt_succ_self s) (hD _ _) hx fun x hx => hp { G with sl := s + 1, wl := s + 1 } rfl rfl _ (by omega) _ hk _ hx

/-! ## Draining -/

theorem ok_ySt {m bh : ℕ} {y} (hk : Ok S d G K) : Ok S d G (ySt (F := F) R m bh y K) :=
  ok_load (by rw [S.n21]; decide) (off_free (by rw [S.n21]; decide)) fun _ =>
    ok_store (by rw [S.n21]; decide) (off_free (by rw [S.n21]; decide)) hk

theorem ok_popAcc {p m : ℕ} {x : Mxu F} {K : Mxu F → Prog (TpuEff nD τ sig (Elt F) Λ .tc) PUnit.{1}} {D D' : Fin 2 → ℕ → Prop}
    (hD : ∀ q P, D q P → ¬ (q = unitOf m ∧ P = p % 2) → D' q P) (hx : Inv D x) (hk : ∀ x, Inv D' x → Ok S d G (K x)) :
    Ok S d G (popAcc R p m K x) := by
  refine ok_ySt <| ok_ySt <| hk _ ⟨fun q r => ?_, fun q r hr => ?_⟩
  · rw [Mxu.reg_pop]; exact hx.1 _ _
  · rw [Mxu.live_pop] at hr
    split at hr
    · cases hr
    · next h => exact hD _ _ (hx.2 _ _ hr) fun h' => h ⟨h'.1, by omega, by omega⟩

theorem ok_outSt {o bh c : ℕ} {v} (ho : o < 6) (hh : G.oh ≤ o) (hk : Ok S d G K) : Ok S d G (outSt (F := F) R o bh c v K) := by
  have hn : Tag.o ⟨o % 6, mod_lt' _ (by decide)⟩ ∉ G.set := fun h' => by
    have : G.ol ≤ o % 6 ∧ o % 6 < G.oh := h'; omega
  exact ok_load (by rw [S.n23]; decide) (off_o o bh c hn) fun _ => ok_store (by rw [S.n23]; decide) (off_o o bh c hn) hk

theorem ok_turnLd {m : Memref sig .tc .vmem T2x64x128 .f32} {bh : ℕ} {K : FVec F T64x128 .f32 → Prog (TpuEff nD τ sig (Elt F) Λ .tc) PUnit.{1}}
    (hm : 13 ≤ S.n m.view.ref ∧ S.n m.view.ref < 23) (hk : ∀ v, Ok S d G (K v)) : Ok S d G (turnLd m bh K) :=
  ok_load (by omega) (off_free hm) fun _ => hk _

theorem ok_yLd {m bh r : ℕ} {K : FVec F T64x128 .f32 → Prog (TpuEff nD τ sig (Elt F) Λ .tc) PUnit.{1}}
    (hk : ∀ v, Ok S d G (K v)) : Ok S d G (yLd R m bh r K) :=
  ok_load (by show S.n R.a21.view.ref < 24; rw [S.n21]; decide)
    (off_free (by show 13 ≤ S.n R.a21.view.ref ∧ S.n R.a21.view.ref < 23; rw [S.n21]; decide)) fun _ => hk _

theorem ok_finRot (hL : LeafSafe S d L) {o p m bh : ℕ} (ho : o < 6) (hh : G.oh ≤ o) (hk : Ok S d G K) : Ok S d G (finRot R L o p m bh K) :=
  ok_turnLd (by rw [S.n18]; decide) fun _ => ok_turnLd (by rw [S.n19]; decide) fun _ =>
    ok_yLd fun _ => ok_yLd fun _ => ok_yLd fun _ => ok_yLd fun _ => hL.turn _ _ _ _ _ _ _ fun _ => ok_outSt ho hh hk

theorem ok_finFlat {o p m bh : ℕ} (ho : o < 6) (hh : G.oh ≤ o) (hk : Ok S d G K) : Ok S d G (finFlat R L o p m bh K) :=
  ok_load (by rw [S.n21]; decide) (off_free (by rw [S.n21]; decide)) fun _ => ok_outSt ho hh hk

theorem ok_drain {fin : (o p m bh : ℕ) → Prog (TpuEff nD τ sig (Elt F) Λ .tc) PUnit.{1} → Prog (TpuEff nD τ sig (Elt F) Λ .tc) PUnit.{1}}
    {o p i : ℕ} {x : Mxu F} {K : Mxu F → Prog (TpuEff nD τ sig (Elt F) Λ .tc) PUnit.{1}} {D D' : Fin 2 → ℕ → Prop}
    (hfin : ∀ m bh K, Ok S d G K → Ok S d G (fin o p m bh K))
    (hD : ∀ q P, P < 4 → D q P → ¬ (i < 2 ∧ q = unitOf i ∧ P = p % 2) → D' q P) (hx : Inv D x)
    (hk : ∀ x, Inv D' x → Ok S d G (K x)) : Ok S d G (drain R fin o p i K x) := by
  unfold drain
  split
  · next h =>
    have hx' : Inv (fun q P => P < 4 ∧ D q P) x := ⟨hx.1, fun q r hr => ⟨by have := r.isLt; omega, hx.2 q r hr⟩⟩
    exact ok_popAcc (fun q P hq hn => hD q P hq.1 hq.2 fun h' => hn h'.2) hx' hk
  · next h => exact hfin _ _ _ (hk _ (hx.mono fun q P hP hq => hD q P hP hq fun h' => h h'.1))

theorem ok_between {j : ℕ} {x : Mxu F} {K : Mxu F → Prog (TpuEff nD τ sig (Elt F) Λ .tc) PUnit.{1}} {D D' : Fin 2 → ℕ → Prop}
    (hp : 2 ≤ j ∧ j < 8 → Ok S d G (piece (j - 2) K x))
    (hD : ¬ (2 ≤ j ∧ j < 8) → ∀ q P, P < 4 → D q P → D' q P) (hx : Inv D x) (hk : ∀ x, Inv D' x → Ok S d G (K x)) : Ok S d G (between piece j K x) := by
  unfold between
  split
  · next h => exact hp h
  · next h => exact hk _ (hx.mono (hD h))

/-! ## The whole body -/

abbrev Two : Fin 2 → ℕ → Prop := fun _ P => P < 2

theorem ok_round (hL : LeafSafe S d L) {o : ℕ} {x : Mxu F} {K : Mxu F → Prog (TpuEff nD τ sig (Elt F) Λ .tc) PUnit.{1}} (ho : o < 5)
    (hsl : G.sl = 2 * o + 1) (hsh : G.sh = 12) (hwl : G.wl = 2 * o + 1) (hwh : G.wh = 12) (hol : G.ol = 0) (hoh : G.oh = o) (hx : Inv Two x)
    (hk : ∀ x, Inv Two x → Ok S d { G with sl := 2 * o + 3, wl := 2 * o + 3, oh := o + 1 } (K x)) : Ok S d G (round R L o K x) := by
  have hp : ∀ p, ∀ G' : Fly, G'.ol = G.ol → G'.oh = G.oh → ∀ j, j < 16 → ∀ K, (∀ x, Inv Two x → Ok S d G' (K x)) → ∀ x, Inv Two x →
      Ok S d G' (between (drain R (finRot R L) o p) j K x) := fun p G' _ h2 j _ K hk x hx =>
    ok_between (fun _ => ok_drain (fun m bh K hK => ok_finRot hL (by omega) (by omega) hK) (fun q P _ h _ => h) hx hk) (fun _ _ _ _ h => h) hx hk
  refine ok_multiply hL (fun _ => Two) (by omega) hsl (by omega) hwl (by omega) (fun _ _ _ h => h) (hp 0) (fun _ _ => Nat.mod_lt _ (by decide)) hx fun x hx => ?_
  refine ok_multiply hL (fun _ => Two) (by omega) rfl (by show _ < G.sh; omega) rfl (by show _ < G.wh; omega) (fun _ _ _ h => h) (fun G' h1 h2 => hp 1 G' h1 h2) (fun _ _ => Nat.mod_lt _ (by decide)) hx fun x hx => ?_
  dsimp only
  split
  · next h => exact ok_startQ o h (by show G.ol ≤ o; omega) hoh (hk _ hx)
  · next h =>
    obtain rfl : o = 4 := by omega
    exact ok_startK (by show G.ol ≤ 4; omega) hoh (hk _ hx)

/-- Everything started, `r` rounds done. -/
abbrev mid (r : ℕ) : Fly := ⟨false, false, 4, 4, 2 * r + 1, 12, 2 * r + 1, 12, 0, r⟩

theorem set_all : (⟨false, false, 4, 4, 12, 12, 12, 12, 6, 6⟩ : Fly).set = ∅ := by
  ext t
  cases t with
  | nw => exact ⟨fun h => (nomatch h), fun h => h.elim⟩
  | pos => exact ⟨fun h => (nomatch h), fun h => h.elim⟩
  | x c => exact ⟨fun h => by have : 4 ≤ c.val ∧ c.val < 4 := h; omega, fun h => h.elim⟩
  | ws c => exact ⟨fun h => by have : 12 ≤ c.val ∧ c.val < 12 := h; omega, fun h => h.elim⟩
  | wp c => exact ⟨fun h => by have : 12 ≤ c.val ∧ c.val < 12 := h; omega, fun h => h.elim⟩
  | o c => exact ⟨fun h => by have : 6 ≤ c.val ∧ c.val < 6 := h; omega, fun h => h.elim⟩

theorem ok_end {x : Mxu F} (hx : x.Drained) : Ok (F := F) (τ := τ) (Λ := Λ) S d ⟨false, false, 4, 4, 12, 12, 12, 12, 6, 6⟩ (.op (.assume x.Drained) fun _ => .ret ⟨⟩) := by
  unfold Ok
  rw [set_all]
  exact Plan.assume (P := plan S d) hx (Safe.ret (Q := fun _ σ => σ = (plan S d).st ∅) _ _ rfl)

theorem ok_tail (hL : LeafSafe S d L) {x : Mxu F} (hx : Inv Two x) : Ok S d (mid 5) (tail R L x) := by
  have hf : ∀ G' : Fly, G'.oh = 5 → ∀ p m bh K, Ok S d G' K → Ok S d G' (finFlat R L 5 p m bh K) :=
    fun G' h p m bh K hK => ok_finFlat (by decide) h.le hK
  refine ok_multiply hL (fun j q P => P < 2 ∧ (P = 0 → j ≤ 2 + q.val)) (by decide) rfl (by decide) rfl (by decide) (fun _ _ _ h => h)
    (fun G' _ h2 j hj K hk x hx => ok_between (fun h => ok_drain (hf G' h2 0) (fun q P _ hq hn => ⟨hq.1, fun h0 => ?_⟩) hx hk)
      (fun h q P _ hq => ⟨hq.1, fun h0 => ?_⟩) hx hk) (fun _ _ => ⟨by decide, fun h => nomatch h⟩) (hx.mono fun q P _ h => ⟨h, fun _ => Nat.zero_le _⟩) fun x hx => ?_
  · have h1 := hq.2 h0
    have h2 : ¬ (j - 2 < 2 ∧ q.val = (j - 2) % 2 ∧ P = 0) := fun h' => hn ⟨h'.1, Fin.ext h'.2.1, h'.2.2⟩
    have := q.isLt
    omega
  · have h1 := hq.2 h0
    have := q.isLt
    omega
  · refine iter_ok (fun i x => Inv (fun q P => P = 1 ∧ i ≤ q.val) x) (fun _ => ⟨false, false, 4, 4, 12, 12, 12, 12, 0, 5⟩) 6 0
      (fun i _ hi k hk x hx => ok_drain (hf _ rfl 1) (fun q P _ hq hn => ⟨hq.1, ?pop⟩) hx hk) (fun x hx => ?rest) x (hx.mono fun q P _ h => ⟨?start, Nat.zero_le _⟩)
    case pop =>
      have h2 : ¬ (i < 2 ∧ q.val = i % 2 ∧ P = 1) := fun h' => hn ⟨h'.1, Fin.ext h'.2.1, h'.2.2⟩
      have h1 := hq.1
      have h3 := hq.2
      have := q.isLt
      omega
    case rest =>
      have hd : x.Drained := ⟨fun q r => by rw [hx.1]; rfl, fun q r => by
        by_contra h
        have := hx.2 q r (by simpa using h)
        have := q.isLt
        omega⟩
      refine ok_startV (G := ⟨false, false, 4, 4, 12, 12, 12, 12, 0, 5⟩) (by decide) rfl ?_
      refine rep_ok (fun i => ⟨false, false, 4, 4, 12, 12, 12, 12, i, 6⟩) 4 0 (fun i _ hi k hk => ok_waitQ i (by omega) rfl (by show i < 6; omega) hk) ?_
      refine ok_waitK rfl (by decide) <| ok_waitV rfl (by decide) <| ok_end hd
    case start =>
      have := h.1
      have := h.2
      have := q.isLt
      omega

theorem set_none : (⟨false, false, 0, 0, 0, 0, 0, 0, 0, 0⟩ : Fly).set = ∅ := by
  ext t
  cases t with
  | nw => exact ⟨fun h => (nomatch h), fun h => h.elim⟩
  | pos => exact ⟨fun h => (nomatch h), fun h => h.elim⟩
  | x c => exact ⟨fun h => (Nat.not_lt_zero _ h.2).elim, fun h => h.elim⟩
  | ws c => exact ⟨fun h => (Nat.not_lt_zero _ h.2).elim, fun h => h.elim⟩
  | wp c => exact ⟨fun h => (Nat.not_lt_zero _ h.2).elim, fun h => h.elim⟩
  | o c => exact ⟨fun h => (Nat.not_lt_zero _ h.2).elim, fun h => h.elim⟩

theorem ok_head (hL : LeafSafe S d L) {K : Mxu F → Prog (TpuEff nD τ sig (Elt F) Λ .tc) PUnit.{1}}
    (hk : ∀ x, Inv Two x → Ok S d (mid 0) (K x)) : Ok S d ⟨false, false, 0, 0, 0, 0, 0, 0, 0, 0⟩ (head R L K) := by
  refine ok_startNw rfl <| ok_startPos rfl ?_
  refine rep_ok (fun i => ⟨true, true, 0, i, 0, 0, 0, 0, 0, 0⟩) 4 0 (fun i _ hi k hk => ok_startX i (by omega) (Nat.zero_le _) rfl hk) ?_
  refine rep_ok (fun i => ⟨true, true, 0, 4, 0, i, 0, i, 0, 0⟩) 12 0 (fun i _ hi k hk =>
    ok_startWs i (by omega) (Nat.zero_le _) rfl <| ok_startWp i (by omega) (Nat.zero_le _) rfl hk) ?_
  refine ok_waitPos rfl <| ok_angles rfl <| ok_angles rfl <| ok_waitNw rfl ?_
  refine rep_ok (fun _ => ⟨false, false, 0, 4, 0, 12, 0, 12, 0, 0⟩) 32 0 (fun i _ _ k hk => ok_wtile rfl hk) ?_
  refine iter_ok (fun _ _ => True) (fun i => ⟨false, false, i, 4, 0, 12, 0, 12, 0, 0⟩) 4 0
    (fun i _ hi k hk _ _ => ok_xchunk (by omega) rfl (by show i < 4; omega) fun v => hk v trivial) (fun sq _ => ?_) _ trivial
  refine ok_multiply hL (fun _ => Two) (by decide) rfl (by decide) rfl (by decide) (fun _ _ _ h => ok_normalise h)
    (fun _ _ _ j _ K hk x hx => hk x hx) (fun _ _ => Nat.mod_lt _ (by decide)) ⟨fun q r => Mxu.reg_init .., fun q r h => ?_⟩ hk
  rw [Mxu.live_init] at h
  cases h

/-- The body starts and ends with no copy in flight, and touches only what is at hand. -/
theorem safe_main (S : Setup R B T) (d : Dev nD) (hL : LeafSafe S d L) :
    Safe d B S.W T (fun _ σ => σ = (plan S d).st ∅) (main R L) ((plan S d).st ∅) := by
  have : Ok S d ⟨false, false, 0, 0, 0, 0, 0, 0, 0, 0⟩ (main R L) := ok_head hL fun x hx =>
    iter_ok (fun _ x => Inv Two x) mid 5 0 (fun o _ ho k hk x hx =>
      ok_round hL (by omega) rfl rfl rfl rfl rfl rfl hx fun x hx => hk x hx) (fun x hx => ok_tail hL hx) x hx
  unfold Ok at this
  rwa [set_none] at this

end Cert.Proof.Body
-- ==== Proof.Whole.lean ====
/-
  From the small logic to the body's triple: the scratch buffers at any contents, the arguments at known contents, the
  results at any contents, every semaphore idle; and the same again at the end, the arguments unchanged.
-/
module

public import proofs.«01_k».proof.Proof.Plan
public import Idealize.ShloMosaic.Init

@[expose] public section

noncomputable section

namespace Cert.Proof.Logic

open Idealize.ShloMosaic
open Idealize.SL
open Idealize.SL.RA Idealize.SL.Sem Idealize.SL.ProofMode
open Idealize.SL.BI (sProp bigSep)
open scoped Idealize.SL.BI
open Idealize.SL.BI.BIBase Idealize.SL.BI.Laws

section
variable {nD : Nat} {τ : Topo} {sig : RefSig} {Val : EltTy → Type} {Λ : Labels} {α : Type}
variable {d : Dev nD} {B W : Finset (Ref sig .tc)} {T : Finset (DmaSem sig)}

/-- What a safe program does not write it leaves as it was. -/
theorem Safe.keeps {Q₁ : α → St τ sig d → Prop} {Q₂ : α → Conts τ sig Val d → Prop}
    {p : Prog (TpuEff nD τ sig Val Λ .tc) α} {σ : St τ sig d} (hs : Safe d B W T Q₁ p σ) (f₀ : Conts τ sig Val d) :
    ∀ {f : Conts τ sig Val d}, (∀ b, b ∉ W → f b = f₀ b) → Con d Q₂ p f →
      Con d (fun a f' => Q₂ a f' ∧ ∀ b, b ∉ W → f' b = f₀ b) p f := by
  induction hs with
  | ret a σ hq => exact fun h hc => ⟨hc, h⟩
  | load m r h k σ hb hr _ ih => exact fun h hc => ih _ h hc
  | store m r v M h hm k σ hb hw hr _ ih =>
    exact fun h hc => ih (fun b hb => (Function.update_of_ne (fun (e : b = m.view.ref) => hb (e ▸ hw)) _ _).trans (h b hb)) hc
  | assume P dec k σ hp _ ih => exact fun h hc hP => ih h (hc hP)
  | start src dst via sem hsrc hdst hsem k σ σ' hbs hbd hw ht hne hn hp hw' hs hd hs' hd' ho hk hp' hp'' _ ih =>
    exact fun h hc => ih (fun b hb => (Function.update_of_ne (fun (e : b = dst.view.ref) => hb (e ▸ hw)) _ _).trans (h b hb)) hc
  | wait sem b s e hk k σ σ' ht hp hw hp' hp'' _ ih => exact fun h hc => ih h hc

/-- Ends anyhow. -/
theorem Safe.any {Q₁ : α → St τ sig d → Prop}
    {p : Prog (TpuEff nD τ sig Val Λ .tc) α} {σ : St τ sig d} (hs : Safe d B W T Q₁ p σ) :
    ∀ {f : Conts τ sig Val d}, Con d (fun _ _ => True) p f := by
  induction hs with
  | ret a σ hq => exact trivial
  | load m r h k σ hb hr _ ih => exact ih _
  | store m r v M h hm k σ hb hw hr _ ih => exact ih
  | assume P dec k σ hp _ ih => exact fun _ => ih
  | start src dst via sem hsrc hdst hsem k σ σ' hbs hbd hw ht hne hn hp hw' hs hd hs' hd' ho hk hp' hp'' _ ih => exact ih
  | wait sem b s e hk k σ σ' ht hp hw hp' hp'' _ ih => exact ih

end

section Sound
variable {nD : Nat} {τ : Topo} {sig : RefSig} {Ix : Type} [DecidableEq Ix]
variable {Val : EltTy → Type} [∀ e, Nonempty (Val e)] {Name : Type} [DecidableEq Name] [Infinite Name]
variable {U : Type} [URA U] {Lvl : Type} [Preorder Lvl] {Λ : Labels}
local notation "𝕄" => MT nD τ sig Ix Val Name U Lvl
variable (EC : UEmb Counters (MT nD τ sig Ix Val Name U Lvl)) [EC.LandsIn (upEmb : UEmb _ (MT nD τ sig Ix Val Name U Lvl))]
variable {defs : Defs nD τ sig Val Λ} (𝒱 : Variants) (d : Dev nD) (bd : Option 𝒱.V)
variable (T : Finset (DmaSem sig)) (ι : Ix)

/-- The buffers of `B`, whole. -/
def held (B : Finset (Ref sig .tc)) (f : Conts τ sig Val d) : sProp 𝕄 :=
  bigSep B fun b => Thread.loc (τ := τ) d.tc b ↦{fullShare} f b

variable {d T}

theorem held_union {B B' : Finset (Ref sig .tc)} (h : Disjoint B B') (f : Conts τ sig Val d) :
    (held d (B ∪ B') f : sProp 𝕄) = (iprop(held d B f ∗ held d B' f) : sProp 𝕄) := BI.bigSep_union h

theorem held_congr {B : Finset (Ref sig .tc)} {f f' : Conts τ sig Val d} (h : ∀ b ∈ B, f b = f' b) :
    (held d B f : sProp 𝕄) = held d B f' := BI.bigSep_congr fun b hb => by rw [h b hb]

theorem own_none {B : Finset (Ref sig .tc)} {Tag : Type} (P : Plan (τ := τ) (sig := sig) d Tag) (f : Conts τ sig Val d) :
    (own EC d B T ι (P.st ∅) f : sProp 𝕄)
      = (iprop(held d B f ∗ bigSep T (fun s => semVal (Dev.tc (τ := τ) d, .dma s) 0) ∗ ∃ W, owes d.tc 0 W) : sProp 𝕄) := by
  unfold own
  have e1 : (cells d B (P.st ∅) f none : sProp 𝕄) = held d B f := by
    refine BI.bigSep_congr fun b _ => ?_
    have : (P.st ∅).at b none = Finset.univ := by
      ext i
      simp only [St.at, Finset.mem_filter, Finset.mem_univ, true_and, iff_true]
      exact Plan.w_none.mpr fun t ht => absurd ht (Set.notMem_empty _)
    rw [this]
  have e2 : (bigSep T (sem1 EC d B ι (P.st ∅) f) : sProp 𝕄) = bigSep T (fun s => semVal (Dev.tc (τ := τ) d, .dma s) 0) := by
    refine BI.bigSep_congr fun s _ => ?_
    have : (P.st ∅).p s = none := by
      unfold Plan.st; exact dif_neg fun ⟨t, ht, _⟩ => absurd ht (Set.notMem_empty _)
    unfold sem1; rw [this]
  rw [e1, e2]

/-- Buffers at some contents each are buffers at some contents. -/
theorem held_exists (B : Finset (Ref sig .tc)) :
    (bigSep B (fun b => iprop(∃ v, Thread.loc (τ := τ) d.tc b ↦{fullShare} v)) : sProp 𝕄)
      ⊢ (iprop(∃ f : Conts τ sig Val d, held d B f) : sProp 𝕄) :=
  BI.bigSep_exists_pi B fun b (v : Buf Val (Thread.loc (τ := τ) d.tc b)) => Thread.loc (τ := τ) d.tc b ↦{fullShare} v

theorem held_forget (B : Finset (Ref sig .tc)) (f : Conts τ sig Val d) :
    (held d B f : sProp 𝕄) ⊢ (bigSep B (fun b => iprop(∃ v, Thread.loc (τ := τ) d.tc b ↦{fullShare} v)) : sProp 𝕄) :=
  BI.bigSep_mono fun b _ => by
    show (iprop(Thread.loc (τ := τ) d.tc b ↦{fullShare} f b) : sProp 𝕄) ⊢ iprop(∃ v, Thread.loc (τ := τ) d.tc b ↦{fullShare} v)
    iintro H
    iexists (f b)
    iexact H

include EC ι in
/-- The body's triple. -/
theorem whole {S H R W : Finset (Ref sig .tc)} (hSH : Disjoint S (H ∪ R)) (hHR : Disjoint H R) (hWH : ∀ b ∈ H, b ∉ W)
    {Tag : Type} (P : Plan (τ := τ) (sig := sig) d Tag) {V : Conts τ sig Val d} {Q : Conts τ sig Val d → Prop}
    {p : Prog (TpuEff nD τ sig Val Λ .tc) PUnit} (hs : Safe d (S ∪ (H ∪ R)) W T (fun _ σ => σ = P.st ∅) p (P.st ∅))
    (hc : ∀ f : Conts τ sig Val d, (∀ b ∈ H, f b = V b) → Con d (fun _ f' => Q f') p f) :
    (iprop((bigSep S fun b => iprop(∃ v, Thread.loc (τ := τ) d.tc b ↦{fullShare} v))
        ∗ (bigSep T fun s => semVal (Dev.tc (τ := τ) d, .dma s) 0)
        ∗ held d H V
        ∗ (bigSep R fun b => iprop(∃ v, Thread.loc (τ := τ) d.tc b ↦{fullShare} v)) ∗ ∃ W, owes d.tc 0 W) : sProp 𝕄)
      ⊢ wp frame (wpE defs 𝒱 (Dev.tc (τ := τ) d) bd) Set.univ p (fun _ => iprop(∃ f', ⌜Q f'⌝
          ∗ (bigSep S fun b => iprop(∃ v, Thread.loc (τ := τ) d.tc b ↦{fullShare} v))
          ∗ (bigSep T fun s => semVal (Dev.tc (τ := τ) d, .dma s) 0)
          ∗ held d H V ∗ held d R f' ∗ ∃ W, owes d.tc 0 W)) := by
  have key : ∀ f : Conts τ sig Val d, (∀ b ∈ H, f b = V b) → (own EC d (S ∪ (H ∪ R)) T ι (P.st ∅) f : sProp 𝕄)
      ⊢ wp frame (wpE defs 𝒱 (Dev.tc (τ := τ) d) bd) Set.univ p (fun _ => iprop(∃ f', ⌜Q f'⌝
          ∗ (bigSep S fun b => iprop(∃ v, Thread.loc (τ := τ) d.tc b ↦{fullShare} v))
          ∗ (bigSep T fun s => semVal (Dev.tc (τ := τ) d, .dma s) 0)
          ∗ held d H V ∗ held d R f' ∗ ∃ W, owes d.tc 0 W)) := by
    intro f hf
    have hc' := hs.keeps (Q₂ := fun _ f' => Q f') f (fun _ _ => rfl) (hc f hf)
    refine (sound EC 𝒱 bd (ι := ι) hs hc').trans ((wp frame (wpE defs 𝒱 (Dev.tc (τ := τ) d) bd) Set.univ p).mono fun _ => ?_)
    show (iprop(∃ σ' f', ⌜(σ' = P.st ∅) ∧ Q f' ∧ ∀ b, b ∉ W → f' b = f b⌝ ∗ own EC d (S ∪ (H ∪ R)) T ι σ' f') : sProp 𝕄) ⊢ iprop(∃ f', ⌜Q f'⌝
          ∗ (bigSep S fun b => iprop(∃ v, Thread.loc (τ := τ) d.tc b ↦{fullShare} v))
          ∗ (bigSep T fun s => semVal (Dev.tc (τ := τ) d, .dma s) 0)
          ∗ held d H V ∗ held d R f' ∗ ∃ W, owes d.tc 0 W)
    iintro ⟨%σ', %f', %h, H⟩
    obtain ⟨rfl, hq, hk⟩ := h
    have e : ∀ b ∈ H, f' b = V b := fun b hb => (hk b (hWH b hb)).trans (hf b hb)
    have E := own_none (B := S ∪ (H ∪ R)) (T := T) EC ι P f'
    rw [held_union hSH, held_union hHR, held_congr e] at E
    ihave H := (Entails.of_eq E) $$ H
    icases H with ⟨⟨HS, HH, HR⟩, HT, HW⟩
    iexists f'
    isplitr [HS HH HR HT HW]; · ipureintro; exact hq
    isplitl [HS]; · iapply (held_forget S f'); iexact HS
    isplitl [HT]; · iexact HT
    isplitl [HH]; · iexact HH
    isplitl [HR]; · iexact HR
    iexact HW
  iintro ⟨HS, HT, HH, HR, HW⟩
  ihave HS := (held_exists (d := d) S) $$ HS
  ihave HR := (held_exists (d := d) R) $$ HR
  icases HS with ⟨%fS, HS⟩
  icases HR with ⟨%fR, HR⟩
  classical
  let f : Conts τ sig Val d := fun b => if b ∈ H then V b else if b ∈ S then fS b else fR b
  have eH : (held d H V : sProp 𝕄) = held d H f := held_congr fun b hb => (if_pos hb).symm
  have eS : (held d S fS : sProp 𝕄) = held d S f := held_congr fun b hb =>
    ((if_neg fun h => Finset.disjoint_left.mp hSH hb (Finset.mem_union_left _ h)).trans (if_pos hb)).symm
  have eR : (held d R fR : sProp 𝕄) = held d R f := held_congr fun b hb =>
    ((if_neg fun h => Finset.disjoint_left.mp hHR h hb).trans
      (if_neg fun h => Finset.disjoint_left.mp hSH h (Finset.mem_union_right _ hb))).symm
  ihave HH := (Entails.of_eq eH) $$ HH
  ihave HS := (Entails.of_eq eS) $$ HS
  ihave HR := (Entails.of_eq eR) $$ HR
  have key := key f fun b hb => if_pos hb
  rw [own_none, held_union hSH, held_union hHR] at key
  iapply key
  isplitl [HS HH HR]
  · isplitl [HS]; · iexact HS
    isplitl [HH]; · iexact HH
    iexact HR
  isplitl [HT]; · iexact HT
  iexact HW

end Sound

end Cert.Proof.Logic
-- ==== Proof.FrameK.lean ====
/-
  The buffers and semaphores of `Kernel`, its body safe, and its frame.
-/
module

public import proofs.«01_k».proof.Proof.Gen.Kernel.Launch
public import proofs.«01_k».proof.Proof.Gen.Kernel.Points
public import proofs.«01_k».proof.Proof.Gen.Kernel.Frame
public import proofs.«01_k».proof.Proof.BodyK
public import proofs.«01_k».proof.Proof.Safe
public import proofs.«01_k».proof.Proof.Whole
public import Idealize.ShloMosaic.Lib.Pipeline.FrameBody
public import Idealize.ShloMosaic.Lib.Pipeline.FrameSuffix
public import Idealize.ShloMosaic.Lib.Tactic

@[expose] public section

set_option maxRecDepth 16384

noncomputable section

namespace Cert.Proof.KernelFrame

open Cert.Kernel Cert.Kernel.Gen Cert.Proof.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## Buffers and semaphores -/

def R0 : Refs sig := Cert.Proof.KernelBody.refs (Memref.whole main_v0) (Memref.isWhole_whole _) (Memref.whole main_v1) (Memref.isWhole_whole _) (Memref.whole main_v2) (Memref.isWhole_whole _) (Memref.whole main_v6) (Memref.isWhole_whole _) (Memref.whole main_arg4) (Memref.isWhole_whole _) (Memref.whole main_v7_0) (Memref.isWhole_whole _) (Memref.whole main_v7_1) (Memref.isWhole_whole _) (Memref.whole main_v7_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.whole cc0_scratch6) (Memref.whole cc0_scratch7) (Memref.whole cc0_scratch8) (Memref.whole cc0_scratch9) (Memref.isWhole_whole _) (Memref.whole cc0_scratch10) (Memref.whole cc0_scratch11) (Memref.whole cc0_scratch13) (Memref.whole cc0_scratch15) (Memref.isWhole_whole _) cc0_scratch16 cc0_scratch17 cc0_scratch18 cc0_scratch19 cc0_scratch20 cc0_scratch21

def L0 : Leaves F (Prog (TpuEff nD τ sig (Elt F) Λ₀ .tc) PUnit.{1}) :=
  Cert.Proof.KernelBody.leaves (Memref.whole cc0_scratch12) (Memref.whole cc0_scratch14)

/-- The buffers the body names, in order. -/
abbrev order : List (Ref sig .tc) :=
  [main_v0, main_v1, main_v2, main_v6, main_arg4, main_v7_0, main_v7_1, main_v7_2, cc0_scratch0, cc0_scratch1, cc0_scratch2,
    cc0_scratch3, cc0_scratch4, cc0_scratch5, cc0_scratch6, cc0_scratch7, cc0_scratch8, cc0_scratch9, cc0_scratch10,
    cc0_scratch11, cc0_scratch12, cc0_scratch13, cc0_scratch14, cc0_scratch15]

abbrev HH : Finset (Ref sig .tc) := {main_v0, main_v1, main_v2, main_v6, main_arg4}
abbrev RR : Finset (Ref sig .tc) := {main_v7_0, main_v7_1, main_v7_2}
abbrev TT : Finset (Ref sig .tc) := {main_v8, main_v9, main_v10}
abbrev SS : Finset (Ref sig .tc) := (Finset.univ.filter fun b : Ref sig .tc => b.isScoped) \ Finset.univ.image (Pipeline.stageRef (cfg0.spec))

theorem mem_SS {b : Ref sig .tc} : b ∈ SS ↔ b.isScoped = true := by
  simp [SS]

theorem mem_all (b : Ref sig .tc) (h : b ∈ order) : b ∈ SS ∪ (HH ∪ RR) := by
  have : ∀ b ∈ order, b.isScoped = true ∨ b ∈ HH ∪ RR := by decide
  rcases this b h with h | h
  · exact Finset.mem_union_left _ (mem_SS.mpr h)
  · exact Finset.mem_union_right _ h

theorem disjSS : Disjoint SS (HH ∪ RR) := Finset.disjoint_left.mpr fun b h h' => by
  have : ∀ b ∈ HH ∪ RR, ¬ b.isScoped = true := by decide
  exact this b h' (mem_SS.mp h)

def semNo : Tag → ℕ
  | .nw => 4
  | .pos => 5
  | .x c => c.val
  | .wp s => 6 + s.val
  | .ws s => 18 + s.val
  | .o o => 30 + o.val

theorem semNo_eq (t : Tag) : (semOf R0 t).val = semNo t := by
  cases t with
  | nw => decide
  | pos => decide
  | x c => revert c; decide
  | ws c => revert c; decide
  | wp c => revert c; decide
  | o c => revert c; decide

theorem semNo_inj {s t : Tag} (h : semNo s = semNo t) : s = t := by
  cases s <;> cases t <;> simp only [semNo] at h <;> first
    | rfl
    | (exfalso; omega)
    | (congr 1; apply Fin.ext; omega)

def S0 : Setup R0 (SS ∪ (HH ∪ RR)) (Finset.univ : Finset (DmaSem sig)) where
  n b := order.idxOf b
  mem b h := mem_all b (List.idxOf_lt_length_iff.mp h)
  W := (order.drop 5).toFinset
  memW b h := ⟨mem_all b (List.idxOf_lt_length_iff.mp h.2), by
    have : ∀ b ∈ order, 5 ≤ order.idxOf b → b ∈ (order.drop 5).toFinset := by decide
    exact this b (List.idxOf_lt_length_iff.mp h.2) h.1⟩
  n0 := by decide
  n1 := by decide
  n2 := by decide
  n3 := by decide
  n4 := by decide
  n5 := by decide
  n6 := by decide
  n7 := by decide
  n8 := by decide
  n9 := by decide
  n10 := by decide
  n11 := by decide
  n12 := by decide
  n13 := by decide
  n14 := by decide
  n15 := by decide
  n16 := by decide
  n17 := by decide
  n18 := by decide
  n19 := by decide
  n21 := by decide
  n23 := by decide
  semInj s t h := semNo_inj (by rw [← semNo_eq, ← semNo_eq, h])
  semMem _ := Finset.mem_univ _

theorem n20 : S0.n (Memref.whole cc0_scratch12 : Memref sig .tc .vmem _ _).view.ref = 20 := by decide
theorem n22 : S0.n (Memref.whole cc0_scratch14 : Memref sig .tc .vmem _ _).view.ref = 22 := by decide

theorem leafSafe (d : Dev nD) : LeafSafe (F := F) S0 d L0 where
  scaleSt p m a b K G hk :=
    ok_load (by rw [n20]; decide) (off_free (by rw [n20]; decide)) fun _ => ok_store (by rw [n20]; decide) (off_free (by rw [n20]; decide)) <|
    ok_load (by rw [n20]; decide) (off_free (by rw [n20]; decide)) fun _ => ok_store (by rw [n20]; decide) (off_free (by rw [n20]; decide)) hk
  scaleLd p m K G hk := ok_load (by rw [n20]; decide) (off_free (by rw [n20]; decide)) fun _ => hk _
  turn m e0 e1 o0 o1 K G hk :=
    ok_load (by rw [n22]; decide) (off_free (by rw [n22]; decide)) fun _ => ok_store (by rw [n22]; decide) (off_free (by rw [n22]; decide)) <|
    ok_load (by rw [n22]; decide) (off_free (by rw [n22]; decide)) fun _ => ok_store (by rw [n22]; decide) (off_free (by rw [n22]; decide)) <|
    ok_load (by rw [n22]; decide) (off_free (by rw [n22]; decide)) fun _ => hk _

theorem body_main (t : Fin cfg0.N) : bodyAt0 (F := F) t = main R0 L0 := Cert.Proof.KernelBody.body_eq ..

theorem body_safe (d : Dev nD) (t : Fin cfg0.N) :
    Logic.Safe d (SS ∪ (HH ∪ RR)) S0.W Finset.univ (fun _ σ => σ = (plan (τ := τ) S0 d).st ∅) (bodyAt0 (F := F) t) ((plan S0 d).st ∅) := by
  rw [body_main]; exact safe_main S0 d (leafSafe d)

theorem body_any (d : Dev nD) (t : Fin cfg0.N) (f : Logic.Conts τ sig (Elt F) d) :
    Logic.Con d (fun _ _ => True) (bodyAt0 (F := F) t) f := by
  have h := body_safe (F := F) d t
  revert h
  generalize bodyAt0 (F := F) t = p
  exact fun h => h.any

theorem keepHH : ∀ b ∈ HH, b ∉ S0.W := by decide

/-- The body's triple, for any fact about the contents at its end. -/
theorem body_whole (d : Dev nD) (t : Fin cfg0.N) {V : Logic.Conts τ sig (Elt F) d} {Q : Logic.Conts τ sig (Elt F) d → Prop}
    (hc : ∀ f : Logic.Conts τ sig (Elt F) d, (∀ b ∈ HH, f b = V b) → Logic.Con d (fun _ f' => Q f') (bodyAt0 t) f) :
    (iprop((bigSep SS fun b => iprop(∃ v, (d.tc : Thread nD τ).loc b ↦{fullShare} v))
        ∗ (bigSep (Finset.univ : Finset (DmaSem sig)) fun s => semVal ((d.tc : Thread nD τ), .dma s) 0)
        ∗ Logic.held d HH V
        ∗ (bigSep RR fun b => iprop(∃ v, (d.tc : Thread nD τ).loc b ↦{fullShare} v)) ∗ ∃ W, owes d.tc 0 W) : sProp 𝕄)
      ⊢ wp frame (wpE (defs₀ (F := F)) Variants.none (d.tc : Thread nD τ) none) Set.univ (bodyAt0 t) (fun _ => iprop(∃ f', ⌜Q f'⌝
          ∗ (bigSep SS fun b => iprop(∃ v, (d.tc : Thread nD τ).loc b ↦{fullShare} v))
          ∗ (bigSep (Finset.univ : Finset (DmaSem sig)) fun s => semVal ((d.tc : Thread nD τ), .dma s) 0)
          ∗ Logic.held d HH V ∗ Logic.held d RR f' ∗ ∃ W, owes d.tc 0 W)) :=
  Logic.whole (Ix := Unit) (Name := ℕ) (U := Pipeline.UD sig nD τ) (Lvl := ℕ) (defs := defs₀ (F := F)) countersEmb
    Variants.none none () disjSS (by decide) keepHH (plan S0 d) (body_safe d t) hc

theorem body_skips (d : Dev nD) (t : Fin cfg0.N) (V : Logic.Conts τ sig (Elt F) d) :
    (iprop((bigSep SS fun b => iprop(∃ v, (d.tc : Thread nD τ).loc b ↦{fullShare} v))
        ∗ (bigSep (Finset.univ : Finset (DmaSem sig)) fun s => semVal ((d.tc : Thread nD τ), .dma s) 0)
        ∗ Logic.held d HH V
        ∗ (bigSep RR fun b => iprop(∃ v, (d.tc : Thread nD τ).loc b ↦{fullShare} v)) ∗ ∃ W, owes d.tc 0 W) : sProp 𝕄)
      ⊢ wp frame (wpE (defs₀ (F := F)) Variants.none (d.tc : Thread nD τ) none) Set.univ (bodyAt0 t) (fun _ => iprop(∃ f', ⌜True⌝
          ∗ (bigSep SS fun b => iprop(∃ v, (d.tc : Thread nD τ).loc b ↦{fullShare} v))
          ∗ (bigSep (Finset.univ : Finset (DmaSem sig)) fun s => semVal ((d.tc : Thread nD τ), .dma s) 0)
          ∗ Logic.held d HH V ∗ Logic.held d RR f' ∗ ∃ W, owes d.tc 0 W)) := by
  refine body_whole d t (V := V) (Q := fun _ => True) ?_
  intro f _
  have h := body_any (F := F) d t f
  revert h
  generalize bodyAt0 (F := F) t = p
  exact id

/-! ## The frame -/

abbrev osem0 : Fin 36 → SemLoc sig := fun j => .dma j

theorem ownSemFacts0 : Pipeline.OwnSemFacts (cfg0.spec) osem0 := by decide

variable (m : (ℓ : Loc nD τ sig) → Buf (Elt F) ℓ) (ρ : Dev nD → PrngReg)

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

def dats (_ : Fin 1) (c : Dev nD) : Dat τ (Elt F) Unit ℕ (Pipeline.UD sig nD τ) ℕ cfg0 c where
  A w := w.elim0
  after w t := w.elim0
  Φ _ := Pipeline.ΦDR osem0 (cfg0.spec) HH RR (V m) c
  q _ := fullShare
  owed _ := 0

theorem sound_body (c : Dev nD) (t : Fin cfg0.N) :
    (iprop((dats (F := F) m 0 c).Φ t.castSucc ∗ (dats (F := F) m 0 c).owesAt () t.castSucc) : sProp 𝕄)
      ⊢ wp frame (wpE (defs₀ (F := F)) Variants.none c none) Set.univ (bodyAt0 t)
        (fun _ => iprop((dats (F := F) m 0 c).Φ t.succ ∗ (dats (F := F) m 0 c).owesAt () t.succ)) := by
  have hw := body_skips (F := F) c t (V m c)
  unfold Dat.owesAt Pipeline.owesWithin
  rw [show (dats m 0 c).owed t.castSucc = 0 from rfl, show (dats m 0 c).owed t.succ = 0 from rfl,
    show (dats m 0 c).Φ t.succ = Pipeline.ΦDR osem0 (cfg0.spec) HH RR (V m) c from rfl,
    show (dats m 0 c).Φ t.castSucc = Pipeline.ΦDR osem0 (cfg0.spec) HH RR (V m) c from rfl, Pipeline.ΦDR_eq]
  unfold Pipeline.scopedRest Pipeline.ownSems0 Pipeline.owned
  rw [show (bigSep HH (fun b => ((c.tc : Thread nD τ).loc b) ↦{fullShare} V m c b) : sProp 𝕄) = Logic.held c HH (V m c) from rfl]
  iintro ⟨⟨HS, Hg, HT, Hh, HR⟩, ⟨%W, -, HW⟩⟩
  iapply (wp_wand_r frame (wpE (defs₀ (F := F)) Variants.none (c.tc : Thread nD τ) none) Set.univ)
  isplitl [HS HT Hh HR HW]
  · iapply hw
    isplitl [HS]; · iexact HS
    isplitl [HT]; · iexact HT
    isplitl [Hh]; · iexact Hh
    isplitl [HR]; · iexact HR
    iexists _; iexact HW
  iintro %_ ⟨%f', -, HS, HT, Hh, HR, ⟨%W', HW⟩⟩
  isplitl [HS Hg HT Hh HR]
  · isplitl [HS]; · iexact HS
    isplitl [Hg]; · iexact Hg
    isplitl [HT]; · iexact HT
    isplitl [Hh]; · iexact Hh
    iapply (Logic.held_forget (d := c) RR f'); iexact HR
  iexists W'
  isplitr; · ipureintro; exact fun _ _ => Or.inl trivial
  iexact HW

theorem sfx_writes : ∀ ops ∈ ([hostOps1] : List (List (HloOp τ sig (Elt F)))), ∀ op ∈ ops,
    ∀ b : Ref sig .tc, Proc.devRef .tc b ∈ op.writes → b ∈ TT := by
  intro ops hops op hop b hb
  simp only [List.mem_cons, List.mem_nil_iff, or_false] at hops
  subst hops
  simp only [hostOps1, List.mem_cons, List.mem_nil_iff, or_false] at hop
  rcases hop with rfl | rfl | rfl
  all_goals
    have h := Finset.mem_singleton.mp hb
    have h := Proc.devRef_injective _ h
    subst h
    decide

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  · iintro ⟨H, H', -⟩
    isplitl [H]; · iexact H
    iexact H'
  · iintro ⟨H, H'⟩
    isplitl [H]; · iexact H
    isplitl [H']; · iexact H'
    rw [Finset.univ_eq_empty, BI.bigSep_empty]
    iempintro

set_option backward.isDefEq.respectTransparency.types false in
theorem run_main : θ_run defs (onTc (τ := τ) (main (F := F))) (s₀ m ρ)
    (fun r => Pipeline.FramePostR cfgs (dats m) 0 (RR ∪ TT) (V m) r ∧ r.2.sem = fun _ => 0) :=
  Pipeline.θ_run_frame_dmaR_around (Q' := _) cfgs (dats m) (0 : Fin 1) launch0 osem0 defs₀ Variants.none ownSemFacts0 HH RR TT
    (by decide) (by decide) m ρ main
    (hbody := fun c => (body_obligation m c).loose) (hshare := fun c => (dats m 0 c).share_full fun _ => rfl)
    (howed := fun _ _ => rfl) (V₀ := V0 m) (opss := [hostOps1]) sfx_sub sfx_fresh sfx_keeps sfx_writes
    (hmain := hmain m Variants.none) (hA := fun _ w => w.elim0)
    (hin := fun _ => .rfl) (hout := fun _ => .rfl)

theorem rest {c : Dev nD} {b : Ref sig .tc} {r : PUnit × MemSt nD τ sig (Elt F)}
    (h : Pipeline.FramePostR cfgs (dats m) 0 (RR ∪ TT) (V m) r) (hb : b ∈ Pipeline.restRefs sig (cfg0.spec)) (hb' : b ∉ RR ∪ TT) :
    r.2.mem ((c.tc : Thread nD τ).loc b) = V m c b := (h c).2 b (Finset.mem_sdiff.mpr ⟨hb, hb'⟩)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(rest m h.1 (Pipeline.mem_restRefs_of main_arg0 (by decide) (by decide)) (by decide)).trans (V_main_arg0 m c),
     (rest m h.1 (Pipeline.mem_restRefs_of main_arg1 (by decide) (by decide)) (by decide)).trans (V_main_arg1 m c),
     (rest m h.1 (Pipeline.mem_restRefs_of main_arg2 (by decide) (by decide)) (by decide)).trans (V_main_arg2 m c),
     (rest m h.1 (Pipeline.mem_restRefs_of main_arg3 (by decide) (by decide)) (by decide)).trans (V_main_arg3 m c),
     (rest m h.1 (Pipeline.mem_restRefs_of main_arg4 (by decide) (by decide)) (by decide)).trans (V_main_arg4 m c)⟩, h.2⟩) (run_main m ρ)

end Cert.Proof.KernelFrame
-- ==== Proof.BodyKI.lean ====
/-
  The body of `KI` is the body written as loops (Struct), with this program's own parts.
-/
module

public import proofs.«01_k».proof.KI
public import proofs.«01_k».proof.Proof.Gen.KI.Skeleton
public import Idealize.ShloMosaic.Lib.Exec
public import Idealize.ShloMosaic.Lib.Tactic
public import proofs.«01_k».proof.Proof.Struct

@[expose] public section

noncomputable section

namespace Cert.Proof.KIBody

open Idealize.ShloMosaic Idealize.SL.Sem
open Cert.KI Cert.Proof.Body
open Facts₀ Facts

variable {F : FTy → Type} [FloatOps F]
variable [Facts]

theorem scaleStInb (p m q : ℕ) : ∀ a, S1x1x64x2x128.size a = 0 ∨
    (![p % 2, m % 2, q % 2, 0, 0] : Fin 5 → ℕ) a + (![1, 1, 2, 1, 1] : Fin 5 → ℕ) a * (S1x1x64x2x128.size a - 1)
      < S2x2x128x2x128.size a := by
  have : ∀ p m q : Fin 2, ∀ a, S1x1x64x2x128.size a = 0 ∨
    (![p.val, m.val, q.val, 0, 0] : Fin 5 → ℕ) a + (![1, 1, 2, 1, 1] : Fin 5 → ℕ) a * (S1x1x64x2x128.size a - 1)
      < S2x2x128x2x128.size a := by decide
  exact this ⟨p % 2, mod_lt' _ (by decide)⟩ ⟨m % 2, mod_lt' _ (by decide)⟩ ⟨q % 2, mod_lt' _ (by decide)⟩

theorem scaleLdInb (p m : ℕ) : ∀ a, (![p % 2, m % 2, 0, 0, 0] : Fin 5 → ℕ) a + S1x1x128x2x128.size a
    ≤ S2x2x128x2x128.size a := by
  have : ∀ p m : Fin 2, ∀ a, (![p.val, m.val, 0, 0, 0] : Fin 5 → ℕ) a + S1x1x128x2x128.size a
    ≤ S2x2x128x2x128.size a := by decide
  exact this ⟨p % 2, mod_lt' _ (by decide)⟩ ⟨m % 2, mod_lt' _ (by decide)⟩

theorem turnStInb (m q : ℕ) : ∀ a, S1x64x2x128.size a = 0 ∨
    (![m % 2, q % 2, 0, 0] : Fin 4 → ℕ) a + (![1, 2, 1, 1] : Fin 4 → ℕ) a * (S1x64x2x128.size a - 1)
      < S2x128x2x128.size a := by
  have : ∀ m q : Fin 2, ∀ a, S1x64x2x128.size a = 0 ∨
    (![m.val, q.val, 0, 0] : Fin 4 → ℕ) a + (![1, 2, 1, 1] : Fin 4 → ℕ) a * (S1x64x2x128.size a - 1)
      < S2x128x2x128.size a := by decide
  exact this ⟨m % 2, mod_lt' _ (by decide)⟩ ⟨q % 2, mod_lt' _ (by decide)⟩

theorem turnLdInb (m : ℕ) : ∀ a, (![m % 2, 0, 0, 0] : Fin 4 → ℕ) a + S1x128x2x128.size a ≤ S2x128x2x128.size a := by
  have : ∀ m : Fin 2, ∀ a, (![m.val, 0, 0, 0] : Fin 4 → ℕ) a + S1x128x2x128.size a ≤ S2x128x2x128.size a := by decide
  exact this ⟨m % 2, mod_lt' _ (by decide)⟩

/-- Every other row pair of the scales' buffer. -/
def scaleSt1 (b : Memref sig .tc .vmem S2x2x128x2x128 .bf16) (hb : b.IsWhole) (p m q : ℕ)
    (lo hi : FVec F S64x128 .bf16) (K : Prog (TpuEff nD τ sig (Elt F) Λ₀ .tc) PUnit.{1}) :
    Prog (TpuEff nD τ sig (Elt F) Λ₀ .tc) PUnit.{1} :=
  .op (.load b (⟨![p % 2, m % 2, q % 2, 0, 0], S1x1x64x2x128.size, ![1, 1, 2, 1, 1], scaleStInb p m q⟩ :
    LoadRect S2x2x128x2x128) (View.loadsAt_vmem (by decide : 0 < S1x1x64x2x128.numel))) fun _ =>
  .op (.store b ⟨(⟨![p % 2, m % 2, q % 2, 0, 0], S1x1x64x2x128.size, ![1, 1, 2, 1, 1], scaleStInb p m q⟩ :
    LoadRect S2x2x128x2x128), spos_1_1_2_1_1⟩
    (interleaveRows S1x1x64x2x128 (shapeCast S1x1x64x1x128 (shapeCast S1x1x64x128 lo (by decide)) (by decide))
      (shapeCast S1x1x64x1x128 (shapeCast S1x1x64x128 hi (by decide)) (by decide)) (by decide)) Finset.univ
    (View.stores_vmem (by decide : 0 < S1x1x64x2x128.numel) ((hb.pairWhole rank2_S2x2x128x2x128).storeExact_slice rfl _
      (Rect.WholeRows.intro rank2_S2x2x128x2x128 rfl rfl rfl) pairs_S2x2x128x2x128_bf16) (fun _ => rfl)) (.inl rfl)) fun _ => K

def scaleOf (v : Vec F S1x1x128x2x128 .bf16) : FVec F S256x128 .bf16 :=
  interleaveRows S256x128
    (shapeCast S128x128 (shapeCast S1x1x128x128 (rowsOfParity 0 S1x1x128x1x128 v (by decide)) (by decide)) (by decide))
    (shapeCast S128x128 (shapeCast S1x1x128x128 (rowsOfParity 1 S1x1x128x1x128 v (by decide)) (by decide)) (by decide))
    (by decide)

/-- Every other row pair of the turned rows' buffer. -/
def turnSt1 (b : Memref sig .tc .vmem S2x128x2x128 .bf16) (hb : b.IsWhole) (m q : ℕ)
    (lo hi : FVec F S64x128 .f32) (K : Prog (TpuEff nD τ sig (Elt F) Λ₀ .tc) PUnit.{1}) :
    Prog (TpuEff nD τ sig (Elt F) Λ₀ .tc) PUnit.{1} :=
  .op (.load b (⟨![m % 2, q % 2, 0, 0], S1x64x2x128.size, ![1, 2, 1, 1], turnStInb m q⟩ :
    LoadRect S2x128x2x128) (View.loadsAt_vmem (by decide : 0 < S1x64x2x128.numel))) fun _ =>
  .op (.store b ⟨(⟨![m % 2, q % 2, 0, 0], S1x64x2x128.size, ![1, 2, 1, 1], turnStInb m q⟩ :
    LoadRect S2x128x2x128), spos_1_2_1_1⟩
    (interleaveRows S1x64x2x128
      (shapeCast S1x64x1x128 (shapeCast S1x64x128 (truncf .bf16 lo (by decide) : FVec F S64x128 .bf16) (by decide)) (by decide))
      (shapeCast S1x64x1x128 (shapeCast S1x64x128 (truncf .bf16 hi (by decide) : FVec F S64x128 .bf16) (by decide)) (by decide)) (by decide)) Finset.univ
    (View.stores_vmem (by decide : 0 < S1x64x2x128.numel) ((hb.pairWhole rank2_S2x128x2x128).storeExact_slice rfl _
      (Rect.WholeRows.intro rank2_S2x128x2x128 rfl rfl rfl) pairs_S2x128x2x128_bf16) (fun _ => rfl)) (.inl rfl)) fun _ => K

/-- Two heads, each turned over, as the pair of heads of an output row. -/
def pairT (lo hi : FVec F S128x128 .bf16) : FVec F S1x128x2x128 .bf16 :=
  interleaveRows S1x128x2x128
    (shapeCast S1x128x1x128 (truncf .bf16 (transpose S128x128 [1, 0] (extf .f32 lo (by decide) : FVec F S128x128 .f32) (by decide)) (by decide) : FVec F S128x128 .bf16) (by decide))
    (shapeCast S1x128x1x128 (truncf .bf16 (transpose S128x128 [1, 0] (extf .f32 hi (by decide) : FVec F S128x128 .f32) (by decide)) (by decide) : FVec F S128x128 .bf16) (by decide))
    (by decide)

def turned (v : Vec F S1x128x2x128 .bf16) : FVec F S1x128x2x128 .bf16 :=
  pairT (shapeCast S128x128 (shapeCast S1x128x128 (rowsOfParity 0 S1x128x1x128 v (by decide)) (by decide)) (by decide))
    (shapeCast S128x128 (shapeCast S1x128x128 (rowsOfParity 1 S1x128x1x128 v (by decide)) (by decide)) (by decide))

section
variable (arg0 : Memref sig .tc .hbm S256x4096 .bf16) (harg0 : arg0.IsWhole) (arg1 : Memref sig .tc .hbm S32x128 .bf16) (harg1 : arg1.IsWhole) (arg2 : Memref sig .tc .hbm S2x128 .i32) (harg2 : arg2.IsWhole) (arg3 : Memref sig .tc .hbm S6144x4x128 .i32) (harg3 : arg3.IsWhole) (arg4 : Memref sig .tc .hbm S6144x128 .bf16) (harg4 : arg4.IsWhole) (arg5 : Memref sig .tc .hbm S256x32x128 .bf16) (harg5 : arg5.IsWhole) (arg6 : Memref sig .tc .hbm S256x8x128 .bf16) (harg6 : arg6.IsWhole) (arg7 : Memref sig .tc .hbm S256x8x128 .bf16) (harg7 : arg7.IsWhole) (arg8 : Memref sig .tc .vmem S256x4096 .bf16) (harg8 : arg8.IsWhole) (arg9 : Memref sig .tc .vmem S32x128 .bf16) (harg9 : arg9.IsWhole) (arg10 : Memref sig .tc .vmem S2x128 .i32) (harg10 : arg10.IsWhole) (arg11 : Memref sig .tc .vmem S6144x4x128 .i32) (harg11 : arg11.IsWhole) (arg12 : Memref sig .tc .vmem S6144x128 .bf16) (harg12 : arg12.IsWhole) (arg13 : Memref sig .tc .vmem S2x2176x128 .f32) (harg13 : arg13.IsWhole) (arg14 : Memref sig .tc .vmem S2x2176x128 .f32) (harg14 : arg14.IsWhole) (arg15 : Memref sig .tc .vmem S2176x128 .f32) (harg15 : arg15.IsWhole) (arg16 : Memref sig .tc .vmem S2176x128 .f32) (harg16 : arg16.IsWhole) (arg17 : Memref sig .tc .vmem S16x2x256x128 .bf16) (harg17 : arg17.IsWhole) (arg18 : Memref sig .tc .vmem S2x64x128 .f32) (harg18 : arg18.IsWhole) (arg19 : Memref sig .tc .vmem S2x64x128 .f32) (harg19 : arg19.IsWhole) (arg20 : Memref sig .tc .vmem S2x2x128x2x128 .bf16) (harg20 : arg20.IsWhole) (arg21 : Memref sig .tc .vmem S2x2x256x128 .f32) (harg21 : arg21.IsWhole) (arg22 : Memref sig .tc .vmem S2x128x2x128 .bf16) (harg22 : arg22.IsWhole) (arg23 : Memref sig .tc .vmem S6x256x8x128 .bf16) (harg23 : arg23.IsWhole) (arg24 : DmaSems sig S4) (arg25 : DmaSems sig S_) (arg26 : DmaSems sig S_) (arg27 : DmaSems sig S12) (arg28 : DmaSems sig S12) (arg29 : DmaSems sig S6)

/-- The parts of the body that this program says in its own way: word pairs are pairs of 16-bit rows. -/
def leaves : Leaves F (Prog (TpuEff nD τ sig (Elt F) Λ₀ .tc) PUnit.{1}) where
  pl v := extf .f32 (rowsOfParity 0 S64x128 (transpose S128x128 [1, 0] v (by decide)) (by decide))
  ph v := extf .f32 (rowsOfParity 1 S64x128 (transpose S128x128 [1, 0] v (by decide)) (by decide))
  scaleSt p m a b K :=
    scaleSt1 arg20 harg20 p m 0 (rowsOfParity 0 S64x128 a (by decide)) (rowsOfParity 0 S64x128 b (by decide)) <|
    scaleSt1 arg20 harg20 p m 1 (rowsOfParity 1 S64x128 a (by decide)) (rowsOfParity 1 S64x128 b (by decide)) K
  scaleLd p m K := .op (.load arg20 (Rect.unit (s := S2x2x128x2x128) ![p % 2, m % 2, 0, 0, 0] S1x1x128x2x128.size
    (scaleLdInb p m)).toLoadRect (View.loadsAt_vmem (by decide : 0 < S1x1x128x2x128.numel))) fun (v : Vec F S1x1x128x2x128 .bf16) => K (scaleOf v)
  turn m e0 e1 o0 o1 K :=
    turnSt1 arg22 harg22 m 0 e0 e1 <| turnSt1 arg22 harg22 m 1 o0 o1 <|
    .op (.load arg22 (Rect.unit (s := S2x128x2x128) ![m % 2, 0, 0, 0] S1x128x2x128.size (turnLdInb m)).toLoadRect
      (View.loadsAt_vmem (by decide : 0 < S1x128x2x128.numel))) fun (v : Vec F S1x128x2x128 .bf16) => K (turned v)
  flat y := pairT (rowsOfParity 0 S128x128 (truncf .bf16 y (by decide) : FVec F S256x128 .bf16) (by decide))
    (rowsOfParity 1 S128x128 (truncf .bf16 y (by decide) : FVec F S256x128 .bf16) (by decide))

/-- The buffers of this program. -/
def refs : Refs sig := ⟨arg0, harg0, arg1, harg1, arg2, harg2, arg3, harg3, arg4, harg4, arg5, harg5, arg6, harg6, arg7, harg7, arg8, harg8, arg9, harg9, arg10, harg10, arg11, harg11, arg12, harg12, arg13, arg14, arg15, arg16, arg17, harg17, arg18, arg19, arg21, arg23, harg23, arg24, arg25, arg26, arg27, arg28, arg29⟩

theorem body_eq : cc0_rmsnorm_int4_qkv_rope (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 arg28 arg29 =
    main (refs arg0 harg0 arg1 harg1 arg2 harg2 arg3 harg3 arg4 harg4 arg5 harg5 arg6 harg6 arg7 harg7 arg8 harg8 arg9 harg9 arg10 harg10 arg11 harg11 arg12 harg12 arg13 arg14 arg15 arg16 arg17 harg17 arg18 arg19 arg21 arg23 harg23 arg24 arg25 arg26 arg27 arg28 arg29) (leaves arg20 harg20 arg22 harg22) := by
  unfold cc0_rmsnorm_int4_qkv_rope k0_part499 k0_part453
  simp -zeta -iota -proj only [Scf.Loop.for, Scf.for_eq]
  sl_kernel_rfl

end

end Cert.Proof.KIBody
-- ==== Proof.FrameKI.lean ====
/-
  The buffers and semaphores of `KI`, its body safe, and its frame.
-/
module

public import proofs.«01_k».proof.Proof.Gen.KI.Launch
public import proofs.«01_k».proof.Proof.Gen.KI.Points
public import proofs.«01_k».proof.Proof.Gen.KI.Frame
public import proofs.«01_k».proof.Proof.BodyKI
public import proofs.«01_k».proof.Proof.Safe
public import proofs.«01_k».proof.Proof.Whole
public import Idealize.ShloMosaic.Lib.Pipeline.FrameBody
public import Idealize.ShloMosaic.Lib.Pipeline.FrameSuffix
public import Idealize.ShloMosaic.Lib.Tactic

@[expose] public section

set_option maxRecDepth 16384

noncomputable section

namespace Cert.Proof.KIFrame

open Cert.KI Cert.KI.Gen Cert.Proof.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Buffers and semaphores -/

def R0 : Refs sig := Cert.Proof.KIBody.refs (Memref.whole main_v0) (Memref.isWhole_whole _) (Memref.whole main_v1) (Memref.isWhole_whole _) (Memref.whole main_v2) (Memref.isWhole_whole _) (Memref.whole main_v6) (Memref.isWhole_whole _) (Memref.whole main_arg4) (Memref.isWhole_whole _) (Memref.whole main_v7_0) (Memref.isWhole_whole _) (Memref.whole main_v7_1) (Memref.isWhole_whole _) (Memref.whole main_v7_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.whole cc0_scratch6) (Memref.whole cc0_scratch7) (Memref.whole cc0_scratch8) (Memref.whole cc0_scratch9) (Memref.isWhole_whole _) (Memref.whole cc0_scratch10) (Memref.whole cc0_scratch11) (Memref.whole cc0_scratch13) (Memref.whole cc0_scratch15) (Memref.isWhole_whole _) cc0_scratch16 cc0_scratch17 cc0_scratch18 cc0_scratch19 cc0_scratch20 cc0_scratch21

def L0 : Leaves F (Prog (TpuEff nD τ sig (Elt F) Λ₀ .tc) PUnit.{1}) :=
  Cert.Proof.KIBody.leaves (Memref.whole cc0_scratch12) (Memref.isWhole_whole _) (Memref.whole cc0_scratch14) (Memref.isWhole_whole _)

/-- The buffers the body names, in order. -/
abbrev order : List (Ref sig .tc) :=
  [main_v0, main_v1, main_v2, main_v6, main_arg4, main_v7_0, main_v7_1, main_v7_2, cc0_scratch0, cc0_scratch1, cc0_scratch2,
    cc0_scratch3, cc0_scratch4, cc0_scratch5, cc0_scratch6, cc0_scratch7, cc0_scratch8, cc0_scratch9, cc0_scratch10,
    cc0_scratch11, cc0_scratch12, cc0_scratch13, cc0_scratch14, cc0_scratch15]

abbrev HH : Finset (Ref sig .tc) := {main_v0, main_v1, main_v2, main_v6, main_arg4}
abbrev RR : Finset (Ref sig .tc) := {main_v7_0, main_v7_1, main_v7_2}
abbrev TT : Finset (Ref sig .tc) := {main_v8, main_v9, main_v10}
abbrev SS : Finset (Ref sig .tc) := (Finset.univ.filter fun b : Ref sig .tc => b.isScoped) \ Finset.univ.image (Pipeline.stageRef (cfg0.spec))

theorem mem_SS {b : Ref sig .tc} : b ∈ SS ↔ b.isScoped = true := by
  simp [SS]

theorem mem_all (b : Ref sig .tc) (h : b ∈ order) : b ∈ SS ∪ (HH ∪ RR) := by
  have : ∀ b ∈ order, b.isScoped = true ∨ b ∈ HH ∪ RR := by decide
  rcases this b h with h | h
  · exact Finset.mem_union_left _ (mem_SS.mpr h)
  · exact Finset.mem_union_right _ h

theorem disjSS : Disjoint SS (HH ∪ RR) := Finset.disjoint_left.mpr fun b h h' => by
  have : ∀ b ∈ HH ∪ RR, ¬ b.isScoped = true := by decide
  exact this b h' (mem_SS.mp h)

def semNo : Tag → ℕ
  | .nw => 4
  | .pos => 5
  | .x c => c.val
  | .wp s => 6 + s.val
  | .ws s => 18 + s.val
  | .o o => 30 + o.val

theorem semNo_eq (t : Tag) : (semOf R0 t).val = semNo t := by
  cases t with
  | nw => decide
  | pos => decide
  | x c => revert c; decide
  | ws c => revert c; decide
  | wp c => revert c; decide
  | o c => revert c; decide

theorem semNo_inj {s t : Tag} (h : semNo s = semNo t) : s = t := by
  cases s <;> cases t <;> simp only [semNo] at h <;> first
    | rfl
    | (exfalso; omega)
    | (congr 1; apply Fin.ext; omega)

def S0 : Setup R0 (SS ∪ (HH ∪ RR)) (Finset.univ : Finset (DmaSem sig)) where
  n b := order.idxOf b
  mem b h := mem_all b (List.idxOf_lt_length_iff.mp h)
  W := (order.drop 5).toFinset
  memW b h := ⟨mem_all b (List.idxOf_lt_length_iff.mp h.2), by
    have : ∀ b ∈ order, 5 ≤ order.idxOf b → b ∈ (order.drop 5).toFinset := by decide
    exact this b (List.idxOf_lt_length_iff.mp h.2) h.1⟩
  n0 := by decide
  n1 := by decide
  n2 := by decide
  n3 := by decide
  n4 := by decide
  n5 := by decide
  n6 := by decide
  n7 := by decide
  n8 := by decide
  n9 := by decide
  n10 := by decide
  n11 := by decide
  n12 := by decide
  n13 := by decide
  n14 := by decide
  n15 := by decide
  n16 := by decide
  n17 := by decide
  n18 := by decide
  n19 := by decide
  n21 := by decide
  n23 := by decide
  semInj s t h := semNo_inj (by rw [← semNo_eq, ← semNo_eq, h])
  semMem _ := Finset.mem_univ _

theorem n20 : S0.n (Memref.whole cc0_scratch12 : Memref sig .tc .vmem _ _).view.ref = 20 := by decide
theorem n22 : S0.n (Memref.whole cc0_scratch14 : Memref sig .tc .vmem _ _).view.ref = 22 := by decide

theorem leafSafe (d : Dev nD) : LeafSafe (F := F) S0 d L0 where
  scaleSt p m a b K G hk :=
    ok_load (by rw [n20]; decide) (off_free (by rw [n20]; decide)) fun _ => ok_store (by rw [n20]; decide) (off_free (by rw [n20]; decide)) <|
    ok_load (by rw [n20]; decide) (off_free (by rw [n20]; decide)) fun _ => ok_store (by rw [n20]; decide) (off_free (by rw [n20]; decide)) hk
  scaleLd p m K G hk := ok_load (by rw [n20]; decide) (off_free (by rw [n20]; decide)) fun _ => hk _
  turn m e0 e1 o0 o1 K G hk :=
    ok_load (by rw [n22]; decide) (off_free (by rw [n22]; decide)) fun _ => ok_store (by rw [n22]; decide) (off_free (by rw [n22]; decide)) <|
    ok_load (by rw [n22]; decide) (off_free (by rw [n22]; decide)) fun _ => ok_store (by rw [n22]; decide) (off_free (by rw [n22]; decide)) <|
    ok_load (by rw [n22]; decide) (off_free (by rw [n22]; decide)) fun _ => hk _

theorem body_main (t : Fin cfg0.N) : bodyAt0 (F := F) t = main R0 L0 := Cert.Proof.KIBody.body_eq ..

theorem body_safe (d : Dev nD) (t : Fin cfg0.N) :
    Logic.Safe d (SS ∪ (HH ∪ RR)) S0.W Finset.univ (fun _ σ => σ = (plan (τ := τ) S0 d).st ∅) (bodyAt0 (F := F) t) ((plan S0 d).st ∅) := by
  rw [body_main]; exact safe_main S0 d (leafSafe d)

theorem body_any (d : Dev nD) (t : Fin cfg0.N) (f : Logic.Conts τ sig (Elt F) d) :
    Logic.Con d (fun _ _ => True) (bodyAt0 (F := F) t) f := by
  have h := body_safe (F := F) d t
  revert h
  generalize bodyAt0 (F := F) t = p
  exact fun h => h.any

theorem keepHH : ∀ b ∈ HH, b ∉ S0.W := by decide

/-- The body's triple, for any fact about the contents at its end. -/
theorem body_whole (d : Dev nD) (t : Fin cfg0.N) {V : Logic.Conts τ sig (Elt F) d} {Q : Logic.Conts τ sig (Elt F) d → Prop}
    (hc : ∀ f : Logic.Conts τ sig (Elt F) d, (∀ b ∈ HH, f b = V b) → Logic.Con d (fun _ f' => Q f') (bodyAt0 t) f) :
    (iprop((bigSep SS fun b => iprop(∃ v, (d.tc : Thread nD τ).loc b ↦{fullShare} v))
        ∗ (bigSep (Finset.univ : Finset (DmaSem sig)) fun s => semVal ((d.tc : Thread nD τ), .dma s) 0)
        ∗ Logic.held d HH V
        ∗ (bigSep RR fun b => iprop(∃ v, (d.tc : Thread nD τ).loc b ↦{fullShare} v)) ∗ ∃ W, owes d.tc 0 W) : sProp 𝕄)
      ⊢ wp frame (wpE (defs₀ (F := F)) Variants.none (d.tc : Thread nD τ) none) Set.univ (bodyAt0 t) (fun _ => iprop(∃ f', ⌜Q f'⌝
          ∗ (bigSep SS fun b => iprop(∃ v, (d.tc : Thread nD τ).loc b ↦{fullShare} v))
          ∗ (bigSep (Finset.univ : Finset (DmaSem sig)) fun s => semVal ((d.tc : Thread nD τ), .dma s) 0)
          ∗ Logic.held d HH V ∗ Logic.held d RR f' ∗ ∃ W, owes d.tc 0 W)) :=
  Logic.whole (Ix := Unit) (Name := ℕ) (U := Pipeline.UD sig nD τ) (Lvl := ℕ) (defs := defs₀ (F := F)) countersEmb
    Variants.none none () disjSS (by decide) keepHH (plan S0 d) (body_safe d t) hc

theorem body_skips (d : Dev nD) (t : Fin cfg0.N) (V : Logic.Conts τ sig (Elt F) d) :
    (iprop((bigSep SS fun b => iprop(∃ v, (d.tc : Thread nD τ).loc b ↦{fullShare} v))
        ∗ (bigSep (Finset.univ : Finset (DmaSem sig)) fun s => semVal ((d.tc : Thread nD τ), .dma s) 0)
        ∗ Logic.held d HH V
        ∗ (bigSep RR fun b => iprop(∃ v, (d.tc : Thread nD τ).loc b ↦{fullShare} v)) ∗ ∃ W, owes d.tc 0 W) : sProp 𝕄)
      ⊢ wp frame (wpE (defs₀ (F := F)) Variants.none (d.tc : Thread nD τ) none) Set.univ (bodyAt0 t) (fun _ => iprop(∃ f', ⌜True⌝
          ∗ (bigSep SS fun b => iprop(∃ v, (d.tc : Thread nD τ).loc b ↦{fullShare} v))
          ∗ (bigSep (Finset.univ : Finset (DmaSem sig)) fun s => semVal ((d.tc : Thread nD τ), .dma s) 0)
          ∗ Logic.held d HH V ∗ Logic.held d RR f' ∗ ∃ W, owes d.tc 0 W)) := by
  refine body_whole d t (V := V) (Q := fun _ => True) ?_
  intro f _
  have h := body_any (F := F) d t f
  revert h
  generalize bodyAt0 (F := F) t = p
  exact id

/-! ## The frame -/

abbrev osem0 : Fin 36 → SemLoc sig := fun j => .dma j

theorem ownSemFacts0 : Pipeline.OwnSemFacts (cfg0.spec) osem0 := by decide

variable (m : (ℓ : Loc nD τ sig) → Buf (Elt F) ℓ) (ρ : Dev nD → PrngReg)

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

def dats (_ : Fin 1) (c : Dev nD) : Dat τ (Elt F) Unit ℕ (Pipeline.UD sig nD τ) ℕ cfg0 c where
  A w := w.elim0
  after w t := w.elim0
  Φ _ := Pipeline.ΦDR osem0 (cfg0.spec) HH RR (V m) c
  q _ := fullShare
  owed _ := 0

theorem sound_body (c : Dev nD) (t : Fin cfg0.N) :
    (iprop((dats (F := F) m 0 c).Φ t.castSucc ∗ (dats (F := F) m 0 c).owesAt () t.castSucc) : sProp 𝕄)
      ⊢ wp frame (wpE (defs₀ (F := F)) Variants.none c none) Set.univ (bodyAt0 t)
        (fun _ => iprop((dats (F := F) m 0 c).Φ t.succ ∗ (dats (F := F) m 0 c).owesAt () t.succ)) := by
  have hw := body_skips (F := F) c t (V m c)
  unfold Dat.owesAt Pipeline.owesWithin
  rw [show (dats m 0 c).owed t.castSucc = 0 from rfl, show (dats m 0 c).owed t.succ = 0 from rfl,
    show (dats m 0 c).Φ t.succ = Pipeline.ΦDR osem0 (cfg0.spec) HH RR (V m) c from rfl,
    show (dats m 0 c).Φ t.castSucc = Pipeline.ΦDR osem0 (cfg0.spec) HH RR (V m) c from rfl, Pipeline.ΦDR_eq]
  unfold Pipeline.scopedRest Pipeline.ownSems0 Pipeline.owned
  rw [show (bigSep HH (fun b => ((c.tc : Thread nD τ).loc b) ↦{fullShare} V m c b) : sProp 𝕄) = Logic.held c HH (V m c) from rfl]
  iintro ⟨⟨HS, Hg, HT, Hh, HR⟩, ⟨%W, -, HW⟩⟩
  iapply (wp_wand_r frame (wpE (defs₀ (F := F)) Variants.none (c.tc : Thread nD τ) none) Set.univ)
  isplitl [HS HT Hh HR HW]
  · iapply hw
    isplitl [HS]; · iexact HS
    isplitl [HT]; · iexact HT
    isplitl [Hh]; · iexact Hh
    isplitl [HR]; · iexact HR
    iexists _; iexact HW
  iintro %_ ⟨%f', -, HS, HT, Hh, HR, ⟨%W', HW⟩⟩
  isplitl [HS Hg HT Hh HR]
  · isplitl [HS]; · iexact HS
    isplitl [Hg]; · iexact Hg
    isplitl [HT]; · iexact HT
    isplitl [Hh]; · iexact Hh
    iapply (Logic.held_forget (d := c) RR f'); iexact HR
  iexists W'
  isplitr; · ipureintro; exact fun _ _ => Or.inl trivial
  iexact HW

theorem sfx_writes : ∀ ops ∈ ([hostOps1] : List (List (HloOp τ sig (Elt F)))), ∀ op ∈ ops,
    ∀ b : Ref sig .tc, Proc.devRef .tc b ∈ op.writes → b ∈ TT := by
  intro ops hops op hop b hb
  simp only [List.mem_cons, List.mem_nil_iff, or_false] at hops
  subst hops
  simp only [hostOps1, List.mem_cons, List.mem_nil_iff, or_false] at hop
  rcases hop with rfl | rfl | rfl
  all_goals
    have h := Finset.mem_singleton.mp hb
    have h := Proc.devRef_injective _ h
    subst h
    decide

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  · iintro ⟨H, H', -⟩
    isplitl [H]; · iexact H
    iexact H'
  · iintro ⟨H, H'⟩
    isplitl [H]; · iexact H
    isplitl [H']; · iexact H'
    rw [Finset.univ_eq_empty, BI.bigSep_empty]
    iempintro

set_option backward.isDefEq.respectTransparency.types false in
theorem run_main : θ_run defs (onTc (τ := τ) (main (F := F))) (s₀ m ρ)
    (fun r => Pipeline.FramePostR cfgs (dats m) 0 (RR ∪ TT) (V m) r ∧ r.2.sem = fun _ => 0) :=
  Pipeline.θ_run_frame_dmaR_around (Q' := _) cfgs (dats m) (0 : Fin 1) launch0 osem0 defs₀ Variants.none ownSemFacts0 HH RR TT
    (by decide) (by decide) m ρ main
    (hbody := fun c => (body_obligation m c).loose) (hshare := fun c => (dats m 0 c).share_full fun _ => rfl)
    (howed := fun _ _ => rfl) (V₀ := V0 m) (opss := [hostOps1]) sfx_sub sfx_fresh sfx_keeps sfx_writes
    (hmain := hmain m Variants.none) (hA := fun _ w => w.elim0)
    (hin := fun _ => .rfl) (hout := fun _ => .rfl)

theorem rest {c : Dev nD} {b : Ref sig .tc} {r : PUnit × MemSt nD τ sig (Elt F)}
    (h : Pipeline.FramePostR cfgs (dats m) 0 (RR ∪ TT) (V m) r) (hb : b ∈ Pipeline.restRefs sig (cfg0.spec)) (hb' : b ∉ RR ∪ TT) :
    r.2.mem ((c.tc : Thread nD τ).loc b) = V m c b := (h c).2 b (Finset.mem_sdiff.mpr ⟨hb, hb'⟩)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(rest m h.1 (Pipeline.mem_restRefs_of main_arg0 (by decide) (by decide)) (by decide)).trans (V_main_arg0 m c),
     (rest m h.1 (Pipeline.mem_restRefs_of main_arg1 (by decide) (by decide)) (by decide)).trans (V_main_arg1 m c),
     (rest m h.1 (Pipeline.mem_restRefs_of main_arg2 (by decide) (by decide)) (by decide)).trans (V_main_arg2 m c),
     (rest m h.1 (Pipeline.mem_restRefs_of main_arg3 (by decide) (by decide)) (by decide)).trans (V_main_arg3 m c),
     (rest m h.1 (Pipeline.mem_restRefs_of main_arg4 (by decide) (by decide)) (by decide)).trans (V_main_arg4 m c)⟩, h.2⟩) (run_main m ρ)

end Cert.Proof.KIFrame
-- ==== Proof.Val.Base.lean ====
/-
  The values at the extended reals: the buffers by name, contents read at indices, and how loops keep what is known.
-/
module

public import proofs.«01_k».proof.Proof.FrameKI
public import Idealize.ShloMosaic.Lib.Pointwise
public import Idealize.ShloMosaic.Lib.ViewIndex

@[expose] public section

set_option maxRecDepth 16384

noncomputable section

namespace Cert.Proof.Val

open Cert.KI Cert.KI.Gen Cert.Proof.Body Cert.Proof.KIFrame
open Idealize.ShloMosaic Idealize.SL.Sem

variable {d : Dev nD}

abbrev C (d : Dev nD) : Type := Logic.Conts τ sig (Elt Ideal) d
abbrev Pr : Type 1 := Prog (TpuEff nD τ sig (Elt Ideal) Λ₀ .tc) PUnit.{1}

/-- The program ends, if it ends, with contents in `Q`. -/
def Run (Q : C d → Prop) (p : Pr) (f : C d) : Prop := Logic.Con d (fun _ f' => Q f') p f

variable {Q : C d → Prop}

theorem run_rep {step : ℕ → Pr → Pr} (I : ℕ → C d → Prop) (n : ℕ) : ∀ (c : ℕ) {K : Pr} {f : C d},
    (∀ k, c ≤ k → k < c + n → ∀ (K : Pr) (f : C d), I k f → (∀ f', I (k + 1) f' → Run Q K f') → Run Q (step k K) f) →
    I c f → (∀ f', I (c + n) f' → Run Q K f') → Run Q (rep step n c K) f := by
  induction n with
  | zero => intro c K f _ h hK; exact hK f h
  | succ n ih =>
    intro c K f hs h hK
    rw [rep_succ]
    refine hs c le_rfl (by omega) _ f h fun f' h' => ?_
    refine ih (c + 1) (fun k h1 h2 => hs k (by omega) (by omega)) h' fun f'' h'' => hK f'' ?_
    rwa [show c + (n + 1) = c + 1 + n by omega]

theorem run_iter {β : Type} {step : ℕ → (β → Pr) → β → Pr} (I : ℕ → β → C d → Prop) (n : ℕ) :
    ∀ (c : ℕ) {K : β → Pr} {b : β} {f : C d},
    (∀ k, c ≤ k → k < c + n → ∀ (K : β → Pr) (b : β) (f : C d), I k b f →
      (∀ b' f', I (k + 1) b' f' → Run Q (K b') f') → Run Q (step k K b) f) →
    I c b f → (∀ b' f', I (c + n) b' f' → Run Q (K b') f') → Run Q (iter step n c K b) f := by
  induction n with
  | zero => intro c K b f _ h hK; exact hK b f h
  | succ n ih =>
    intro c K b f hs h hK
    rw [iter_succ]
    refine hs c le_rfl (by omega) _ b f h fun b' f' h' => ?_
    refine ih (c + 1) (fun k h1 h2 => hs k (by omega) (by omega)) h' fun b'' f'' h'' => hK b'' f'' ?_
    rwa [show c + (n + 1) = c + 1 + n by omega]

/-- A write through a view, at an element. -/
theorem write_cases {κ : Kind} {sp : Space} {s : Shape} {e : EltTy} {Vl : EltTy → Type} (v : View sig κ sp s e) (f : v.ty.Contents Vl) (w : s.Idx → Vl e)
    (i : v.ty.Idx) :
    (∃ x, v.emb x = i ∧ v.write Vl f w Finset.univ i = _root_.cast (congrArg Vl v.elt_eq.symm) (w x))
      ∨ ((∀ x, v.emb x ≠ i) ∧ v.write Vl f w Finset.univ i = f i) := by
  by_cases h : ∃ x, v.emb x = i
  · obtain ⟨x, rfl⟩ := h
    exact .inl ⟨x, rfl, View.write_emb_of_mem f w (Finset.mem_univ x)⟩
  · refine .inr ⟨fun x hx => h ⟨x, hx⟩, View.write_of_not_mem f w _ fun hm => ?_⟩
    obtain ⟨x, -, e⟩ := Finset.mem_map.mp hm
    exact h ⟨x, e⟩

/-! ## Buffers -/

def g8 (f : C d) : T256x4096.Idx → EReal := f cc0_scratch0
def g9 (f : C d) : T32x128.Idx → EReal := f cc0_scratch1
def g10 (f : C d) : T2x128.Idx → BitVec 32 := f cc0_scratch2
def g11 (f : C d) : T6144x4x128.Idx → BitVec 32 := f cc0_scratch3
def g12 (f : C d) : T6144x128.Idx → EReal := f cc0_scratch4
def g13 (f : C d) : T2x2176x128.Idx → EReal := f cc0_scratch5
def g14 (f : C d) : T2x2176x128.Idx → EReal := f cc0_scratch6
def g15 (f : C d) : T2176x128.Idx → EReal := f cc0_scratch7
def g16 (f : C d) : T2176x128.Idx → EReal := f cc0_scratch8
def g17 (f : C d) : T16x2x256x128.Idx → EReal := f cc0_scratch9
def g18 (f : C d) : T2x64x128.Idx → EReal := f cc0_scratch10
def g19 (f : C d) : T2x64x128.Idx → EReal := f cc0_scratch11
def g20 (f : C d) : S2x2x128x2x128.Idx → EReal := f cc0_scratch12
def g21 (f : C d) : T2x2x256x128.Idx → EReal := f cc0_scratch13
def g22 (f : C d) : S2x128x2x128.Idx → EReal := f cc0_scratch14
def g23 (f : C d) : T6x256x8x128.Idx → EReal := f cc0_scratch15

theorem run_load {cs : CoreSpace} {s : Shape} {e : EltTy} (m : Memref sig .tc cs s e) (r : LoadRect s) (h : m.view.LoadsAt r)
    (k : (r.shape.Idx → Elt Ideal e) → Pr) {f : C d} (hk : Run Q (k (m.view.readAt (Elt Ideal) r (f m.view.ref))) f) :
    Run Q (.op (.load m r h) k) f := hk

theorem run_load' {cs : CoreSpace} {s : Shape} {e : EltTy} (m : Memref sig .tc cs s e) (r : LoadRect s) (h : m.view.LoadsAt r)
    (k : (r.shape.Idx → Elt Ideal e) → Pr) {f : C d}
    (hk : ∀ v, v = m.view.readAt (Elt Ideal) r (f m.view.ref) → Run Q (k v) f) : Run Q (.op (.load m r h) k) f := hk _ rfl

theorem run_store {cs : CoreSpace} {s : Shape} {e : EltTy} (m : Memref sig .tc cs s e) (r : Rect s) (w : r.shape.Idx → Elt Ideal e)
    (h : (m.access r).Stores Finset.univ) (hm : (Finset.univ : Finset r.shape.Idx) = Finset.univ ∨ ∀ a, r.stride a = 1)
    (k : PUnit → Pr) {f : C d}
    (hk : ∀ f' : C d, (∀ b, b ≠ m.view.ref → f' b = f b) →
      (∀ i : (m.access r).ty.Idx, (∃ x, (m.access r).emb x = i ∧ f' m.view.ref i = _root_.cast (congrArg (Elt Ideal) (m.access r).elt_eq.symm) (w x))
        ∨ ((∀ x, (m.access r).emb x ≠ i) ∧ f' m.view.ref i = f m.view.ref i)) → Run Q (k ⟨⟩) f') :
    Run Q (.op (.store m r w Finset.univ h hm) k) f := by
  refine hk (Function.update f m.view.ref _) (fun b hb => Function.update_of_ne hb _ _) fun i => ?_
  rw [Function.update_self]
  exact write_cases (m.access r) (f m.view.ref) w i

/-- A copy, done when it is started. -/
theorem run_copy {sp sp' : Space} {s : Shape} {e : EltTy} (src : Memref sig .tc sp s e) (dst : Memref sig .tc sp' s e) (sem : DmaSem sig)
    (hsrc : src.view.WordExact) (hdst : dst.view.WordExact)
    (hsem : DmaTarget.Typed (nD := nD) (τ := τ) (p := .tc) sp (.dma sem) (.here dst)) (k : PUnit → Pr) {f : C d}
    (hk : ∀ f' : C d, (∀ b, b ≠ dst.view.ref → f' b = f b) →
      (∀ i : dst.view.ty.Idx, (∃ x, dst.view.emb x = i ∧ f' dst.view.ref i = _root_.cast (congrArg (Elt Ideal) dst.view.elt_eq.symm)
          (src.view.read (Elt Ideal) (f src.view.ref) x))
        ∨ ((∀ x, dst.view.emb x ≠ i) ∧ f' dst.view.ref i = f dst.view.ref i)) → Run Q (k ⟨⟩) f') :
    Run Q (.op (.enqueueDma src (.here dst) (.dma sem) hsrc hdst hsem) k) f := by
  refine hk (Function.update f dst.view.ref _) (fun b hb => Function.update_of_ne hb _ _) fun i => ?_
  rw [Function.update_self]
  exact write_cases dst.view (f dst.view.ref) _ i

/-- An assumption is a hypothesis. -/
theorem run_assume {φ : Prop} {dec : Decidable φ} {k : PLift φ → Pr} {f : C d} (hk : ∀ h, Run Q (k h) f) : Run Q (.op (.assume φ dec) k) f := fun h => hk h

end Cert.Proof.Val
-- ==== Proof.Val.Fill.lean ====
/-
  What the splitting of the tiles leaves in the planes, at any buffers.
-/
module

public import proofs.«01_k».proof.Proof.Val.Base

@[expose] public section

set_option maxRecDepth 16384

noncomputable section

namespace Cert.Proof.Val

open Cert.KI Cert.KI.Gen Cert.Proof.Body Cert.Proof.KIFrame
open Idealize.ShloMosaic Idealize.SL.Sem

variable {d : Dev nD} {Q : C d → Prop}

theorem idx2_ext {d : Fin 2 → Nat} {x y : (⟨2, d⟩ : Shape).Idx} (h0 : (x 0).val = (y 0).val) (h1 : (x 1).val = (y 1).val) : x = y :=
  funext fun a => Fin.ext (by revert a; exact Fin.forall_fin_two.mpr ⟨h0, h1⟩)

/-- A tile's row, by number. -/
def row64 (v : T64x128.Idx → EReal) (n : ℕ) (l : Fin 128) : EReal := v (ix2 (Fin.ofNat 64 n) l)

/-- The element of plane row `i` (group `i % 136`, plane `i / 136`) after the first `n` eight-row steps of tile `t`. -/
def tilePut (t n : ℕ) (v : T64x128.Idx → EReal) (g : T2176x128.Idx → EReal) : T2176x128.Idx → EReal := fun i =>
  if (i 0).val % 136 / 4 = t ∧ 2 * ((i 0).val % 136 % 4) + (i 0).val / 136 / 8 < n then
    row64 v (16 * ((i 0).val % 136 % 4) + (i 0).val / 136) (i 1) else g i

/-- What a view shows. -/
def rdv (m : Memref sig .tc .vmem T2176x128 .f32) (f : C d) : T2176x128.Idx → EReal := m.view.read (Elt Ideal) (f m.view.ref)

theorem cast_cast_elt {e e' : EltTy} (h : e' = e) (x : Elt Ideal e) : _root_.cast (congrArg (Elt Ideal) h) (_root_.cast (congrArg (Elt Ideal) h.symm) x) = x := by
  subst h; rfl

theorem run_half (m : Memref sig .tc .vmem T2176x128 .f32) {t r n : ℕ} (ht : t < 32) (hr : r < 8) (hn : n / 2 = r) {v : FVec Ideal T64x128 .f32} {K : Pr} {f : C d}
    {g : T2176x128.Idx → EReal} (hg : rdv m f = tilePut t r v g)
    (hk : ∀ f' : C d, (∀ b, b ≠ m.view.ref → f' b = f b) → (∀ i, (∀ x, m.view.emb x ≠ i) → f' m.view.ref i = f m.view.ref i) →
      rdv m f' = tilePut t (r + 1) v g → Run Q K f') :
    Run Q (half m t n v K) f := by
  refine run_load _ _ _ _ <| run_store _ _ _ _ _ _ fun f' hb hi => hk f' hb (fun i hx => ?_) (funext fun i => ?_)
  · rcases hi i with ⟨x, hx', e⟩ | ⟨_, e⟩
    · exact absurd hx' (hx _)
    · exact e
  have hro : rowOff t n = 1088 * (r % 2) + 4 * t + r / 2 := by
    unfold rowOff; rw [hn, Nat.mod_eq_of_lt hr, Nat.mod_eq_of_lt ht]
  have hoff : 8 * (n / 2 % 8) = 8 * r := by rw [hn, Nat.mod_eq_of_lt hr]
  have hi0 : (i 0).val < 2176 := (i 0).isLt
  unfold tilePut
  rcases hi (m.view.emb i) with ⟨x, hx, e⟩ | ⟨hx, e⟩
  · have hx' : (planeRows (rowOff t n) (rowOff_lt t n)).idx x = i := m.view.emb.injective hx
    have h0 : (i 0).val = rowOff t n + 136 * (x 0).val := by rw [← hx']; rfl
    have h1 : i 1 = x 1 := by rw [← hx']; refine Fin.ext ?_; show 0 + 1 * (x 1).val = _; omega
    have hx0 : (x 0).val < 8 := (x 0).isLt
    have hd : (i 0).val / 136 = 8 * (r % 2) + (x 0).val := by omega
    have hm : (i 0).val % 136 = 4 * t + r / 2 := by omega
    have hq : (4 * t + r / 2) / 4 = t := by omega
    have hq' : (4 * t + r / 2) % 4 = r / 2 := by omega
    have hp : (8 * (r % 2) + (x 0).val) / 8 = r % 2 := by omega
    rw [hd, hm, hq, hq', hp, if_pos ⟨rfl, by omega⟩]
    refine (View.read_apply ..).trans ?_
    rw [e]
    refine (cast_cast_elt m.view.elt_eq _).trans ?_
    show shapeCast T8x128 (extractStridedSlice T8x128 ![8 * (n / 2 % 8), 0] v (slices8 n)) sc8 x = _
    unfold row64
    rw [shapeCast_self]
    show v _ = v _
    congr 1
    refine idx2_ext ?_ ?_
    · show 8 * (n / 2 % 8) + (x 0).val = _ % 64
      omega
    · rw [h1]; show 0 + (x 1).val = (x 1).val; omega
  · have hr' : rdv m f' i = rdv m f i := by
      refine (View.read_apply ..).trans (Eq.trans ?_ (View.read_apply ..).symm)
      rw [e]
    rw [hr', hg]
    unfold tilePut
    by_cases h : (i 0).val % 136 / 4 = t ∧ 2 * ((i 0).val % 136 % 4) + (i 0).val / 136 / 8 < r
    · rw [if_pos h, if_pos (by omega)]
    · rw [if_neg h, if_neg]
      intro hc
      have hx' := hx (ix2 ⟨(i 0).val / 136 % 8, Nat.mod_lt _ (by decide)⟩ (i 1))
      refine hx' (congrArg m.view.emb ?_)
      refine idx2_ext ?_ ?_
      · show rowOff t n + 136 * ((i 0).val / 136 % 8) = _
        have hd := Nat.div_add_mod (i 0).val 136
        generalize (i 0).val / 136 = a at *
        generalize (i 0).val % 136 = b at *
        omega
      · show 0 + 1 * (i 1).val = _; omega

/-- A tile in the planes. -/
theorem run_rows (m n : Memref sig .tc .vmem T2176x128 .f32) (hne : m.view.ref ≠ n.view.ref) {t : ℕ} (ht : t < 32) {lo hi : FVec Ideal T64x128 .f32} {K : Pr} {f : C d}
    (hk : ∀ f' : C d, (∀ b, b ≠ m.view.ref → b ≠ n.view.ref → f' b = f b) →
      (∀ i, (∀ x, m.view.emb x ≠ i) → f' m.view.ref i = f m.view.ref i) →
      (∀ i, (∀ x, n.view.emb x ≠ i) → f' n.view.ref i = f n.view.ref i) →
      rdv m f' = tilePut t 8 lo (rdv m f) → rdv n f' = tilePut t 8 hi (rdv n f) → Run Q K f') :
    Run Q (rows m n t lo hi K) f := by
  have hcg : ∀ (m : Memref sig .tc .vmem T2176x128 .f32) (a b : C d), a m.view.ref = b m.view.ref → rdv m a = rdv m b := by
    intro m a b h; unfold rdv; rw [h]
  refine run_rep (fun r f' => (∀ b, b ≠ m.view.ref → b ≠ n.view.ref → f' b = f b) ∧
      (∀ i, (∀ x, m.view.emb x ≠ i) → f' m.view.ref i = f m.view.ref i) ∧
      (∀ i, (∀ x, n.view.emb x ≠ i) → f' n.view.ref i = f n.view.ref i) ∧
      rdv m f' = tilePut t r lo (rdv m f) ∧ rdv n f' = tilePut t r hi (rdv n f)) 8 0 ?_ ?_ ?_
  · rintro r - hr K f1 ⟨h1, h2, h3, h4, h5⟩ hK
    refine run_half m ht (by omega) (by omega) h4 fun f2 a1 a2 a3 => ?_
    refine run_half n ht (by omega) (by omega) ((hcg n _ _ (a1 _ hne.symm)).trans h5) fun f3 b1 b2 b3 => hK f3 ⟨?_, ?_, ?_, ?_, b3⟩
    · intro b hm hn; exact (b1 b hn).trans ((a1 b hm).trans (h1 b hm hn))
    · intro i hi; rw [b1 _ hne]; exact (a2 i hi).trans (h2 i hi)
    · intro i hi; rw [b2 i hi, a1 _ hne.symm]; exact h3 i hi
    · rw [hcg m _ _ (b1 _ hne)]; exact a3
  · refine ⟨fun _ _ _ => rfl, fun _ _ => rfl, fun _ _ => rfl, ?_, ?_⟩ <;>
    · funext i; unfold tilePut; rw [if_neg (by omega)]
  · rintro f' ⟨h1, h2, h3, h4, h5⟩
    exact hk f' h1 h2 h3 h4 h5

end Cert.Proof.Val
-- ==== Proof.Val.Fill2.lean ====
/-
  The planes after the tiles: every column of `x` and of the norm's weight has its place.
-/
module

public import proofs.«01_k».proof.Proof.Val.Fill

@[expose] public section

set_option maxRecDepth 16384

noncomputable section

namespace Cert.Proof.Val

open Cert.KI Cert.KI.Gen Cert.Proof.Body Cert.Proof.KIFrame
open Idealize.ShloMosaic Idealize.SL.Sem

variable {d : Dev nD} {Q : C d → Prop}

/-- The kernel's arguments, read by numbers. -/
structure Ar where
  X : ℕ → ℕ → EReal
  NW : ℕ → EReal
  PO : ℕ → ℕ → BitVec 32
  WP : ℕ → ℕ → ℕ → BitVec 32
  WS : ℕ → ℕ → EReal

variable (A : Ar)

/-- The planes hold the columns of the first `t` tiles. -/
def PL (sp : ℕ → Fin 128 → EReal) (t : ℕ) (g : T2176x128.Idx → EReal) : Prop :=
  ∀ i, (i 0).val % 136 / 4 < t → g i = sp (32 * ((i 0).val % 136) + 2 * ((i 0).val / 136)) (i 1)

theorem PL_step {sp : ℕ → Fin 128 → EReal} {t : ℕ} {g : T2176x128.Idx → EReal} (h : PL sp t g) {v : T64x128.Idx → EReal}
    (hv : ∀ n < 64, ∀ l, row64 v n l = sp (128 * t + 2 * n) l) : PL sp (t + 1) (tilePut t 8 v g) := by
  intro i hi
  have hi0 : (i 0).val < 2176 := (i 0).isLt
  unfold tilePut
  by_cases hc : (i 0).val % 136 / 4 = t
  · rw [if_pos ⟨hc, by omega⟩]
    refine (hv _ (by omega) (i 1)).trans ?_
    congr 1; omega
  · rw [if_neg (fun h => hc h.1)]
    exact h i (by omega)

theorem pl_at (v : FVec Ideal T128x128 .bf16) (r : Fin 64) (l : Fin 128) :
    (L0 (F := Ideal)).pl v (ix2 r l) = v (ix2 l ⟨2 * r.val, by omega⟩) := by
  show extf (F := Ideal) .f32 (rowsOfParity 0 S64x128 (transpose S128x128 [1, 0] v (by decide)) (by decide)) (by decide) (ix2 r l) = _
  pointwise

theorem ph_at (v : FVec Ideal T128x128 .bf16) (r : Fin 64) (l : Fin 128) :
    (L0 (F := Ideal)).ph v (ix2 r l) = v (ix2 l ⟨2 * r.val + 1, by omega⟩) := by
  show extf (F := Ideal) .f32 (rowsOfParity 1 S64x128 (transpose S128x128 [1, 0] v (by decide)) (by decide)) (by decide) (ix2 r l) = _
  pointwise

theorem pl_row (v : FVec Ideal T128x128 .bf16) {n : ℕ} (hn : n < 64) (l : Fin 128) :
    row64 ((L0 (F := Ideal)).pl v) n l = v (ix2 l ⟨2 * n, by omega⟩) := by
  unfold row64; rw [pl_at]; congr 2; exact Fin.ext (by show 2 * (n % 64) = 2 * n; omega)

theorem ph_row (v : FVec Ideal T128x128 .bf16) {n : ℕ} (hn : n < 64) (l : Fin 128) :
    row64 ((L0 (F := Ideal)).ph v) n l = v (ix2 l ⟨2 * n + 1, by omega⟩) := by
  unfold row64; rw [ph_at]; congr 2; exact Fin.ext (by show 2 * (n % 64) + 1 = 2 * n + 1; omega)

theorem run_wtile {t : ℕ} (ht : t < 32) {K : Pr} {f : C d} (h9 : ∀ i, g9 f i = A.NW (128 * (i 0).val + (i 1).val))
    (h15 : PL (fun c _ => A.NW c) t (g15 f)) (h16 : PL (fun c _ => A.NW (c + 1)) t (g16 f))
    (hk : ∀ f' : C d, (∀ b, b ≠ cc0_scratch7 → b ≠ cc0_scratch8 → f' b = f b) →
      PL (fun c _ => A.NW c) (t + 1) (g15 f') → PL (fun c _ => A.NW (c + 1)) (t + 1) (g16 f') → Run Q K f') :
    Run Q (wtile R0 L0 t K) f := by
  refine run_load' _ _ _ _ fun (v : FVec Ideal T1x128 .bf16) hv => ?_
  have hw : ∀ a b : Fin 128, (truncf .bf16 (broadcastTo T128x128 (shapeCast T1x128 (extf .f32 v (by decide) : FVec Ideal T1x128 .f32) (by decide))
    (by decide)) (by decide) : FVec Ideal T128x128 .bf16) (ix2 a b) = A.NW (128 * t + b.val) := by
    intro a b
    refine Eq.trans (b := v (ix2 0 b)) (by pointwise) ?_
    refine ((congrFun hv _).trans (h9 _)).trans ?_
    show A.NW (128 * (t % 32 + 1 * 0) + (0 + 1 * b.val)) = _
    congr 1; omega
  refine run_rows R0.a15 R0.a16 (by decide) ht fun f' h1 _ _ h4 h5 => hk f' h1 ?_ ?_
  · show PL _ _ (rdv R0.a15 f'); rw [h4]
    refine PL_step h15 fun n hn l => ?_
    rw [pl_row _ hn, hw]
  · show PL _ _ (rdv R0.a16 f'); rw [h5]
    refine PL_step h16 fun n hn l => ?_
    rw [ph_row _ hn, hw]; rfl

/-- Plane buffer `bh` of a pair. -/
def sub3 (g : T2x2176x128.Idx → EReal) (bh : ℕ) : T2176x128.Idx → EReal := fun i => g (ix3 ⟨bh % 2, Nat.mod_lt _ (by decide)⟩ (i 0) (i 1))

theorem emb_planeOf (m : Memref sig .tc .vmem T2x2176x128 .f32) (bh : ℕ) (x : T2176x128.Idx) :
    (planeOf m bh).view.emb x = m.view.emb (ix3 ⟨bh % 2, Nat.mod_lt _ (by decide)⟩ (x 0) (x 1)) := by
  show m.view.emb ((Rect.unit (s := T2x2176x128) ![bh % 2, 0, 0] T1x2176x128.size (bhInb bh)).emb (Shape.reshapeEquiv _ x)) = _
  congr 1
  rw [Shape.reshapeEquiv_cons_one]
  refine Shape.idx3_ext ?_ ?_ ?_
  · show bh % 2 + 1 * 0 = bh % 2; omega
  · show 0 + 1 * (x 0).val = (x 0).val; omega
  · show 0 + 1 * (x 1).val = (x 1).val; omega

theorem rdv_plane13 (bh : ℕ) (f : C d) : rdv (planeOf R0.a13 bh) f = sub3 (g13 f) bh := funext fun x => by
  refine (View.read_apply ..).trans ?_
  rw [emb_planeOf]; rfl

theorem rdv_plane14 (bh : ℕ) (f : C d) : rdv (planeOf R0.a14 bh) f = sub3 (g14 f) bh := funext fun x => by
  refine (View.read_apply ..).trans ?_
  rw [emb_planeOf]; rfl

/-- The sum of squares of each word row over the first `t` tiles. -/
def SQ (bh t : ℕ) (sq : T64x128.Idx → EReal) : Prop :=
  ∀ i, sq i = ∑ u ∈ Finset.range t, (A.X (128 * bh + (i 1).val) (128 * u + 2 * (i 0).val) * A.X (128 * bh + (i 1).val) (128 * u + 2 * (i 0).val)
    + A.X (128 * bh + (i 1).val) (128 * u + 2 * (i 0).val + 1) * A.X (128 * bh + (i 1).val) (128 * u + 2 * (i 0).val + 1))

/-- The planes of batch half `bh` hold the first `t` tiles. -/
def PX (bh t : ℕ) (f : C d) : Prop :=
  PL (fun c l => A.X (128 * bh + l.val) c) t (sub3 (g13 f) bh) ∧ PL (fun c l => A.X (128 * bh + l.val) (c + 1)) t (sub3 (g14 f) bh)

theorem run_xtile {t bh : ℕ} (ht : t < 32) (hb : bh < 2) {sq : FVec Ideal T64x128 .f32} {K : FVec Ideal T64x128 .f32 → Pr} {f : C d}
    (h8 : ∀ i, g8 f i = A.X (i 0).val (i 1).val) (hp : PX A bh t f) (hs : SQ A bh t sq)
    (hk : ∀ (sq' : FVec Ideal T64x128 .f32) (f' : C d), (∀ b, b ≠ cc0_scratch5 → b ≠ cc0_scratch6 → f' b = f b) →
      PX A bh (t + 1) f' → SQ A bh (t + 1) sq' → (∀ bh' t', bh' < 2 → bh' ≠ bh → PX A bh' t' f → PX A bh' t' f') → Run Q (K sq') f') :
    Run Q (xtile R0 L0 t bh sq K) f := by
  refine run_load' _ _ _ _ fun (v : FVec Ideal T128x128 .bf16) hv => ?_
  have hw : ∀ a b : Fin 128, v (ix2 a b) = A.X (128 * bh + a.val) (128 * t + b.val) := by
    intro a b
    refine ((congrFun hv _).trans (h8 _)).trans ?_
    show A.X (128 * (bh % 2) + 1 * a.val) (128 * (t % 32) + 1 * b.val) = _
    congr 1 <;> omega
  refine run_rows (planeOf R0.a13 bh) (planeOf R0.a14 bh) (by show cc0_scratch5 ≠ cc0_scratch6; decide) ht fun f' h1 h2 h3 h4 h5 => hk _ f' h1 ⟨?_, ?_⟩ ?_ ?_
  · rw [← rdv_plane13, h4, rdv_plane13]
    refine PL_step hp.1 fun n hn l => ?_
    rw [pl_row _ hn, hw]
  · rw [← rdv_plane14, h5, rdv_plane14]
    refine PL_step hp.2 fun n hn l => ?_
    rw [ph_row _ hn, hw]; rfl
  · intro i
    rw [Finset.sum_range_succ, ← hs i]
    obtain ⟨r, l, rfl⟩ : ∃ r l, i = ix2 r l := ⟨i 0, i 1, (ix2_eta i).symm⟩
    show sq (ix2 r l) + ((L0 (F := Ideal)).pl v (ix2 r l) * (L0 (F := Ideal)).pl v (ix2 r l) + (L0 (F := Ideal)).ph v (ix2 r l) * (L0 (F := Ideal)).ph v (ix2 r l)) = _
    rw [pl_at, ph_at, hw, hw]; rfl
  · intro bh' t' hb' hne hpx
    have e13 : sub3 (g13 f') bh' = sub3 (g13 f) bh' := funext fun x => h2 (ix3 ⟨bh' % 2, Nat.mod_lt _ (by decide)⟩ (x 0) (x 1)) fun y hy => by
      rw [emb_planeOf] at hy
      have hy : (ix3 ⟨bh % 2, Nat.mod_lt _ (by decide)⟩ (y 0) (y 1) : T2x2176x128.Idx) = ix3 ⟨bh' % 2, Nat.mod_lt _ (by decide)⟩ (x 0) (x 1) := hy
      have := congrArg Fin.val (congrFun hy 0)
      have : bh % 2 = bh' % 2 := this
      omega
    have e14 : sub3 (g14 f') bh' = sub3 (g14 f) bh' := funext fun x => h3 (ix3 ⟨bh' % 2, Nat.mod_lt _ (by decide)⟩ (x 0) (x 1)) fun y hy => by
      rw [emb_planeOf] at hy
      have hy : (ix3 ⟨bh % 2, Nat.mod_lt _ (by decide)⟩ (y 0) (y 1) : T2x2176x128.Idx) = ix3 ⟨bh' % 2, Nat.mod_lt _ (by decide)⟩ (x 0) (x 1) := hy
      have := congrArg Fin.val (congrFun hy 0)
      have : bh % 2 = bh' % 2 := this
      omega
    unfold PX
    rw [e13, e14]; exact hpx

end Cert.Proof.Val
-- ==== Proof.Val.Start.lean ====
/-
  What the copies in leave in the buffers, and the angles.
-/
module

public import proofs.«01_k».proof.Proof.Val.Fill2

@[expose] public section

set_option maxRecDepth 16384

noncomputable section

namespace Cert.Proof.Val

open Cert.KI Cert.KI.Gen Cert.Proof.Body Cert.Proof.KIFrame
open Idealize.ShloMosaic Idealize.SL.Sem

variable {d : Dev nD} {Q : C d → Prop} (A : Ar)

def h0 (f : C d) : T256x4096.Idx → EReal := f main_v0
def h1 (f : C d) : T32x128.Idx → EReal := f main_v1
def h2 (f : C d) : T2x128.Idx → BitVec 32 := f main_v2
def h3 (f : C d) : T6144x4x128.Idx → BitVec 32 := f main_v6
def h4 (f : C d) : T6144x128.Idx → EReal := f main_arg4

/-- The arguments are `A`. -/
structure Hin (f : C d) : Prop where
  x : ∀ i, h0 f i = A.X (i 0).val (i 1).val
  nw : ∀ i, h1 f i = A.NW (128 * (i 0).val + (i 1).val)
  po : ∀ i, h2 f i = A.PO (i 0).val (i 1).val
  wp : ∀ i, h3 f i = A.WP (i 0).val (i 1).val (i 2).val
  ws : ∀ i, h4 f i = A.WS (i 0).val (i 1).val

/-- The first `c` chunks of `x` and the first `s` steps of the weights are in. -/
structure Part (c s : ℕ) (f : C d) : Prop extends Hin A f where
  a8 : ∀ i, (i 1).val < 1024 * c → g8 f i = A.X (i 0).val (i 1).val
  a9 : ∀ i, g9 f i = A.NW (128 * (i 0).val + (i 1).val)
  a10 : ∀ i, g10 f i = A.PO (i 0).val (i 1).val
  a11 : ∀ i, (i 0).val < 512 * s → g11 f i = A.WP (i 0).val (i 1).val (i 2).val
  a12 : ∀ i, (i 0).val < 512 * s → g12 f i = A.WS (i 0).val (i 1).val

theorem Hin.of {f f' : C d} (h : Hin A f) (e0 : f' main_v0 = f main_v0) (e1 : f' main_v1 = f main_v1) (e2 : f' main_v2 = f main_v2)
    (e3 : f' main_v6 = f main_v6) (e4 : f' main_arg4 = f main_arg4) : Hin A f' where
  x i := (congrFun e0 i).trans (h.x i)
  nw i := (congrFun e1 i).trans (h.nw i)
  po i := (congrFun e2 i).trans (h.po i)
  wp i := (congrFun e3 i).trans (h.wp i)
  ws i := (congrFun e4 i).trans (h.ws i)

theorem run_startNw {K : Pr} {f : C d} (h : Hin A f)
    (hk : ∀ f' : C d, Hin A f' → (∀ i, g9 f' i = A.NW (128 * (i 0).val + (i 1).val)) → Run Q K f') : Run Q (startNw R0 K) f := by
  refine run_copy _ _ _ _ _ _ _ fun f' hb hi => hk f' (h.of A (hb _ (by decide)) (hb _ (by decide)) (hb _ (by decide)) (hb _ (by decide)) (hb _ (by decide))) fun i => ?_
  rcases hi i with ⟨x, hx, e⟩ | ⟨hx, e⟩
  · have hx : x = i := hx
    subst hx
    exact e.trans (h.nw x)
  · exact absurd rfl (hx i)

theorem run_startPos {K : Pr} {f : C d} (h : Hin A f) (h9 : ∀ i, g9 f i = A.NW (128 * (i 0).val + (i 1).val))
    (hk : ∀ f' : C d, Part A 0 0 f' → Run Q K f') : Run Q (startPos R0 K) f := by
  refine run_copy _ _ _ _ _ _ _ fun f' hb hi => hk f' ⟨h.of A (hb _ (by decide)) (hb _ (by decide)) (hb _ (by decide)) (hb _ (by decide)) (hb _ (by decide)),
    fun _ h => by omega, fun i => (congrFun (hb cc0_scratch1 (by decide)) i).trans (h9 i), fun i => ?_, fun _ h => by omega, fun _ h => by omega⟩
  rcases hi i with ⟨x, hx, e⟩ | ⟨hx, e⟩
  · have hx : x = i := hx
    subst hx
    exact e.trans (h.po x)
  · exact absurd rfl (hx i)

theorem run_startX {c : ℕ} (hc : c < 4) {K : Pr} {f : C d} (h : Part A c 0 f)
    (hk : ∀ f' : C d, Part A (c + 1) 0 f' → Run Q K f') : Run Q (startX R0 c K) f := by
  refine run_copy _ _ _ _ _ _ _ fun f' hb hi => ?_
  have hb : ∀ b, b ≠ cc0_scratch0 → f' b = f b := hb
  refine hk f' ⟨h.toHin.of A (hb _ (by decide)) (hb _ (by decide)) (hb _ (by decide)) (hb _ (by decide)) (hb _ (by decide)),
    fun i hl => ?_, fun i => (congrFun (hb cc0_scratch1 (by decide)) i).trans (h.a9 i), fun i => (congrFun (hb cc0_scratch2 (by decide)) i).trans (h.a10 i), fun _ h => by omega, fun _ h => by omega⟩
  rcases hi i with ⟨x, hx, e⟩ | ⟨hx, e⟩
  · subst hx
    exact e.trans (h.x _)
  · refine e.trans (h.a8 i ?_)
    by_contra hcon
    have hi0 : (i 0).val < 256 := (i 0).isLt
    refine hx (ix2 (i 0) ⟨(i 1).val - 1024 * c, by omega⟩) (idx2_ext ?_ ?_)
    · show 0 + 1 * (i 0).val = (i 0).val; omega
    · show 1024 * (c % 4) + 1 * ((i 1).val - 1024 * c) = (i 1).val; omega

theorem run_startW {s : ℕ} (hs : s < 12) {K : Pr} {f : C d} (h : Part A 4 s f)
    (hk : ∀ f' : C d, Part A 4 (s + 1) f' → Run Q K f') : Run Q (startWs R0 s (startWp R0 s K)) f := by
  refine run_copy _ _ _ _ _ _ _ fun f1 hb hi => run_copy _ _ _ _ _ _ _ fun f2 hb' hi' => hk f2 ?_
  have hb : ∀ b, b ≠ cc0_scratch4 → f1 b = f b := hb
  have hb' : ∀ b, b ≠ cc0_scratch3 → f2 b = f1 b := hb'
  have hb2 : ∀ b, b ≠ cc0_scratch4 → b ≠ cc0_scratch3 → f2 b = f b := fun b h1 h2 => (hb' b h2).trans (hb b h1)
  refine ⟨h.toHin.of A (hb2 _ (by decide) (by decide)) (hb2 _ (by decide) (by decide)) (hb2 _ (by decide) (by decide)) (hb2 _ (by decide) (by decide)) (hb2 _ (by decide) (by decide)),
    fun i hl => (congrFun (hb2 cc0_scratch0 (by decide) (by decide)) i).trans (h.a8 i hl), fun i => (congrFun (hb2 cc0_scratch1 (by decide) (by decide)) i).trans (h.a9 i),
    fun i => (congrFun (hb2 cc0_scratch2 (by decide) (by decide)) i).trans (h.a10 i), fun i hl => ?_, fun i hl => ?_⟩
  · rcases hi' i with ⟨x, hx, e⟩ | ⟨hx, e⟩
    · subst hx
      exact e.trans ((congrFun (hb main_v6 (by decide)) _).trans (h.wp _))
    · refine e.trans ((congrFun (hb cc0_scratch3 (by decide)) i).trans (h.a11 i ?_))
      by_contra hcon
      refine hx (ix3 ⟨(i 0).val - 512 * s, by omega⟩ (i 1) (i 2)) (Shape.idx3_ext ?_ ?_ ?_)
      · show 512 * (s % 12) + 1 * ((i 0).val - 512 * s) = (i 0).val; omega
      · show 0 + 1 * (i 1).val = (i 1).val; omega
      · show 0 + 1 * (i 2).val = (i 2).val; omega
  · refine (congrFun (hb' cc0_scratch4 (by decide)) i).trans ?_
    rcases hi i with ⟨x, hx, e⟩ | ⟨hx, e⟩
    · subst hx
      exact e.trans (h.ws _)
    · refine e.trans (h.a12 i ?_)
      by_contra hcon
      refine hx (ix2 ⟨(i 0).val - 512 * s, by omega⟩ (i 1)) (idx2_ext ?_ ?_)
      · show 512 * (s % 12) + 1 * ((i 0).val - 512 * s) = (i 0).val; omega
      · show 0 + 1 * (i 1).val = (i 1).val; omega

/-- The kernel's inputs are in. -/
structure Inp (f : C d) : Prop where
  a8 : ∀ i, g8 f i = A.X (i 0).val (i 1).val
  a9 : ∀ i, g9 f i = A.NW (128 * (i 0).val + (i 1).val)
  a10 : ∀ i, g10 f i = A.PO (i 0).val (i 1).val
  a11 : ∀ i, g11 f i = A.WP (i 0).val (i 1).val (i 2).val
  a12 : ∀ i, g12 f i = A.WS (i 0).val (i 1).val

/-- The buffers that the inputs are copied to. -/
abbrev inRefs : List (Ref sig .tc) := [cc0_scratch0, cc0_scratch1, cc0_scratch2, cc0_scratch3, cc0_scratch4]

theorem Inp.of {f f' : C d} (h : Inp A f) (e : ∀ b ∈ inRefs, f' b = f b) : Inp A f' where
  a8 i := (congrFun (e cc0_scratch0 (by decide)) i).trans (h.a8 i)
  a9 i := (congrFun (e cc0_scratch1 (by decide)) i).trans (h.a9 i)
  a10 i := (congrFun (e cc0_scratch2 (by decide)) i).trans (h.a10 i)
  a11 i := (congrFun (e cc0_scratch3 (by decide)) i).trans (h.a11 i)
  a12 i := (congrFun (e cc0_scratch4 (by decide)) i).trans (h.a12 i)

theorem run_starts {K : Pr} {f : C d} (h : Hin A f) (hk : ∀ f' : C d, Inp A f' → Run Q K f') :
    Run Q (startNw R0 <| startPos R0 <| rep (startX R0) 4 0 <| rep (fun s K => startWs R0 s (startWp R0 s K)) 12 0 K) f := by
  refine run_startNw A h fun f1 h1 h9 => run_startPos A h1 h9 fun f2 h2 => ?_
  refine run_rep (fun c f => Part A c 0 f) 4 0 (fun c _ hc K f hf hK => run_startX A (by omega) hf hK) h2 fun f3 h3 => ?_
  refine run_rep (fun s f => Part A 4 s f) 12 0 (fun c _ hc K f hf hK => run_startW A (by omega) hf hK) h3 fun f4 h4 => ?_
  refine hk f4 ⟨fun i => h4.a8 i ?_, h4.a9, h4.a10, fun i => h4.a11 i ?_, fun i => h4.a12 i ?_⟩
  · exact (i 1).isLt
  · exact (i 0).isLt
  · exact (i 0).isLt

/-! ## Waits change nothing -/

theorem run_waitNw {K : Pr} {f : C d} (h : Run Q K f) : Run Q (waitNw R0 K) f := h
theorem run_waitPos {K : Pr} {f : C d} (h : Run Q K f) : Run Q (waitPos R0 K) f := h
theorem run_waitX {c : ℕ} {K : Pr} {f : C d} (h : Run Q K f) : Run Q (waitX R0 c K) f := h
theorem run_waitWs {s : ℕ} {K : Pr} {f : C d} (h : Run Q K f) : Run Q (waitWs R0 s K) f := h
theorem run_waitWp {s : ℕ} {K : Pr} {f : C d} (h : Run Q K f) : Run Q (waitWp R0 s K) f := h
theorem run_waitQ {o : ℕ} {K : Pr} {f : C d} (h : Run Q K f) : Run Q (waitQ R0 o K) f := h
theorem run_waitK {K : Pr} {f : C d} (h : Run Q K f) : Run Q (waitK R0 K) f := h
theorem run_waitV {K : Pr} {f : C d} (h : Run Q K f) : Run Q (waitV R0 K) f := h

/-! ## Angles -/

/-- The angle of row `i` for batch row `l` of half `bh`. -/
def ang (bh i l : ℕ) : EReal := (((A.PO bh l).toInt : ℝ) : EReal) * freqs (F := Ideal) (ix2 (Fin.ofNat 64 i) 0)

/-- Cosines and sines of the first `n` batch halves. -/
def Ang (n : ℕ) (f : C d) : Prop :=
  (∀ i, (i 0).val < n → g18 f i = Ideal.cos (ang A (i 0).val (i 1).val (i 2).val)) ∧
  (∀ i, (i 0).val < n → g19 f i = Ideal.sin (ang A (i 0).val (i 1).val (i 2).val))

theorem Ang.of {n : ℕ} {f f' : C d} (h : Ang A n f) (e : f' cc0_scratch10 = f cc0_scratch10) (e' : f' cc0_scratch11 = f cc0_scratch11) : Ang A n f' :=
  ⟨fun i hi => (congrFun e i).trans (h.1 i hi), fun i hi => (congrFun e' i).trans (h.2 i hi)⟩

theorem run_turnSt (m : Memref sig .tc .vmem T2x64x128 .f32) {bh : ℕ} (hb : bh < 2) {v : FVec Ideal T64x128 .f32} {K : Pr} {f : C d}
    (hk : ∀ f' : C d, (∀ b, b ≠ m.view.ref → f' b = f b) → (∀ i : T2x64x128.Idx, m.view.read (Elt Ideal) (f' m.view.ref) i =
      if (i 0).val = bh then v (ix2 (i 1) (i 2)) else m.view.read (Elt Ideal) (f m.view.ref) i) → Run Q K f') :
    Run Q (turnSt m bh v K) f := by
  refine run_load _ _ _ _ <| run_store _ _ _ _ _ _ fun f' hb' hi => hk f' hb' fun i => ?_
  rcases hi (m.view.emb i) with ⟨x, hx, e⟩ | ⟨hx, e⟩
  · have hx : (Rect.unit (s := T2x64x128) ![bh % 2, 0, 0] T1x64x128.size (turnInb bh)).emb x = i := m.view.emb.injective hx
    have h0 : (i 0).val = bh % 2 + 1 * (x 0).val := by rw [← hx]; rfl
    have h1 : i 1 = x 1 := by rw [← hx]; refine Fin.ext ?_; show 0 + 1 * (x 1).val = _; omega
    have h2 : i 2 = x 2 := by rw [← hx]; refine Fin.ext ?_; show 0 + 1 * (x 2).val = _; omega
    have hx0 : (x 0).val < 1 := (x 0).isLt
    rw [if_pos (by omega)]
    refine (View.read_apply ..).trans ?_
    rw [e]
    refine (cast_cast_elt m.view.elt_eq _).trans ?_
    rw [h1, h2]
    obtain ⟨a, b, c, rfl⟩ : ∃ a b c, x = ix3 a b c := ⟨x 0, x 1, x 2, (ix3_eta x).symm⟩
    show shapeCast T1x64x128 v (by decide) (ix3 a b c) = v (ix2 b c)
    pointwise
  · rw [if_neg]
    · refine (View.read_apply ..).trans (Eq.trans ?_ (View.read_apply ..).symm)
      rw [e]
    · intro hc
      refine hx (ix3 0 (i 1) (i 2)) (congrArg m.view.emb (Shape.idx3_ext ?_ ?_ ?_))
      · show bh % 2 + 1 * 0 = (i 0).val; omega
      · show 0 + 1 * (i 1).val = (i 1).val; omega
      · show 0 + 1 * (i 2).val = (i 2).val; omega

theorem angle_at (v : IVec T1x128 32) (a : Fin 64) (b : Fin 128) :
    angle (F := Ideal) v (ix2 a b) = (((v (ix2 0 b)).toInt : ℝ) : EReal) * freqs (F := Ideal) (ix2 a 0) := by
  unfold angle
  have hf : freqs (F := Ideal) (ix2 a b) = freqs (F := Ideal) (ix2 a 0) := by
    unfold freqs; pointwise
  rw [← hf]
  generalize freqs (F := Ideal) = g
  pointwise
  rfl

theorem run_angles {bh : ℕ} (hb : bh < 2) {K : Pr} {f : C d} (h : Inp A f) (ha : Ang A bh f)
    (hk : ∀ f' : C d, Inp A f' → Ang A (bh + 1) f' → Run Q K f') : Run Q (angles R0 bh K) f := by
  refine run_load' _ _ _ _ fun (v : IVec T1x128 32) hv => ?_
  have hw : ∀ b : Fin 128, v (ix2 0 b) = A.PO bh b.val := by
    intro b
    refine ((congrFun hv _).trans (h.a10 _)).trans ?_
    show A.PO (bh % 2 + 1 * 0) (0 + 1 * b.val) = _
    congr 1 <;> omega
  have hang : ∀ i : T2x64x128.Idx, (i 0).val = bh → angle (F := Ideal) v (ix2 (i 1) (i 2)) = ang A (i 0).val (i 1).val (i 2).val := by
    intro i hi
    refine (angle_at v _ _).trans ?_
    unfold ang
    rw [hi]
    refine congrArg₂ _ (congrArg (fun z : BitVec 32 => ((z.toInt : ℝ) : EReal)) (hw (i 2))) ?_
    congr 2
    exact Fin.ext (Nat.mod_eq_of_lt (i 1).isLt).symm
  refine run_turnSt R0.a18 hb fun f1 hb1 e1 => run_turnSt R0.a19 hb fun f2 hb2 e2 => hk f2 (h.of A fun b hb => ?_) ⟨fun i hi => ?_, fun i hi => ?_⟩
  · refine (hb2 b ?_).trans (hb1 b ?_) <;>
    · revert b; decide
  · refine (congrFun (hb2 cc0_scratch10 (by decide)) i).trans ((e1 i).trans ?_)
    split
    · next hc => exact congrArg Ideal.cos (hang i hc)
    · next hc => exact ha.1 i (by omega)
  · refine (e2 i).trans ?_
    split
    · next hc => exact congrArg Ideal.sin (hang i hc)
    · next hc => exact (congrFun (hb1 cc0_scratch11 (by decide)) i).trans (ha.2 i (by omega))

end Cert.Proof.Val
-- ==== Proof.Val.Norm.lean ====
/-
  The rows of the multiplication: `x` normalised, and everything up to the multiplication.
-/
module

public import proofs.«01_k».proof.Proof.Val.Start

@[expose] public section

set_option maxRecDepth 16384

noncomputable section

namespace Cert.Proof.Val

open Cert.KI Cert.KI.Gen Cert.Proof.Body Cert.Proof.KIFrame
open Idealize.ShloMosaic Idealize.SL.Sem

variable {d : Dev nD} {Q : C d → Prop} (A : Ar)

/-- The sum of squares of batch row `l` of half `bh`, by word rows and tiles. -/
def ssq (bh l : ℕ) : EReal := ∑ r : Fin 64, ∑ u ∈ Finset.range 32,
  (A.X (128 * bh + l) (128 * u + 2 * r.val) * A.X (128 * bh + l) (128 * u + 2 * r.val)
    + A.X (128 * bh + l) (128 * u + 2 * r.val + 1) * A.X (128 * bh + l) (128 * u + 2 * r.val + 1))

/-- One over the root mean square. -/
def inv (bh l : ℕ) : EReal := Ideal.rsqrt (ssq A bh l * Ideal.ofBits .f32 0x39800000#32 + Ideal.ofBits .f32 0x358637BD#32)

theorem invRms_at {bh : ℕ} {sq : FVec Ideal T64x128 .f32} (h : SQ A bh 32 sq) (l : Fin 128) : invRms (F := Ideal) sq (ix2 0 l) = inv A bh l.val := by
  have e : invRms (F := Ideal) sq (ix2 0 l) = Ideal.rsqrt ((∑ x : Fin 64, sq (ix2 x l)) * Ideal.ofBits .f32 0x39800000#32 + Ideal.ofBits .f32 0x358637BD#32) := by
    unfold invRms
    pointwise
  rw [e]
  unfold inv ssq
  refine congrArg (fun z => Ideal.rsqrt (z * _ + _)) (Finset.sum_congr rfl fun x _ => h _)

/-- `x` normalised, at column `c`. -/
def XN (bh l c : ℕ) : EReal := A.X (128 * bh + l) c * inv A bh l * A.NW c

/-- The planes hold `x` and the weight. -/
structure Pln (f : C d) : Prop where
  w15 : PL (fun c _ => A.NW c) 32 (g15 f)
  w16 : PL (fun c _ => A.NW (c + 1)) 32 (g16 f)
  x0 : PX A 0 32 f
  x1 : PX A 1 32 f

/-- The buffers of the planes. -/
abbrev plRefs : List (Ref sig .tc) := [cc0_scratch5, cc0_scratch6, cc0_scratch7, cc0_scratch8]

theorem PX.of {bh t : ℕ} {f f' : C d} (h : PX A bh t f) (e : f' cc0_scratch5 = f cc0_scratch5) (e' : f' cc0_scratch6 = f cc0_scratch6) : PX A bh t f' := by
  have e1 : g13 f' = g13 f := e
  have e2 : g14 f' = g14 f := e'
  unfold PX; rw [e1, e2]; exact h

theorem Pln.of {f f' : C d} (h : Pln A f) (e : ∀ b ∈ plRefs, f' b = f b) : Pln A f' where
  w15 i hi := (congrFun (e cc0_scratch7 (by decide)) i).trans (h.w15 i hi)
  w16 i hi := (congrFun (e cc0_scratch8 (by decide)) i).trans (h.w16 i hi)
  x0 := h.x0.of A (e _ (by decide)) (e _ (by decide))
  x1 := h.x1.of A (e _ (by decide)) (e _ (by decide))

/-- What is known while the tiles of `x` are split. -/
structure Mid (T : ℕ) (s : FVec Ideal T64x128 .f32 × FVec Ideal T64x128 .f32) (f : C d) : Prop where
  inp : Inp A f
  ang : Ang A 2 f
  w15 : PL (fun c _ => A.NW c) 32 (g15 f)
  w16 : PL (fun c _ => A.NW (c + 1)) 32 (g16 f)
  x0 : PX A 0 T f
  x1 : PX A 1 T f
  s0 : SQ A 0 T s.1
  s1 : SQ A 1 T s.2

theorem run_wtiles {K : Pr} {f : C d} (h : Inp A f) (ha : Ang A 2 f)
    (hk : ∀ f' : C d, Inp A f' → Ang A 2 f' → PL (fun c _ => A.NW c) 32 (g15 f') → PL (fun c _ => A.NW (c + 1)) 32 (g16 f') → Run Q K f') :
    Run Q (rep (wtile R0 (L0 (F := Ideal))) 32 0 K) f := by
  refine run_rep (step := wtile R0 (L0 (F := Ideal))) (fun t f => Inp A f ∧ Ang A 2 f ∧ PL (fun c _ => A.NW c) t (g15 f) ∧ PL (fun c _ => A.NW (c + 1)) t (g16 f)) 32 0 ?_
    ?_ ?_
  · rintro t - ht K f ⟨h1, h2, h3, h4⟩ hK
    refine run_wtile A (by omega) h1.a9 h3 h4 fun f' hb h5 h6 => hK f' ⟨h1.of A fun b hb' => hb b ?_ ?_, h2.of A (hb _ (by decide) (by decide)) (hb _ (by decide) (by decide)), h5, h6⟩ <;>
    · revert b; decide
  · exact ⟨h, ha, fun _ h => by omega, fun _ h => by omega⟩
  · rintro f1 ⟨h1, h2, h3, h4⟩
    exact hk f1 h1 h2 h3 h4

theorem run_xchunk {c : ℕ} (hc : c < 4) {K : FVec Ideal T64x128 .f32 × FVec Ideal T64x128 .f32 → Pr} {s : FVec Ideal T64x128 .f32 × FVec Ideal T64x128 .f32} {f : C d}
    (h : Mid A (8 * c) s f) (hk : ∀ s' (f' : C d), Mid A (8 * (c + 1)) s' f' → Run Q (K s') f') :
    Run Q (xchunk R0 (L0 (F := Ideal)) c K s) f := by
  refine run_waitX ?_
  refine run_iter (step := fun i (K : FVec Ideal T64x128 .f32 × FVec Ideal T64x128 .f32 → Pr) s => xtile R0 L0 (8 * c + i) 0 s.1 fun s0 => xtile R0 L0 (8 * c + i) 1 s.2 fun s1 => K (s0, s1))
    (fun i s f => Mid A (8 * c + i) s f) 8 0 ?_ ?_ ?_
  rotate_left
  · exact h
  · intro s' f' h'; exact hk s' f' ((show 8 * c + (0 + 8) = 8 * (c + 1) by omega) ▸ h')
  intro i _ hi K s f h hK
  refine run_xtile A (by omega) (by decide) h.inp.a8 h.x0 h.s0 fun s0 f1 hb1 b1 b2 b3 => ?_
  have c1 : Inp A f1 := h.inp.of A fun b hb => hb1 b (by revert b; decide) (by revert b; decide)
  refine run_xtile A (by omega) (by decide) c1.a8 (b3 1 _ (by decide) (by decide) h.x1) h.s1 fun s1 f2 hb2 d1 d2 d3 => hK _ f2 ⟨?_, ?_, ?_, ?_, ?_, d1, b2, d2⟩
  · exact c1.of A fun b hb => hb2 b (by revert b; decide) (by revert b; decide)
  · exact (h.ang.of A (hb1 _ (by decide) (by decide)) (hb1 _ (by decide) (by decide))).of A (hb2 _ (by decide) (by decide)) (hb2 _ (by decide) (by decide))
  · exact fun i hi => (congrFun ((hb2 cc0_scratch7 (by decide) (by decide)).trans (hb1 cc0_scratch7 (by decide) (by decide))) i).trans (h.w15 i hi)
  · exact fun i hi => (congrFun ((hb2 cc0_scratch8 (by decide) (by decide)).trans (hb1 cc0_scratch8 (by decide) (by decide))) i).trans (h.w16 i hi)
  · exact d3 0 _ (by decide) (by decide) b1

theorem Mid.start {f : C d} (h : Inp A f) (ha : Ang A 2 f) (h3 : PL (fun c _ => A.NW c) 32 (g15 f)) (h4 : PL (fun c _ => A.NW (c + 1)) 32 (g16 f)) :
    Mid A 0 (broadcast T64x128 (Scalar.ofBits .f32 0x00000000#32), broadcast T64x128 (Scalar.ofBits .f32 0x00000000#32)) f where
  inp := h
  ang := ha
  w15 := h3
  w16 := h4
  x0 := ⟨fun _ h => by omega, fun _ h => by omega⟩
  x1 := ⟨fun _ h => by omega, fun _ h => by omega⟩
  s0 := fun i => Ideal.ofBits_zero_f32
  s1 := fun i => Ideal.ofBits_zero_f32

/-- The first `n` planes of the multiplication's rows. -/
def A17 (n : ℕ) (f : C d) : Prop := ∀ i, (i 0).val < n →
  g17 f i = XN A (i 1).val (i 3).val (32 * ((i 2).val % 128) + 16 * ((i 2).val / 128) + (i 0).val)

theorem run_norm1 {r : FVec Ideal T1x128 .f32} (x : Memref sig .tc .vmem T2x2176x128 .f32) (w : Memref sig .tc .vmem T2176x128 .f32)
    {j bh hf : ℕ} (hj : j < 16) (hb : bh < 2) (hh : hf < 2) {K : Pr} {f : C d} (hr : ∀ l : Fin 128, r (ix2 0 l) = inv A bh l.val)
    (hx : PL (fun c l => A.X (128 * bh + l.val) (c + j % 2)) 32 (sub3 (x.view.read (Elt Ideal) (f x.view.ref)) bh))
    (hw : PL (fun c _ => A.NW (c + j % 2)) 32 (w.view.read (Elt Ideal) (f w.view.ref)))
    (hk : ∀ f' : C d, (∀ b, b ≠ cc0_scratch9 → f' b = f b) →
      (∀ i, g17 f' i = if (i 0).val = j ∧ (i 1).val = bh ∧ (i 2).val / 128 = hf then
        XN A bh (i 3).val (32 * ((i 2).val % 128) + 16 * hf + j) else g17 f i) → Run Q K f') :
    Run Q (norm1 R0 r x w j bh hf K) f := by
  refine run_load' _ _ _ _ fun (a : Vec Ideal T1x128x128 .f32) ha => run_load' _ _ _ _ fun (b : FVec Ideal T128x128 .f32) hb' => run_load _ _ _ _ <| run_store _ _ _ _ _ _ fun f' h1 hi => ?_
  have hp : (16 * hf + j) / 2 % 16 = 8 * hf + j / 2 := by omega
  have ha' : ∀ g l : Fin 128, a (ix3 0 g l) = A.X (128 * bh + l.val) (32 * g.val + 16 * hf + j) := by
    intro g l
    have e := hx (ix2 ⟨136 * (8 * hf + j / 2) + g.val, by omega⟩ l) (by show (136 * (8 * hf + j / 2) + g.val) % 136 / 4 < 32; omega)
    have e2 : a (ix3 0 g l) = sub3 (x.view.read (Elt Ideal) (f x.view.ref)) bh (ix2 ⟨136 * (8 * hf + j / 2) + g.val, by omega⟩ l) := by
      refine (congrFun ha _).trans ?_
      refine congrArg (x.view.read (Elt Ideal) (f x.view.ref)) (Shape.idx3_ext ?_ ?_ ?_)
      · show bh % 2 + 1 * 0 = bh % 2; omega
      · show 136 * ((16 * hf + j) / 2 % 16) + 1 * g.val = 136 * (8 * hf + j / 2) + g.val; omega
      · show 0 + 1 * l.val = l.val; omega
    refine e2.trans (e.trans ?_)
    show A.X (128 * bh + l.val) (32 * ((136 * (8 * hf + j / 2) + g.val) % 136) + 2 * ((136 * (8 * hf + j / 2) + g.val) / 136) + j % 2) = _
    congr 1
    have h1 : (136 * (8 * hf + j / 2) + g.val) % 136 = g.val := by omega
    have h2 : (136 * (8 * hf + j / 2) + g.val) / 136 = 8 * hf + j / 2 := by omega
    rw [h1, h2]; omega
  have hb'' : ∀ g l : Fin 128, b (ix2 g l) = A.NW (32 * g.val + 16 * hf + j) := by
    intro g l
    have e := hw (ix2 ⟨136 * (8 * hf + j / 2) + g.val, by omega⟩ l) (by show (136 * (8 * hf + j / 2) + g.val) % 136 / 4 < 32; omega)
    have e2 : b (ix2 g l) = w.view.read (Elt Ideal) (f w.view.ref) (ix2 ⟨136 * (8 * hf + j / 2) + g.val, by omega⟩ l) := by
      refine (congrFun hb' _).trans ?_
      refine congrArg (w.view.read (Elt Ideal) (f w.view.ref)) (idx2_ext ?_ ?_)
      · show 136 * ((16 * hf + j) / 2 % 16) + 1 * g.val = 136 * (8 * hf + j / 2) + g.val; omega
      · show 0 + 1 * l.val = l.val; omega
    refine e2.trans (e.trans ?_)
    show A.NW (32 * ((136 * (8 * hf + j / 2) + g.val) % 136) + 2 * ((136 * (8 * hf + j / 2) + g.val) / 136) + j % 2) = _
    congr 1
    have h1 : (136 * (8 * hf + j / 2) + g.val) % 136 = g.val := by omega
    have h2 : (136 * (8 * hf + j / 2) + g.val) / 136 = 8 * hf + j / 2 := by omega
    rw [h1, h2]; omega
  have h1 : ∀ b, b ≠ cc0_scratch9 → f' b = f b := h1
  refine hk f' h1 fun i => ?_
  rcases hi i with ⟨y, hy, e⟩ | ⟨hy, e⟩
  · obtain ⟨y0, y1, g, l, rfl⟩ : ∃ y0 y1 g l, y = ix4 y0 y1 g l := ⟨y 0, y 1, y 2, y 3, (ix4_eta y).symm⟩
    have y00 : y0 = 0 := Subsingleton.elim _ _
    have y10 : y1 = 0 := Subsingleton.elim _ _
    subst y00 y10
    have i0 : (i 0).val = j % 16 + 1 * 0 := by rw [← hy]; rfl
    have i1 : (i 1).val = bh % 2 + 1 * 0 := by rw [← hy]; rfl
    have i2 : (i 2).val = 128 * (hf % 2) + 1 * g.val := by rw [← hy]; rfl
    have i3 : (i 3).val = 0 + 1 * l.val := by rw [← hy]; rfl
    have hg : g.val < 128 := g.isLt
    rw [if_pos ⟨by omega, by omega, by omega⟩]
    refine e.trans ?_
    refine Eq.trans (b := a (ix3 0 g l) * r (ix2 0 l) * b (ix2 g l)) ?_ ?_
    · show shapeCast T1x1x128x128 (truncf .bf16 (mulf (mulf (shapeCast T128x128 a (by decide)) (broadcastTo T128x128 r (by decide))) b : FVec Ideal T128x128 .f32)
        (by decide) : FVec Ideal T128x128 .bf16) (by decide) (ix4 0 0 g l) = _
      pointwise
    · rw [ha', hb'', hr]
      unfold XN
      have e1 : (i 3).val = l.val := by omega
      have e2 : 32 * ((i 2).val % 128) + 16 * hf + j = 32 * g.val + 16 * hf + j := by omega
      rw [e1, e2]
  · rw [if_neg]
    · exact e
    · rintro ⟨c0, c1, c2⟩
      have hi2 : (i 2).val < 256 := (i 2).isLt
      refine hy (ix4 0 0 ⟨(i 2).val - 128 * hf, by omega⟩ (i 3)) ?_
      funext k
      refine Fin.ext ?_
      revert k
      refine Fin.forall_fin_succ.mpr ⟨?_, Fin.forall_fin_succ.mpr ⟨?_, Fin.forall_fin_two.mpr ⟨?_, ?_⟩⟩⟩
      · show j % 16 + 1 * 0 = (i 0).val; omega
      · show bh % 2 + 1 * 0 = (i 1).val; omega
      · show 128 * (hf % 2) + 1 * ((i 2).val - 128 * hf) = (i 2).val; omega
      · show 0 + 1 * (i 3).val = (i 3).val; omega

theorem run_normalise {r0 r1 : FVec Ideal T1x128 .f32} {j : ℕ} (hj : j < 16) {K : Pr} {f : C d} (hr0 : ∀ l : Fin 128, r0 (ix2 0 l) = inv A 0 l.val)
    (hr1 : ∀ l : Fin 128, r1 (ix2 0 l) = inv A 1 l.val) (hp : Pln A f) (h : A17 A j f)
    (hk : ∀ f' : C d, (∀ b, b ≠ cc0_scratch9 → f' b = f b) → A17 A (j + 1) f' → Run Q K f') :
    Run Q (normalise R0 r0 r1 j K) f := by
  have hX : ∀ bh < 2, ∀ f' : C d, Pln A f' → PL (fun c l => A.X (128 * bh + l.val) (c + j % 2)) 32
      (sub3 ((pick j R0.a13 R0.a14).view.read (Elt Ideal) (f' (pick j R0.a13 R0.a14).view.ref)) bh) := by
    intro bh hb f' hf
    have hx : PX A bh 32 f' := by
      obtain rfl | rfl : bh = 0 ∨ bh = 1 := by omega
      · exact hf.x0
      · exact hf.x1
    by_cases hc : j % 2 = 0
    · rw [show pick j R0.a13 R0.a14 = R0.a13 from if_pos hc, hc]; exact hx.1
    · rw [show pick j R0.a13 R0.a14 = R0.a14 from if_neg hc, show j % 2 = 1 by omega]; exact hx.2
  have hW : ∀ f' : C d, Pln A f' → PL (fun c _ => A.NW (c + j % 2)) 32 ((pick j R0.a15 R0.a16).view.read (Elt Ideal) (f' (pick j R0.a15 R0.a16).view.ref)) := by
    intro f' hf
    by_cases hc : j % 2 = 0
    · rw [show pick j R0.a15 R0.a16 = R0.a15 from if_pos hc, hc]; exact hf.w15
    · rw [show pick j R0.a15 R0.a16 = R0.a16 from if_neg hc, show j % 2 = 1 by omega]; exact hf.w16
  have hof : ∀ f1 f2 : C d, (∀ b, b ≠ cc0_scratch9 → f2 b = f1 b) → Pln A f1 → Pln A f2 := fun f1 f2 hb h => h.of A fun b hb' => hb b (by revert b; decide)
  refine run_norm1 A _ _ hj (by decide) (by decide) hr0 (hX 0 (by decide) f hp) (hW f hp) fun f1 b1 e1 => ?_
  have p1 := hof f f1 b1 hp
  refine run_norm1 A _ _ hj (by decide) (by decide) hr0 (hX 0 (by decide) f1 p1) (hW f1 p1) fun f2 b2 e2 => ?_
  have p2 := hof f1 f2 b2 p1
  refine run_norm1 A _ _ hj (by decide) (by decide) hr1 (hX 1 (by decide) f2 p2) (hW f2 p2) fun f3 b3 e3 => ?_
  have p3 := hof f2 f3 b3 p2
  refine run_norm1 A _ _ hj (by decide) (by decide) hr1 (hX 1 (by decide) f3 p3) (hW f3 p3) fun f4 b4 e4 => ?_
  refine hk f4 (fun b hb => ((b4 b hb).trans (b3 b hb)).trans ((b2 b hb).trans (b1 b hb))) fun i hi => ?_
  have i1 : (i 1).val < 2 := (i 1).isLt
  have i2 : (i 2).val < 256 := (i 2).isLt
  rw [e4 i, e3 i, e2 i, e1 i]
  by_cases hc : (i 0).val = j
  · have hcase : ((i 1).val = 0 ∨ (i 1).val = 1) ∧ ((i 2).val / 128 = 0 ∨ (i 2).val / 128 = 1) := by omega
    rcases hcase with ⟨h1 | h1, h2 | h2⟩ <;> simp [hc, h1, h2]
  · simp only [hc, false_and, if_false]
    exact h i (by omega)

section
attribute [local irreducible] Run

/-- The chunks from `c` on. -/
theorem run_xchunks_from {K : FVec Ideal T64x128 .f32 × FVec Ideal T64x128 .f32 → Pr} (hk : ∀ s' (f' : C d), Mid A 32 s' f' → Run Q (K s') f') (n : ℕ) :
    ∀ (c : ℕ) (s : FVec Ideal T64x128 .f32 × FVec Ideal T64x128 .f32) (f : C d), c + n = 4 → Mid A (8 * c) s f → Run Q (iter (xchunk R0 (L0 (F := Ideal))) n c K s) f := by
  induction n with
  | zero =>
    intro c s f hc h
    obtain rfl : c = 4 := by omega
    exact hk s f h
  | succ n ih =>
    intro c s f hc h
    rw [iter_succ]
    exact run_xchunk A (by omega) h fun s' f' h' => ih (c + 1) s' f' (by omega) h'
end

end Cert.Proof.Val
-- ==== Proof.Val.Scale.lean ====
/-
  The buffer of the scales: two heads' rows side by side.
-/
module

public import proofs.«01_k».proof.Proof.Val.Start

@[expose] public section

set_option maxRecDepth 16384

noncomputable section

namespace Cert.Proof.Val

open Cert.KI Cert.KI.Gen Cert.Proof.Body Cert.Proof.KIFrame
open Idealize.ShloMosaic Idealize.SL.Sem

variable {d : Dev nD} {Q : C d → Prop} (A : Ar)

/-- What is in the scales' buffer for one accumulator: the rows of step `s`. -/
def SC (s p : ℕ) (f : C d) : Prop := ∀ i, (i 0).val = p → g20 f i = A.WS (512 * s + 256 * (i 1).val + 128 * (i 3).val + (i 2).val) (i 4).val

theorem inter_at (lo hi : FVec Ideal S64x128 .bf16) (r : Fin 64) (e : Fin 2) (l : Fin 128) :
    interleaveRows S1x1x64x2x128 (shapeCast S1x1x64x1x128 (shapeCast S1x1x64x128 lo (by decide)) (by decide))
      (shapeCast S1x1x64x1x128 (shapeCast S1x1x64x128 hi (by decide)) (by decide)) (by decide) (ix5 0 0 r e l) = if e.val = 0 then lo (ix2 r l) else hi (ix2 r l) := by
  obtain ⟨e, he⟩ := e
  obtain rfl | rfl : e = 0 ∨ e = 1 := by omega
  · show interleaveRows S1x1x64x2x128 _ _ _ (ix5 0 0 r 0 l) = lo (ix2 r l)
    pointwise
  · show interleaveRows S1x1x64x2x128 _ _ _ (ix5 0 0 r 1 l) = hi (ix2 r l)
    pointwise

theorem run_scaleSt1 {p m q : ℕ} (hp : p < 2) (hm : m < 2) (hq : q < 2) {lo hi : FVec Ideal S64x128 .bf16} {K : Pr} {f : C d}
    (hk : ∀ f' : C d, (∀ b, b ≠ cc0_scratch12 → f' b = f b) →
      (∀ i, g20 f' i = if (i 0).val = p ∧ (i 1).val = m ∧ (i 2).val % 2 = q then
        (if (i 3).val = 0 then lo (ix2 (Fin.ofNat 64 ((i 2).val / 2)) (i 4)) else hi (ix2 (Fin.ofNat 64 ((i 2).val / 2)) (i 4))) else g20 f i) → Run Q K f') :
    Run Q (Cert.Proof.KIBody.scaleSt1 (Memref.whole cc0_scratch12) (Memref.isWhole_whole _) p m q lo hi K) f := by
  refine run_load _ _ _ _ <| run_store _ _ _ _ _ _ fun f' h1 hi' => ?_
  have h1 : ∀ b, b ≠ cc0_scratch12 → f' b = f b := h1
  refine hk f' h1 fun i => ?_
  rcases hi' i with ⟨y, hy, e⟩ | ⟨hy, e⟩
  · obtain ⟨y0, y1, r, u, l, rfl⟩ : ∃ y0 y1 r u l, y = ix5 y0 y1 r u l := ⟨y 0, y 1, y 2, y 3, y 4, (ix5_eta y).symm⟩
    have y00 : y0 = 0 := Subsingleton.elim _ _
    have y10 : y1 = 0 := Subsingleton.elim _ _
    subst y00 y10
    have i0 : (i 0).val = p % 2 + 1 * 0 := by rw [← hy]; rfl
    have i1 : (i 1).val = m % 2 + 1 * 0 := by rw [← hy]; rfl
    have i2 : (i 2).val = q % 2 + 2 * r.val := by rw [← hy]; rfl
    have i3 : (i 3).val = 0 + 1 * u.val := by rw [← hy]; rfl
    have i4 : (i 4).val = 0 + 1 * l.val := by rw [← hy]; rfl
    have hr : r.val < 64 := r.isLt
    rw [if_pos ⟨by omega, by omega, by omega⟩]
    refine e.trans ?_
    refine (inter_at lo hi r u l).trans ?_
    have e3 : (i 3).val = u.val := by omega
    have e4 : i 4 = l := Fin.ext (by omega)
    have e2 : Fin.ofNat 64 ((i 2).val / 2) = r := Fin.ext (by show (i 2).val / 2 % 64 = r.val; omega)
    rw [e3, e4, e2]
  · rw [if_neg]
    · exact e
    · rintro ⟨c0, c1, c2⟩
      have hi2 : (i 2).val < 128 := (i 2).isLt
      refine hy (ix5 0 0 ⟨(i 2).val / 2, by omega⟩ (i 3) (i 4)) ?_
      funext k
      refine Fin.ext ?_
      revert k
      refine Fin.forall_fin_succ.mpr ⟨?_, Fin.forall_fin_succ.mpr ⟨?_, Fin.forall_fin_succ.mpr ⟨?_, Fin.forall_fin_two.mpr ⟨?_, ?_⟩⟩⟩⟩
      · show p % 2 + 1 * 0 = (i 0).val; omega
      · show m % 2 + 1 * 0 = (i 1).val; omega
      · show q % 2 + 2 * ((i 2).val / 2) = (i 2).val; omega
      · show 0 + 1 * (i 3).val = (i 3).val; omega
      · show 0 + 1 * (i 4).val = (i 4).val; omega

theorem par0 (a : FVec Ideal T128x128 .bf16) (r : Fin 64) (l : Fin 128) : rowsOfParity 0 S64x128 a (by decide) (ix2 r l) = a (ix2 ⟨2 * r.val, by omega⟩ l) := by
  pointwise
theorem par1 (a : FVec Ideal T128x128 .bf16) (r : Fin 64) (l : Fin 128) : rowsOfParity 1 S64x128 a (by decide) (ix2 r l) = a (ix2 ⟨2 * r.val + 1, by omega⟩ l) := by
  pointwise

theorem run_ldScale {s m h : ℕ} (hs : s < 12) (hm : m < 2) (hh : h < 2) {K : FVec Ideal T128x128 .bf16 → Pr} {f : C d} (h12 : ∀ i, g12 f i = A.WS (i 0).val (i 1).val)
    (hk : ∀ v : FVec Ideal T128x128 .bf16, (∀ r l, v (ix2 r l) = A.WS (512 * s + 256 * m + 128 * h + r.val) l.val) → Run Q (K v) f) :
    Run Q (ldScale R0 s m h K) f := by
  refine run_load' _ _ _ _ fun (v : FVec Ideal T128x128 .bf16) hv => hk v fun r l => ?_
  refine (congrFun hv _).trans ((h12 _).trans ?_)
  congr 1
  · show 512 * (s % 12) + 256 * (m % 2) + 128 * (h % 2) + 1 * r.val = _
    omega
  · show 0 + 1 * l.val = l.val
    omega

theorem run_pairScales {s p m : ℕ} (hs : s < 12) (hp : p < 2) (hm : m < 2) {K : Pr} {f : C d} (h12 : ∀ i, g12 f i = A.WS (i 0).val (i 1).val)
    (hk : ∀ f' : C d, (∀ b, b ≠ cc0_scratch12 → f' b = f b) →
      (∀ i, g20 f' i = if (i 0).val = p ∧ (i 1).val = m then A.WS (512 * s + 256 * m + 128 * (i 3).val + (i 2).val) (i 4).val else g20 f i) → Run Q K f') :
    Run Q (pairScales R0 (L0 (F := Ideal)) s p m K) f := by
  refine run_ldScale A hs hm (by decide : 0 < 2) h12 fun a ha => run_ldScale A hs hm (by decide : 1 < 2) h12 fun b hb => ?_
  refine run_scaleSt1 hp hm (by decide : 0 < 2) fun f1 b1 e1 => run_scaleSt1 hp hm (by decide : 1 < 2) fun f2 b2 e2 => ?_
  refine hk f2 (fun b hb => (b2 b hb).trans (b1 b hb)) fun i => ?_
  have i2 : (i 2).val < 128 := (i 2).isLt
  have i3 : (i 3).val < 2 := (i 3).isLt
  rw [e2 i, e1 i]
  by_cases hc : (i 0).val = p ∧ (i 1).val = m
  · obtain ⟨c0, c1⟩ := hc
    have hcase : ((i 2).val % 2 = 0 ∨ (i 2).val % 2 = 1) ∧ ((i 3).val = 0 ∨ (i 3).val = 1) := by omega
    have ho : Fin.ofNat 64 ((i 2).val / 2) = (⟨(i 2).val / 2, by omega⟩ : Fin 64) := Fin.ext (Nat.mod_eq_of_lt (by omega))
    rcases hcase with ⟨h2 | h2, h3 | h3⟩
    · rw [if_neg (by omega), if_pos ⟨c0, c1, h2⟩, if_pos h3, if_pos ⟨c0, c1⟩, ho]
      refine (par0 _ _ _).trans ((ha _ _).trans ?_)
      rw [h3]; congr 1; show 512 * s + 256 * m + 128 * 0 + 2 * ((i 2).val / 2) = _; omega
    · rw [if_neg (by omega), if_pos ⟨c0, c1, h2⟩, if_neg (by omega), if_pos ⟨c0, c1⟩, ho]
      refine (par0 _ _ _).trans ((hb _ _).trans ?_)
      rw [h3]; congr 1; show 512 * s + 256 * m + 128 * 1 + 2 * ((i 2).val / 2) = _; omega
    · rw [if_pos ⟨c0, c1, h2⟩, if_pos h3, if_pos ⟨c0, c1⟩, ho]
      refine (par1 _ _ _).trans ((ha _ _).trans ?_)
      rw [h3]; congr 1; show 512 * s + 256 * m + 128 * 0 + (2 * ((i 2).val / 2) + 1) = _; omega
    · rw [if_pos ⟨c0, c1, h2⟩, if_neg (by omega), if_pos ⟨c0, c1⟩, ho]
      refine (par1 _ _ _).trans ((hb _ _).trans ?_)
      rw [h3]; congr 1; show 512 * s + 256 * m + 128 * 1 + (2 * ((i 2).val / 2) + 1) = _; omega
  · rw [if_neg (fun h => hc ⟨h.1, h.2.1⟩), if_neg (fun h => hc ⟨h.1, h.2.1⟩), if_neg hc]

theorem scaleOf_at (v : FVec Ideal S1x1x128x2x128 .bf16) (r : Fin 128) (e : Fin 2) (g : Fin 128) :
    Cert.Proof.KIBody.scaleOf (F := Ideal) v (ix2 ⟨2 * r.val + e.val, by omega⟩ g) = v (ix5 0 0 r e g) := by
  unfold Cert.Proof.KIBody.scaleOf
  obtain ⟨e, he⟩ := e
  obtain rfl | rfl : e = 0 ∨ e = 1 := by omega
  · pointwise
    rw [if_pos (by omega)]
    congr 2
    exact Fin.ext (by show (2 * r.val + 0) / 2 = r.val; omega)
  · pointwise
    rw [if_neg (by omega)]
    congr 2
    exact Fin.ext (by show (2 * r.val + 1) / 2 = r.val; omega)

theorem run_scaleLd {s p m : ℕ} (hp : p < 2) (hm : m < 2) {K : FVec Ideal T256x128 .bf16 → Pr} {f : C d} (h : SC A s p f)
    (hk : ∀ v : FVec Ideal T256x128 .bf16, (∀ (r : Fin 128) (e : Fin 2) (g : Fin 128), v (ix2 ⟨2 * r.val + e.val, by omega⟩ g) = A.WS (512 * s + 256 * m + 128 * e.val + r.val) g.val) → Run Q (K v) f) :
    Run Q ((L0 (F := Ideal)).scaleLd p m K) f := by
  refine run_load' _ _ _ _ fun (v : FVec Ideal S1x1x128x2x128 .bf16) hv => hk _ fun r e g => ?_
  rw [scaleOf_at]
  refine (congrFun hv _).trans ((h _ ?_).trans ?_)
  · show p % 2 + 1 * 0 = p; omega
  congr 1
  · show 512 * s + 256 * (m % 2 + 1 * 0) + 128 * (0 + 1 * e.val) + (0 + 1 * r.val) = _
    omega
  · show 0 + 1 * g.val = g.val
    omega

end Cert.Proof.Val
-- ==== Proof.Val.Deq.lean ====
/-
  One tile of weights out of the words, and one pass of the multiplication.
-/
module

public import proofs.«01_k».proof.Proof.Val.Start
public import Idealize.ShloMosaic.Lib.BitcastPair
public import Idealize.ShloMosaic.Lib.MatmulPlain

@[expose] public section

set_option maxRecDepth 16384

noncomputable section

namespace Cert.Proof.Val

open Cert.KI Cert.KI.Gen Cert.Proof.Body Cert.Proof.KIFrame
open Idealize.ShloMosaic Idealize.SL.Sem

variable {d : Dev nD} {Q : C d → Prop} (A : Ar)

theorem nib_bf16 (n : ℕ) (hn : n < 16) : Ideal.ofBits .bf16 (BitVec.ofNat 16 (0x4300 + n)) - Ideal.ofBits .bf16 0x4308#16 = (((n : ℝ) - 8 : ℝ) : EReal) := by
  have h : ∀ n < 16, Ideal.ofBits .bf16 (BitVec.ofNat 16 (0x4300 + n)) = (((128 + n : ℝ)) : EReal) := by
    intro n hn
    interval_cases n <;> · simp [Ideal.ofBits, Ideal.ieee, -EReal.coe_mul, -EReal.coe_add]; try norm_num
  rw [h n hn, show (0x4308#16) = BitVec.ofNat 16 (0x4300 + 8) from rfl, h 8 (by omega), ← EReal.coe_sub]
  congr 1; push_cast; ring

theorem bc_at (w : IVec T128x128 32) (h) (r : Fin 128) (e : Fin 2) (g : Fin 128) :
    bitcast T256x128 16 w h (ix2 ⟨2 * r.val + e.val, by omega⟩ g) = (w (ix2 r g)).extractLsb' (16 * e.val) 16 := by
  rw [bitcast_32_16]
  have hr : T256x128.row (ix2 ⟨2 * r.val + e.val, by omega⟩ g) = 2 * r.val + e.val := rfl
  congr 1
  · rw [hr]; omega
  · congr 1
    funext k; refine Fin.ext ?_
    revert k
    refine Fin.forall_fin_two.mpr ⟨?_, rfl⟩
    show (2 * r.val + e.val) / 2 = r.val; omega

theorem plain_at (a : FVec Ideal T256x256 .bf16) (b : FVec Ideal T256x256 .bf16) (r c : Fin 256) :
   Ideal.mxuPass (DotDims.plain 256 256 256) a b (ix2 r c) = ∑ k : Fin 256, a (ix2 r k) * b (ix2 k c) := by
  have h := Ideal.matmul_plain_apply (φ₁ := .bf16) (φ₂ := .bf16) none a b (fun _ => 0) r c
  refine Eq.trans ?_ (h.trans (zero_add _))
  exact (zero_add _).symm

/-- The code of a word's field. -/
def nib (w : BitVec 32) (b : ℕ) : ℕ := ((w >>> b) &&& 15#32).toNat

/-- A weight: the code less eight, times the scale. `o` the row, `j` the byte of the group's sixteen, `h` its half, `g` the group. -/
def WT (o j h g : ℕ) : EReal := (((nib (A.WP o (j / 4) g) (8 * (j % 4) + 4 * h) : ℕ) : ℝ) - 8 : ℝ) * A.WS o g

theorem field_at (w : IVec T128x128 32) (sc : FVec Ideal T256x128 .bf16) (r : Fin 128) (e : Fin 2) (g : Fin 128) :
    field (F := Ideal) w sc (ix2 ⟨2 * r.val + e.val, by omega⟩ g)
      = ((((w (ix2 r g) >>> (16 * e.val)) &&& 15#32).toNat : ℝ) - 8 : ℝ) * sc (ix2 ⟨2 * r.val + e.val, by omega⟩ g) := by
  have h : field (F := Ideal) w sc (ix2 ⟨2 * r.val + e.val, by omega⟩ g)
      = (Ideal.ofBits .bf16 (bitcast T256x128 16 (ori (andi w (broadcast T128x128 983055#32)) (broadcast T128x128 1124090624#32)) (by decide) (ix2 ⟨2 * r.val + e.val, by omega⟩ g))
        - Ideal.ofBits .bf16 0x4308#16) * sc (ix2 ⟨2 * r.val + e.val, by omega⟩ g) := rfl
  rw [h, bc_at]
  have hb : ∀ x : BitVec 32, ∀ e : Fin 2, ((x &&& 983055#32) ||| 1124090624#32).extractLsb' (16 * e.val) 16
      = BitVec.ofNat 16 (0x4300 + ((x >>> (16 * e.val)) &&& 15#32).toNat) := by
    intro x e
    have hx : ((x >>> (16 * e.val)) &&& 15#32).toNat < 16 := by
      rw [BitVec.toNat_and]; exact Nat.and_lt_two_pow (n := 4) _ (by decide)
    have hz : BitVec.ofNat 16 (0x4300 + ((x >>> (16 * e.val)) &&& 15#32).toNat) = 0x4300#16 ||| ((x >>> (16 * e.val)) &&& 15#32).setWidth 16 := by
      generalize ((x >>> (16 * e.val)) &&& 15#32) = y at hx ⊢
      obtain ⟨n, rfl⟩ : ∃ n : Fin 16, y = BitVec.ofNat 32 n.val := ⟨⟨y.toNat, hx⟩, by simp⟩
      revert n; decide
    rw [hz]
    obtain ⟨e, he⟩ := e
    refine BitVec.eq_of_getLsbD_eq fun i hi => ?_
    obtain rfl | rfl : e = 0 ∨ e = 1 := by omega
    all_goals
      interval_cases i <;> simp
  have h2 : ((w (ix2 r g) >>> (16 * e.val)) &&& 15#32).toNat < 16 := by
    rw [BitVec.toNat_and]; exact Nat.and_lt_two_pow (n := 4) _ (by decide)
  refine congrArg (· * _) ?_
  rw [← nib_bf16 _ h2]
  refine congrArg (fun z => Ideal.ofBits .bf16 z - _) ?_
  exact hb (w (ix2 r g)) e

theorem shr_nib (a : BitVec 32) (b : ℕ) (x : BitVec 32) (h : ∀ k < 4, x.getLsbD k = a.getLsbD (b + k)) : (x &&& 15#32).toNat = nib a b := by
  unfold nib
  congr 1
  refine BitVec.eq_of_getLsbD_eq fun i hi => ?_
  rw [BitVec.getLsbD_and, BitVec.getLsbD_and, BitVec.getLsbD_ushiftRight]
  by_cases h4 : i < 4
  · rw [h i h4]
  · have : (15#32).getLsbD i = false := by
      interval_cases i <;> first | omega | rfl
    rw [this, Bool.and_false, Bool.and_false]

/-- The word that holds a head's byte `j` in its half: head `e` in half `e`, whichever half of the word the byte comes from. -/
theorem codes_at (j : ℕ) (hj : j < 16) (a b : BitVec 32) (e : Fin 2) (h : Fin 2) (z : BitVec 32)
    (hz : z = if j % 4 < 2 then (a &&& 65535#32) ||| (b <<< 16) else (a >>> 16) ||| (b &&& (-65536#32))) :
    ((z >>> ((if j % 2 = 0 then 0 else 8) + 4 * h.val)) >>> (16 * e.val) &&& 15#32).toNat = nib (if e.val = 0 then a else b) (8 * (j % 4) + 4 * h.val) := by
  refine shr_nib _ _ _ fun k hk => ?_
  subst hz
  obtain ⟨e, he⟩ := e
  obtain ⟨h, hh⟩ := h
  have c4 : j % 4 = 0 ∨ j % 4 = 1 ∨ j % 4 = 2 ∨ j % 4 = 3 := by omega
  have c2 : j % 2 = j % 4 % 2 := by omega
  rw [c2]
  obtain rfl | rfl : e = 0 ∨ e = 1 := by omega
  all_goals
    obtain rfl | rfl : h = 0 ∨ h = 1 := by omega
    all_goals
      rcases c4 with c | c | c | c <;> rw [c] <;> interval_cases k <;> simp

end Cert.Proof.Val
-- ==== Proof.Val.Mul.lean ====
/-
  The multiplication: sixteen passes on each unit add up the rows of two pairs of heads.
-/
module

public import proofs.«01_k».proof.Proof.Val.Norm
public import proofs.«01_k».proof.Proof.Val.Scale
public import proofs.«01_k».proof.Proof.Val.Deq

@[expose] public section

set_option maxRecDepth 16384

noncomputable section

namespace Cert.Proof.Val

open Cert.KI Cert.KI.Gen Cert.Proof.Body Cert.Proof.KIFrame
open Idealize.ShloMosaic Idealize.SL.Sem

variable {d : Dev nD} {Q : C d → Prop} (A : Ar)

/-- The `k`-th product of pass `j`, of weight row `o` by batch row `b`. -/
def TM (o b j k : ℕ) : EReal := WT A o j (k / 128) (k % 128) * XN A (b / 128) (b % 128) (32 * (k % 128) + 16 * (k / 128) + j)

/-- The first `n` passes of weight row `o` by batch row `b`. -/
def YP (n o b : ℕ) : EReal := ∑ j ∈ Finset.range n, ∑ k : Fin 256, TM A o b j k.val

/-- The weight row of row `r` of pair `m` of step `s`. -/
def wrow (s m r : ℕ) : ℕ := 512 * s + 256 * m + 128 * (r % 2) + r / 2

theorem catCols_at (a b : FVec Ideal T256x128 .bf16) (r c : Fin 256) :
    catCols a b (ix2 r c) = if h : c.val < 128 then a (ix2 r ⟨c.val, h⟩) else b (ix2 r ⟨c.val - 128, by omega⟩) := by
  unfold catCols
  pointwise

theorem run_ldRhs {j : ℕ} (hj : j < 16) {K : FVec Ideal T256x256 .bf16 → Pr} {f : C d} (h : A17 A (j + 1) f)
    (hk : ∀ v : FVec Ideal T256x256 .bf16, (∀ r c : Fin 256, v (ix2 r c) = XN A (c.val / 128) (c.val % 128) (32 * (r.val % 128) + 16 * (r.val / 128) + j)) → Run Q (K v) f) :
    Run Q (ldRhs R0 j K) f := by
  refine run_load' _ _ _ _ fun (a : FVec Ideal T1x1x256x128 .bf16) ha => run_load' _ _ _ _ fun (b : FVec Ideal T1x1x256x128 .bf16) hb => hk _ fun r c => ?_
  have hv : ∀ (bh : ℕ), bh < 2 → ∀ (v : FVec Ideal T1x1x256x128 .bf16), (v = R0.a17.view.readAt (Elt Ideal) (Rect.unit (s := T16x2x256x128) ![j % 16, bh % 2, 0, 0] T1x1x256x128.size (xnRowInb j bh)).toLoadRect (f R0.a17.view.ref)) →
      ∀ (r : Fin 256) (l : Fin 128), shapeCast T256x128 v (by decide) (ix2 r l) = XN A bh l.val (32 * (r.val % 128) + 16 * (r.val / 128) + j) := by
    intro bh hbh v hv r l
    have e : shapeCast T256x128 v (by decide) (ix2 r l) = v (ix4 0 0 r l) := by pointwise
    refine e.trans ((congrFun hv _).trans ((h _ ?_).trans ?_))
    · show j % 16 + 1 * 0 < j + 1; omega
    have e1 : bh % 2 + 1 * 0 = bh := by omega
    have e2 : 0 + 1 * r.val = r.val := by omega
    have e3 : 0 + 1 * l.val = l.val := by omega
    have e0 : j % 16 + 1 * 0 = j := by omega
    show XN A (bh % 2 + 1 * 0) (0 + 1 * l.val) (32 * ((0 + 1 * r.val) % 128) + 16 * ((0 + 1 * r.val) / 128) + (j % 16 + 1 * 0)) = _
    rw [e0, e1, e2, e3]
  rw [catCols_at]
  have hc : c.val < 256 := c.isLt
  split
  · rename_i h1
    refine (hv 0 (by decide) a ha r _).trans ?_
    rw [show c.val / 128 = 0 by omega, show c.val % 128 = c.val by omega]
  · rename_i h1
    refine (hv 1 (by decide) b hb r _).trans ?_
    rw [show c.val / 128 = 1 by omega, show c.val % 128 = c.val - 128 by omega]

theorem words_at (g : T6144x4x128.Idx → BitVec 32) (n : Fin 24576) (l : Fin 128) :
    shapeCast T24576x128 g (by decide) (ix2 n l) = g (ix3 ⟨n.val / 4, by omega⟩ ⟨n.val % 4, by omega⟩ l) := by
  pointwise

theorem run_ldWords {s m j h : ℕ} (hs : s < 12) (hm : m < 2) (hj : j < 16) (hh : h < 2) {K : IVec T128x128 32 → Pr} {f : C d}
    (h11 : ∀ i, g11 f i = A.WP (i 0).val (i 1).val (i 2).val)
    (hk : ∀ v : IVec T128x128 32, (∀ r g : Fin 128, v (ix2 r g) = A.WP (512 * s + 256 * m + 128 * h + r.val) (j / 4) g.val) → Run Q (K v) f) :
    Run Q (ldWords R0 s m j h K) f := by
  refine run_load' _ _ _ _ fun (v : IVec T128x128 32) hv => hk v fun r g => ?_
  have hr : r.val < 128 := r.isLt
  have e : v (ix2 r g) = shapeCast T24576x128 (g11 f) (by decide) (ix2 ⟨2048 * s + 1024 * m + 512 * h + j / 4 + 4 * r.val, by omega⟩ g) := by
    refine (congrFun hv _).trans ?_
    refine congrArg (shapeCast T24576x128 (g11 f) (by decide)) (idx2_ext ?_ ?_)
    · show 2048 * (s % 12) + 1024 * (m % 2) + 512 * (h % 2) + j % 16 / 4 + 4 * r.val = _
      show _ = 2048 * s + 1024 * m + 512 * h + j / 4 + 4 * r.val
      omega
    · show 0 + 1 * g.val = g.val; omega
  refine e.trans ((words_at _ _ _).trans ((h11 _).trans ?_))
  show A.WP ((2048 * s + 1024 * m + 512 * h + j / 4 + 4 * r.val) / 4) ((2048 * s + 1024 * m + 512 * h + j / 4 + 4 * r.val) % 4) g.val = _
  rw [show (2048 * s + 1024 * m + 512 * h + j / 4 + 4 * r.val) / 4 = 512 * s + 256 * m + 128 * h + r.val by omega,
    show (2048 * s + 1024 * m + 512 * h + j / 4 + 4 * r.val) % 4 = j / 4 by omega]

theorem dequant_at {s m j : ℕ} (hj : j < 16) {a b : IVec T128x128 32} {sc : FVec Ideal T256x128 .bf16}
    (ha : ∀ r g : Fin 128, a (ix2 r g) = A.WP (512 * s + 256 * m + 128 * 0 + r.val) (j / 4) g.val)
    (hb : ∀ r g : Fin 128, b (ix2 r g) = A.WP (512 * s + 256 * m + 128 * 1 + r.val) (j / 4) g.val)
    (hsc : ∀ (r : Fin 128) (e : Fin 2) (g : Fin 128), sc (ix2 ⟨2 * r.val + e.val, by omega⟩ g) = A.WS (512 * s + 256 * m + 128 * e.val + r.val) g.val)
    (r c : Fin 256) : dequant (F := Ideal) j a b sc (ix2 r c) = WT A (wrow s m r.val) j (c.val / 128) (c.val % 128) := by
  obtain ⟨q, e, rfl⟩ : ∃ (q : Fin 128) (e : Fin 2), r = ⟨2 * q.val + e.val, by omega⟩ :=
    ⟨⟨r.val / 2, by omega⟩, ⟨r.val % 2, by omega⟩, Fin.ext (by show r.val = 2 * (r.val / 2) + r.val % 2; omega)⟩
  have hq : q.val < 128 := q.isLt
  have he : e.val < 2 := e.isLt
  have hc : c.val < 256 := c.isLt
  have hw : wrow s m (2 * q.val + e.val) = 512 * s + 256 * m + 128 * e.val + q.val := by unfold wrow; omega
  have hcode : ∀ g : Fin 128, codes j a b (ix2 q g) = if j % 4 < 2 then (a (ix2 q g) &&& 65535#32) ||| (b (ix2 q g) <<< 16) else (a (ix2 q g) >>> 16) ||| (b (ix2 q g) &&& (-65536#32)) := by
    intro g
    unfold codes
    split <;> rfl
  have hword : ∀ g : Fin 128, (if e.val = 0 then a (ix2 q g) else b (ix2 q g)) = A.WP (512 * s + 256 * m + 128 * e.val + q.val) (j / 4) g.val := by
    intro g
    obtain h | h : e.val = 0 ∨ e.val = 1 := by omega
    · rw [if_pos h, ha, h]
    · rw [if_neg (by omega), hb, h]
  have main : ∀ (h : Fin 2) (g : Fin 128) (w : IVec T128x128 32), w (ix2 q g) = codes j a b (ix2 q g) >>> ((if j % 2 = 0 then 0 else 8) + 4 * h.val) →
      field (F := Ideal) w sc (ix2 ⟨2 * q.val + e.val, by omega⟩ g) = WT A (wrow s m (2 * q.val + e.val)) j h.val g.val := by
    intro h g w hw'
    rw [field_at, hsc, hw', codes_at j hj _ _ e h _ (hcode g), hword]
    unfold WT
    rw [hw]
  unfold dequant
  rw [catCols_at]
  split
  · rename_i h1
    refine (main 0 ⟨c.val, h1⟩ _ ?_).trans ?_
    · by_cases h2 : j % 2 = 0
      · rw [if_pos h2, if_pos h2]; rfl
      · rw [if_neg h2, if_neg h2]; rfl
    · show WT A _ j 0 c.val = _
      rw [show c.val / 128 = 0 by omega, show c.val % 128 = c.val by omega]
  · rename_i h1
    refine (main 1 ⟨c.val - 128, by omega⟩ _ ?_).trans ?_
    · by_cases h2 : j % 2 = 0
      · rw [if_pos h2, if_pos h2]; rfl
      · rw [if_neg h2, if_neg h2]; rfl
    · show WT A _ j 1 (c.val - 128) = _
      rw [show c.val / 128 = 1 by omega, show c.val % 128 = c.val - 128 by omega]

theorem read_clean (x : Mxu Ideal) (q : Fin 2) (a : ℕ) (h : Mxu.Fits a 256) (i : T256x256.Idx) (hl : x.live q (Mxu.row h (i 0)) = false) : x.read q a h i = 0 :=
  (x.clean _ _ _ hl).trans Ideal.ofBits_zero_f32

/-- What a unit's accumulator shows. -/
def rd (x : Mxu Ideal) (p m : ℕ) (r c : Fin 256) : EReal := x.read (unitOf m) (64 * (p % 2)) (fits p) (ix2 r c)

theorem rd_acc (x : Mxu Ideal) (p m j : ℕ) (hreg : ∀ q r, x.reg q r = none) (lhs rhs : FVec Ideal T256x256 .bf16) (r c : Fin 256) :
    rd ((x.pushed (unitOf m) (unitOf j) false rhs).accLhs (unitOf m) (unitOf j) (64 * (p % 2)) lhs (fits p)) p m r c
      = rd x p m r c + ∑ k : Fin 256, lhs (ix2 r k) * rhs (ix2 k c) := by
  unfold rd
  rw [Mxu.read_accLhs]
  have hp : ((x.pushed (unitOf m) (unitOf j) false rhs).staged (unitOf m) (unitOf j)).pass lhs (ix2 r c) = ∑ k : Fin 256, lhs (ix2 r k) * rhs (ix2 k c) := by
    have e : (x.pushed (unitOf m) (unitOf j) false rhs).staged (unitOf m) (unitOf j) = ⟨.bf16, false, rhs⟩ := by
      unfold Mxu.staged
      rw [Mxu.reg_pushed_of_none _ _ _ _ _ (hreg _ _)]; rfl
    rw [e]
    exact plain_at lhs rhs r c
  show Mxu.deposit _ _ (((x.pushed (unitOf m) (unitOf j) false rhs).staged (unitOf m) (unitOf j)).pass lhs (ix2 r c)) = _
  rw [hp, Mxu.read_pushed]
  have hl : ∀ l : Bool, l = x.live (unitOf m) (Mxu.row (fits p) ((ix2 r c : T256x256.Idx) 0)) →
      Mxu.deposit (F := Ideal) l (x.read (unitOf m) (64 * (p % 2)) (fits p) (ix2 r c)) (∑ k : Fin 256, lhs (ix2 r k) * rhs (ix2 k c))
        = x.read (unitOf m) (64 * (p % 2)) (fits p) (ix2 r c) + ∑ k : Fin 256, lhs (ix2 r k) * rhs (ix2 k c) := by
    intro l hl
    cases l
    · rw [read_clean x _ _ _ _ hl.symm, zero_add]; rfl
    · rfl
  exact hl _ (congrFun (congrFun (Mxu.live_pushed _ _ _ _ _) _) _)

theorem rd_acc_ne (x : Mxu Ideal) {p m p' m' : ℕ} (j : ℕ) (lhs rhs : FVec Ideal T256x256 .bf16) (hp : p < 2) (hm : m < 2) (hp' : p' < 2) (hm' : m' < 2)
    (h : p' ≠ p ∨ m' ≠ m) (r c : Fin 256) :
    rd ((x.pushed (unitOf m) (unitOf j) false rhs).accLhs (unitOf m) (unitOf j) (64 * (p % 2)) lhs (fits p)) p' m' r c = rd x p' m' r c := by
  unfold rd
  rw [Mxu.read_accLhs_ne, Mxu.read_pushed]
  rcases h with h | h
  · right; omega
  · left; intro e
    have : m' % 2 = m % 2 := congrArg Fin.val e
    omega

theorem reg_acc (x : Mxu Ideal) (p m j : ℕ) (hreg : ∀ q r, x.reg q r = none) (lhs rhs : FVec Ideal T256x256 .bf16) (q r : Fin 2) :
    ((x.pushed (unitOf m) (unitOf j) false rhs).accLhs (unitOf m) (unitOf j) (64 * (p % 2)) lhs (fits p)).reg q r = none := by
  by_cases h : q = unitOf m ∧ r = unitOf j
  · obtain ⟨rfl, rfl⟩ := h
    exact Mxu.reg_accLhs _ _ _ _ _ _
  · rw [Mxu.reg_accLhs_ne _ _ _ _ _ _ _ _ h, Mxu.reg_pushed_ne _ _ _ _ _ _ _ h, hreg]

/-- What holds between the passes of step `s` into accumulator `p`: `n0` of them done on the first unit, `n1` on the second. -/
structure Core (s p n0 n1 : ℕ) (x : Mxu Ideal) (f : C d) : Prop where
  inp : Inp A f
  sc : SC A s p f
  reg : ∀ q r, x.reg q r = none
  acc0 : ∀ r c, rd x p 0 r c = YP A n0 (wrow s 0 r.val) c.val
  acc1 : ∀ r c, rd x p 1 r c = YP A n1 (wrow s 1 r.val) c.val

theorem YP_succ (n o b : ℕ) : YP A (n + 1) o b = YP A n o b + ∑ k : Fin 256, TM A o b n k.val := Finset.sum_range_succ _ _

theorem run_pass {s p j m : ℕ} (hs : s < 12) (hp : p < 2) (hj : j < 16) (hm : m < 2) {rhs : FVec Ideal T256x256 .bf16} {K : Mxu Ideal → Pr} {x : Mxu Ideal} {f : C d}
    (hi : Inp A f) (hsc : SC A s p f) (hreg : ∀ q r, x.reg q r = none)
    (hr : ∀ r c : Fin 256, rhs (ix2 r c) = XN A (c.val / 128) (c.val % 128) (32 * (r.val % 128) + 16 * (r.val / 128) + j))
    (hk : ∀ x' : Mxu Ideal, (∀ q r, x'.reg q r = none) → (∀ r c, rd x' p m r c = rd x p m r c + ∑ k : Fin 256, TM A (wrow s m r.val) c.val j k.val) →
      (∀ p' < 2, ∀ m' < 2, p' ≠ p ∨ m' ≠ m → ∀ r c, rd x' p' m' r c = rd x p' m' r c) → Run Q (K x') f) :
    Run Q (pass R0 (L0 (F := Ideal)) s p j m rhs K x) f := by
  refine run_assume fun _ => ?_
  refine run_ldWords A hs hm hj (by decide : 0 < 2) hi.a11 fun a ha => run_ldWords A hs hm hj (by decide : 1 < 2) hi.a11 fun b hb => ?_
  refine run_scaleLd A hp hm hsc fun sc hs' => ?_
  refine hk _ (reg_acc x p m j hreg _ _) (fun r c => ?_) fun p' hp' m' hm' h r c => rd_acc_ne x j _ _ hp hm hp' hm' h r c
  rw [rd_acc x p m j hreg]
  congr 1
  refine Finset.sum_congr rfl fun k _ => ?_
  rw [dequant_at A hj ha hb hs', hr]
  rfl

/-- A step, whatever goes on between its passes: `J` holds before a pass, `J'` between its loads and its piece. -/
theorem run_multiply {s p : ℕ} (hs : s < 12) (hp : p < 2) {nrm : ℕ → Pr → Pr} {piece : ℕ → (Mxu Ideal → Pr) → Mxu Ideal → Pr} (J J' : ℕ → Mxu Ideal → C d → Prop)
    (hc : ∀ x f f', (∀ b, b ≠ cc0_scratch12 → f' b = f b) → J 0 x f → J 0 x f')
    (hx : ∀ j x x' f, (∀ p' < 2, ∀ m < 2, p' ≠ p → ∀ r c, rd x' p' m r c = rd x p' m r c) → J' j x f → J' j x' f)
    (hn : ∀ j < 16, ∀ (K : Pr) x f, Core A s p j j x f → J j x f →
      (∀ f', Core A s p j j x f' → A17 A (j + 1) f' → J' j x f' → Run Q K f') → Run Q (nrm j K) f)
    (hpc : ∀ j < 16, ∀ (K : Mxu Ideal → Pr) x f, Core A s p (j + 1) (j + 1) x f → J' j x f →
      (∀ x' f', Core A s p (j + 1) (j + 1) x' f' → J (j + 1) x' f' → Run Q (K x') f') → Run Q (piece j K x) f)
    {K : Mxu Ideal → Pr} {x : Mxu Ideal} {f : C d} (hi : Inp A f) (hreg : ∀ q r, x.reg q r = none) (h0 : ∀ m < 2, ∀ r c, rd x p m r c = 0) (hJ : J 0 x f)
    (hk : ∀ x' f', Core A s p 16 16 x' f' → J 16 x' f' → Run Q (K x') f') : Run Q (multiply R0 (L0 (F := Ideal)) nrm piece s p K x) f := by
  refine run_waitWs <| run_waitWp <| ?_
  refine run_pairScales A hs hp (by decide : 0 < 2) hi.a12 fun f1 b1 e1 => ?_
  have hi1 : Inp A f1 := hi.of A fun b hb => b1 b (by revert b; decide)
  refine run_pairScales A hs hp (by decide : 1 < 2) hi1.a12 fun f2 b2 e2 => ?_
  have hi2 : Inp A f2 := hi1.of A fun b hb => b2 b (by revert b; decide)
  have hs2 : SC A s p f2 := by
    intro i h
    have i1 : (i 1).val < 2 := (i 1).isLt
    rw [e2 i, e1 i]
    obtain c | c : (i 1).val = 0 ∨ (i 1).val = 1 := by omega
    · rw [if_neg (by omega), if_pos ⟨h, c⟩, c]
    · rw [if_pos ⟨h, c⟩, c]
  have hJ2 : J 0 x f2 := hc _ _ _ b2 (hc _ _ _ b1 hJ)
  refine run_iter (step := jstep R0 (L0 (F := Ideal)) nrm piece s p) (fun j x f => Core A s p j j x f ∧ J j x f) 16 0 ?_ ?_ ?_
  · rintro j - hj K x f ⟨h, hj'⟩ hK
    refine hn j (by omega) _ x f h hj' fun f3 h3 ha h3' => ?_
    refine run_ldRhs A (by omega) ha fun rhs hr => ?_
    refine run_pass A hs hp (by omega) (by decide : 0 < 2) h3.inp h3.sc h3.reg hr fun x1 r1 a1 n1 => ?_
    refine run_pass A hs hp (by omega) (by decide : 1 < 2) h3.inp h3.sc r1 hr fun x2 r2 a2 n2 => ?_
    refine hpc j (by omega) K x2 f3 ⟨h3.inp, h3.sc, r2, fun r c => ?_, fun r c => ?_⟩ ?_ fun x' f' c1 c2 => hK x' f' ⟨c1, c2⟩
    · rw [n2 p hp 0 (by decide) (.inr (by decide)), a1, h3.acc0, YP_succ]
    · rw [a2, n1 p hp 1 (by decide) (.inr (by decide)), h3.acc1, YP_succ]
    · exact hx j x x2 f3 (fun p' hp' m hm h r c => (n2 p' hp' m hm (.inl h) r c).trans (n1 p' hp' m hm (.inl h) r c)) h3'
  · refine ⟨⟨hi2, hs2, hreg, fun r c => ?_, fun r c => ?_⟩, hJ2⟩
    · rw [h0 0 (by decide)]; rfl
    · rw [h0 1 (by decide)]; rfl
  · rintro x' f' ⟨h1, h2⟩
    exact hk x' f' h1 h2

end Cert.Proof.Val
-- ==== Proof.Val.Out.lean ====
/-
  The ends of the heads: out of the accumulators, turned by their angles, into the slabs of the results.
-/
module

public import proofs.«01_k».proof.Proof.Val.Mul

@[expose] public section

set_option maxRecDepth 16384

noncomputable section

namespace Cert.Proof.Val

open Cert.KI Cert.KI.Gen Cert.Proof.Body Cert.Proof.KIFrame
open Idealize.ShloMosaic Idealize.SL.Sem

variable {d : Dev nD} {Q : C d → Prop} (A : Ar)

/-- Weight row `o` by batch row `b`: the multiplication's result. -/
def Y (o b : ℕ) : EReal := YP A 16 o b

/-- Element `r` of head `h` of slab `o`, at batch row `b`: turned by its angle, the last slab as it is. -/
def OUT (o b h r : ℕ) : EReal :=
  if o < 5 then
    if r % 2 = 0 then Y A (1024 * o + 128 * h + 2 * (r / 2)) b * Ideal.cos (ang A (b / 128) (r / 2) (b % 128))
      - Y A (1024 * o + 128 * h + 2 * (r / 2) + 1) b * Ideal.sin (ang A (b / 128) (r / 2) (b % 128))
    else Y A (1024 * o + 128 * h + 2 * (r / 2)) b * Ideal.sin (ang A (b / 128) (r / 2) (b % 128))
      + Y A (1024 * o + 128 * h + 2 * (r / 2) + 1) b * Ideal.cos (ang A (b / 128) (r / 2) (b % 128))
  else Y A (1024 * o + 128 * h + r) b

/-- The place of an element of the slabs in the order in which they are filled. -/
def ord (i : T6x256x8x128.Idx) : ℕ := 8 * (i 0).val + 2 * ((i 2).val / 2) + (i 1).val / 128

/-- The first `n` parts of the slabs are filled. -/
def D23 (n : ℕ) (f : C d) : Prop := ∀ i, ord i < n → g23 f i = OUT A (i 0).val (i 1).val (i 2).val (i 3).val

/-- The buffer between: pair `m`'s rows of step `s`, for a batch half. -/
def YB (s m : ℕ) (f : C d) : Prop := ∀ i, (i 0).val = m → g21 f i = Y A (wrow s m (i 2).val) (128 * (i 1).val + (i 3).val)

theorem run_ySt {m bh : ℕ} (hm : m < 2) (hb : bh < 2) {y : FVec Ideal T256x256 .f32} {K : Pr} {f : C d}
    (hk : ∀ f' : C d, (∀ b, b ≠ cc0_scratch13 → f' b = f b) →
      (∀ i, g21 f' i = if (i 0).val = m ∧ (i 1).val = bh then y (ix2 (i 2) (Fin.ofNat 256 (128 * bh + (i 3).val))) else g21 f i) → Run Q K f') :
    Run Q (ySt R0 m bh y K) f := by
  refine run_load _ _ _ _ <| run_store _ _ _ _ _ _ fun f' h1 hi' => ?_
  have h1 : ∀ b, b ≠ cc0_scratch13 → f' b = f b := h1
  refine hk f' h1 fun i => ?_
  rcases hi' i with ⟨x, hy, e⟩ | ⟨hy, e⟩
  · obtain ⟨y0, y1, r, l, rfl⟩ : ∃ y0 y1 r l, x = ix4 y0 y1 r l := ⟨x 0, x 1, x 2, x 3, (ix4_eta x).symm⟩
    have y00 : y0 = 0 := Subsingleton.elim _ _
    have y10 : y1 = 0 := Subsingleton.elim _ _
    subst y00 y10
    have i0 : (i 0).val = m % 2 + 1 * 0 := by rw [← hy]; rfl
    have i1 : (i 1).val = bh % 2 + 1 * 0 := by rw [← hy]; rfl
    have i2 : (i 2).val = 0 + 1 * r.val := by rw [← hy]; rfl
    have i3 : (i 3).val = 0 + 1 * l.val := by rw [← hy]; rfl
    have hl : l.val < 128 := l.isLt
    rw [if_pos ⟨by omega, by omega⟩]
    refine e.trans ?_
    have e2 : i 2 = r := Fin.ext (by omega)
    rw [e2]
    refine Eq.trans (b := shapeCast T1x1x256x128 (extractStridedSlice T256x128 ![0, 128 * (bh % 2)] y (ySlices bh)) (by decide) (ix4 0 0 r l)) rfl ?_
    refine Eq.trans (b := extractStridedSlice T256x128 ![0, 128 * (bh % 2)] y (ySlices bh) (ix2 r l)) (by pointwise) ?_
    refine congrArg y (idx2_ext ?_ ?_)
    · show 0 + r.val = r.val; omega
    · show 128 * (bh % 2) + l.val = (128 * bh + (i 3).val) % 256; omega
  · rw [if_neg]
    · exact e
    · rintro ⟨c0, c1⟩
      refine hy (ix4 0 0 (i 2) (i 3)) ?_
      funext k
      refine Fin.ext ?_
      revert k
      refine Fin.forall_fin_succ.mpr ⟨?_, Fin.forall_fin_succ.mpr ⟨?_, Fin.forall_fin_two.mpr ⟨?_, ?_⟩⟩⟩
      · show m % 2 + 1 * 0 = (i 0).val; omega
      · show bh % 2 + 1 * 0 = (i 1).val; omega
      · show 0 + 1 * (i 2).val = (i 2).val; omega
      · show 0 + 1 * (i 3).val = (i 3).val; omega

/-- The rows of a pair out of its accumulator. -/
theorem run_popAcc {s p m : ℕ} (hp : p < 2) (hm : m < 2) {K : Mxu Ideal → Pr} {x : Mxu Ideal} {f : C d} (ha : ∀ r c, rd x p m r c = Y A (wrow s m r.val) c.val)
    (hk : ∀ (x' : Mxu Ideal) (f' : C d), (∀ b, b ≠ cc0_scratch13 → f' b = f b) → YB A s m f' → (∀ m' < 2, m' ≠ m → YB A s m' f → YB A s m' f') →
      x'.reg = x.reg → (∀ r c, rd x' p m r c = 0) → (∀ p' < 2, ∀ m' < 2, p' ≠ p ∨ m' ≠ m → ∀ r c, rd x' p' m' r c = rd x p' m' r c) → Run Q (K x') f') :
    Run Q (popAcc R0 p m K x) f := by
  refine run_ySt hm (by decide : 0 < 2) fun f1 b1 e1 => run_ySt hm (by decide : 1 < 2) fun f2 b2 e2 => ?_
  refine hk _ f2 (fun b hb => (b2 b hb).trans (b1 b hb)) (fun i h => ?_) (fun m' _ hne h i hi => ?_) rfl (fun r c => ?_) fun p' hp' m' hm' h r c => ?_
  · have i1 : (i 1).val < 2 := (i 1).isLt
    have i3 : (i 3).val < 128 := (i 3).isLt
    rw [e2 i, e1 i]
    obtain c | c : (i 1).val = 0 ∨ (i 1).val = 1 := by omega
    · rw [if_neg (by omega), if_pos ⟨h, c⟩, c]
      refine (ha _ _).trans ?_
      congr 1
      show (128 * 0 + (i 3).val) % 256 = _; omega
    · rw [if_pos ⟨h, c⟩, c]
      refine (ha _ _).trans ?_
      congr 1
      show (128 * 1 + (i 3).val) % 256 = _; omega
  · rw [e2 i, e1 i, if_neg (by omega), if_neg (by omega)]
    exact h i hi
  · unfold rd
    rw [Mxu.read_pop]
    exact Ideal.ofBits_zero_f32
  · unfold rd
    rw [Mxu.read_pop_ne]
    rcases h with h | h
    · right; omega
    · left; intro e
      have : m' % 2 = m % 2 := congrArg Fin.val e
      omega

/-- A part of a slab. -/
theorem run_outSt {o bh c : ℕ} (ho : o < 6) (hb : bh < 2) (hc : c < 4) {v : FVec Ideal T1x128x2x128 .bf16} {K : Pr} {f : C d}
    (h : D23 A (8 * o + 2 * c + bh) f)
    (hv : ∀ (l : Fin 128) (e : Fin 2) (r : Fin 128), v (ix4 0 l e r) = OUT A o (128 * bh + l.val) (2 * c + e.val) r.val)
    (hk : ∀ f' : C d, (∀ b, b ≠ cc0_scratch15 → f' b = f b) → D23 A (8 * o + 2 * c + bh + 1) f' → Run Q K f') :
    Run Q (outSt R0 o bh c v K) f := by
  refine run_load _ _ _ _ <| run_store _ _ _ _ _ _ fun f' h1 hi' => ?_
  have h1 : ∀ b, b ≠ cc0_scratch15 → f' b = f b := h1
  refine hk f' h1 fun i ho' => ?_
  rcases hi' i with ⟨x, hy, e⟩ | ⟨hy, e⟩
  · obtain ⟨y0, l, u, r, rfl⟩ : ∃ y0 l u r, x = ix4 y0 l u r := ⟨x 0, x 1, x 2, x 3, (ix4_eta x).symm⟩
    have y00 : y0 = 0 := Subsingleton.elim _ _
    subst y00
    have i0 : (i 0).val = o % 6 + 1 * 0 := by rw [← hy]; rfl
    have i1 : (i 1).val = 128 * (bh % 2) + 1 * l.val := by rw [← hy]; rfl
    have i2 : (i 2).val = 2 * (c % 4) + 1 * u.val := by rw [← hy]; rfl
    have i3 : (i 3).val = 0 + 1 * r.val := by rw [← hy]; rfl
    have j0 : (i 0).val = o := by omega
    have j1 : (i 1).val = 128 * bh + l.val := by omega
    have j2 : (i 2).val = 2 * c + u.val := by omega
    have j3 : (i 3).val = r.val := by omega
    rw [j0, j1, j2, j3]
    exact e.trans (hv l u r)
  · refine (show g23 f' i = g23 f i from e).trans (h i ?_)
    by_contra hlt
    have heq : ord i = 8 * o + 2 * c + bh := by omega
    unfold ord at heq
    have i1 : (i 1).val < 256 := (i 1).isLt
    have i2 : (i 2).val < 8 := (i 2).isLt
    have i0 : (i 0).val < 6 := (i 0).isLt
    refine hy (ix4 0 ⟨(i 1).val - 128 * bh, by omega⟩ ⟨(i 2).val - 2 * c, by omega⟩ (i 3)) ?_
    funext k
    refine Fin.ext ?_
    revert k
    refine Fin.forall_fin_succ.mpr ⟨?_, Fin.forall_fin_succ.mpr ⟨?_, Fin.forall_fin_two.mpr ⟨?_, ?_⟩⟩⟩
    · show o % 6 + 1 * 0 = (i 0).val; omega
    · show 128 * (bh % 2) + 1 * ((i 1).val - 128 * bh) = (i 1).val; omega
    · show 2 * (c % 4) + 1 * ((i 2).val - 2 * c) = (i 2).val; omega
    · show 0 + 1 * (i 3).val = (i 3).val; omega

theorem flat_at (y : FVec Ideal T256x128 .f32) (l : Fin 128) (e : Fin 2) (r : Fin 128) : (L0 (F := Ideal)).flat y (ix4 0 l e r) = y (ix2 ⟨2 * r.val + e.val, by omega⟩ l) := by
  obtain ⟨e, he⟩ := e
  show Cert.Proof.KIBody.pairT (F := Ideal) (rowsOfParity 0 S128x128 (truncf .bf16 y (by decide) : FVec Ideal S256x128 .bf16) (by decide))
    (rowsOfParity 1 S128x128 (truncf .bf16 y (by decide) : FVec Ideal S256x128 .bf16) (by decide)) (ix4 0 l ⟨e, he⟩ r) = _
  unfold Cert.Proof.KIBody.pairT
  obtain rfl | rfl : e = 0 ∨ e = 1 := by omega
  · show interleaveRows S1x128x2x128 _ _ _ (ix4 0 l 0 r) = _
    pointwise
  · show interleaveRows S1x128x2x128 _ _ _ (ix4 0 l 1 r) = _
    pointwise

theorem run_finFlat {p m bh : ℕ} (hp : p < 2) (hm : m < 2) (hb : bh < 2) {K : Pr} {f : C d} (hy : YB A (10 + p) m f) (h : D23 A (40 + 4 * p + 2 * m + bh) f)
    (hk : ∀ f' : C d, (∀ b, b ≠ cc0_scratch15 → f' b = f b) → D23 A (40 + 4 * p + 2 * m + bh + 1) f' → Run Q K f') :
    Run Q (finFlat R0 (L0 (F := Ideal)) 5 p m bh K) f := by
  refine run_load' _ _ _ _ fun (v : FVec Ideal T1x1x256x128 .f32) hv => ?_
  have e : 8 * 5 + 2 * (2 * (p % 2) + m) + bh = 40 + 4 * p + 2 * m + bh := by omega
  refine run_outSt A (by decide : 5 < 6) hb (by omega) (by rw [e]; exact h) (fun l u r => ?_) fun f' b1 h1 => hk f' b1 (by rw [← e]; exact h1)
  rw [flat_at]
  have e2 : ∀ (r : Fin 256) (l : Fin 128), shapeCast T256x128 v (by decide) (ix2 r l) = v (ix4 0 0 r l) := by intro r l; pointwise
  rw [e2]
  refine (congrFun hv _).trans ((hy _ ?_).trans ?_)
  · show m % 2 + 1 * 0 = m; omega
  show Y A (wrow (10 + p) m (0 + 1 * (2 * r.val + u.val))) (128 * (bh % 2 + 1 * 0) + (0 + 1 * l.val)) = _
  unfold OUT wrow
  rw [if_neg (by decide)]
  have hu : u.val < 2 := u.isLt
  congr 1 <;> omega

end Cert.Proof.Val
-- ==== Proof.Val.Rot.lean ====
/-
  The heads turned by their angles.
-/
module

public import proofs.«01_k».proof.Proof.Val.Out

@[expose] public section

set_option maxRecDepth 16384

noncomputable section

namespace Cert.Proof.Val

open Cert.KI Cert.KI.Gen Cert.Proof.Body Cert.Proof.KIFrame
open Idealize.ShloMosaic Idealize.SL.Sem

variable {d : Dev nD} {Q : C d → Prop} (A : Ar)

theorem inter4_at (lo hi : FVec Ideal S64x128 .f32) (r : Fin 64) (e : Fin 2) (l : Fin 128) :
    interleaveRows S1x64x2x128
      (shapeCast S1x64x1x128 (shapeCast S1x64x128 (truncf .bf16 lo (by decide) : FVec Ideal S64x128 .bf16) (by decide)) (by decide))
      (shapeCast S1x64x1x128 (shapeCast S1x64x128 (truncf .bf16 hi (by decide) : FVec Ideal S64x128 .bf16) (by decide)) (by decide)) (by decide) (ix4 0 r e l)
      = if e.val = 0 then lo (ix2 r l) else hi (ix2 r l) := by
  obtain ⟨e, he⟩ := e
  obtain rfl | rfl : e = 0 ∨ e = 1 := by omega
  · show interleaveRows S1x64x2x128 _ _ _ (ix4 0 r 0 l) = lo (ix2 r l)
    pointwise
  · show interleaveRows S1x64x2x128 _ _ _ (ix4 0 r 1 l) = hi (ix2 r l)
    pointwise

theorem run_turnSt1 {m q : ℕ} (hm : m < 2) (hq : q < 2) {lo hi : FVec Ideal S64x128 .f32} {K : Pr} {f : C d}
    (hk : ∀ f' : C d, (∀ b, b ≠ cc0_scratch14 → f' b = f b) →
      (∀ i, g22 f' i = if (i 0).val = m ∧ (i 1).val % 2 = q then
        (if (i 2).val = 0 then lo (ix2 (Fin.ofNat 64 ((i 1).val / 2)) (i 3)) else hi (ix2 (Fin.ofNat 64 ((i 1).val / 2)) (i 3))) else g22 f i) → Run Q K f') :
    Run Q (Cert.Proof.KIBody.turnSt1 (Memref.whole cc0_scratch14) (Memref.isWhole_whole _) m q lo hi K) f := by
  refine run_load _ _ _ _ <| run_store _ _ _ _ _ _ fun f' h1 hi' => ?_
  have h1 : ∀ b, b ≠ cc0_scratch14 → f' b = f b := h1
  refine hk f' h1 fun i => ?_
  rcases hi' i with ⟨y, hy, e⟩ | ⟨hy, e⟩
  · obtain ⟨y0, r, u, l, rfl⟩ : ∃ y0 r u l, y = ix4 y0 r u l := ⟨y 0, y 1, y 2, y 3, (ix4_eta y).symm⟩
    have y00 : y0 = 0 := Subsingleton.elim _ _
    subst y00
    have i0 : (i 0).val = m % 2 + 1 * 0 := by rw [← hy]; rfl
    have i1 : (i 1).val = q % 2 + 2 * r.val := by rw [← hy]; rfl
    have i2 : (i 2).val = 0 + 1 * u.val := by rw [← hy]; rfl
    have i3 : (i 3).val = 0 + 1 * l.val := by rw [← hy]; rfl
    have hr : r.val < 64 := r.isLt
    rw [if_pos ⟨by omega, by omega⟩]
    refine e.trans ?_
    refine (inter4_at lo hi r u l).trans ?_
    have e3 : (i 2).val = u.val := by omega
    have e4 : i 3 = l := Fin.ext (by omega)
    have e2 : Fin.ofNat 64 ((i 1).val / 2) = r := Fin.ext (by show (i 1).val / 2 % 64 = r.val; omega)
    rw [e3, e4, e2]
  · rw [if_neg]
    · exact e
    · rintro ⟨c0, c2⟩
      have hi2 : (i 1).val < 128 := (i 1).isLt
      refine hy (ix4 0 ⟨(i 1).val / 2, by omega⟩ (i 2) (i 3)) ?_
      funext k
      refine Fin.ext ?_
      revert k
      refine Fin.forall_fin_succ.mpr ⟨?_, Fin.forall_fin_succ.mpr ⟨?_, Fin.forall_fin_two.mpr ⟨?_, ?_⟩⟩⟩
      · show m % 2 + 1 * 0 = (i 0).val; omega
      · show q % 2 + 2 * ((i 1).val / 2) = (i 1).val; omega
      · show 0 + 1 * (i 2).val = (i 2).val; omega
      · show 0 + 1 * (i 3).val = (i 3).val; omega

theorem turned_at (v : FVec Ideal S1x128x2x128 .bf16) (l : Fin 128) (e : Fin 2) (r : Fin 128) :
    Cert.Proof.KIBody.turned (F := Ideal) v (ix4 0 l e r) = v (ix4 0 r e l) := by
  unfold Cert.Proof.KIBody.turned Cert.Proof.KIBody.pairT
  obtain ⟨e, he⟩ := e
  obtain rfl | rfl : e = 0 ∨ e = 1 := by omega
  · show interleaveRows S1x128x2x128 _ _ _ (ix4 0 l 0 r) = v (ix4 0 r 0 l)
    pointwise
  · show interleaveRows S1x128x2x128 _ _ _ (ix4 0 l 1 r) = v (ix4 0 r 1 l)
    pointwise

theorem run_turn {m : ℕ} (hm : m < 2) {e0 e1 o0 o1 : FVec Ideal T64x128 .f32} {K : FVec Ideal T1x128x2x128 .bf16 → Pr} {f : C d}
    (hk : ∀ (f' : C d) (v : FVec Ideal T1x128x2x128 .bf16), (∀ b, b ≠ cc0_scratch14 → f' b = f b) →
      (∀ (l : Fin 128) (e : Fin 2) (r : Fin 128), v (ix4 0 l e r) = if r.val % 2 = 0 then (if e.val = 0 then e0 (ix2 ⟨r.val / 2, by omega⟩ l) else e1 (ix2 ⟨r.val / 2, by omega⟩ l))
        else (if e.val = 0 then o0 (ix2 ⟨r.val / 2, by omega⟩ l) else o1 (ix2 ⟨r.val / 2, by omega⟩ l))) → Run Q (K v) f') :
    Run Q ((L0 (F := Ideal)).turn m e0 e1 o0 o1 K) f := by
  refine run_turnSt1 hm (by decide : 0 < 2) fun f1 b1 h1 => run_turnSt1 hm (by decide : 1 < 2) fun f2 b2 h2 => ?_
  refine run_load' _ _ _ _ fun (v : FVec Ideal S1x128x2x128 .bf16) hv => hk f2 _ (fun b hb => (b2 b hb).trans (b1 b hb)) fun l e r => ?_
  rw [turned_at]
  have hr : r.val < 128 := r.isLt
  have hm' : m % 2 + 1 * 0 = m := by omega
  have hrr : 0 + 1 * r.val = r.val := by omega
  have hl : ∀ h : 0 + 1 * l.val < 128, (⟨0 + 1 * l.val, h⟩ : Fin 128) = l := fun h => Fin.ext (by show 0 + 1 * l.val = l.val; omega)
  have ev : v (ix4 0 r e l) = g22 f2 (ix4 ⟨m, hm⟩ r e l) := by
    refine (congrFun hv _).trans (congrArg (g22 f2) ?_)
    funext k
    refine Fin.ext ?_
    revert k
    refine Fin.forall_fin_succ.mpr ⟨?_, Fin.forall_fin_succ.mpr ⟨?_, Fin.forall_fin_two.mpr ⟨?_, ?_⟩⟩⟩
    · show m % 2 + 1 * 0 = m; omega
    · show 0 + 1 * r.val = r.val; omega
    · show 0 + 1 * e.val = e.val; omega
    · show 0 + 1 * l.val = l.val; omega
  have ho : Fin.ofNat 64 (r.val / 2) = (⟨r.val / 2, by omega⟩ : Fin 64) := Fin.ext (Nat.mod_eq_of_lt (by omega))
  rw [ev, h2, h1]
  show (if m = m ∧ r.val % 2 = 1 then (if e.val = 0 then o0 (ix2 (Fin.ofNat 64 (r.val / 2)) l) else o1 (ix2 (Fin.ofNat 64 (r.val / 2)) l))
    else if m = m ∧ r.val % 2 = 0 then (if e.val = 0 then e0 (ix2 (Fin.ofNat 64 (r.val / 2)) l) else e1 (ix2 (Fin.ofNat 64 (r.val / 2)) l)) else _) = _
  rw [ho]
  obtain h | h : r.val % 2 = 0 ∨ r.val % 2 = 1 := by omega
  · rw [if_neg (by omega), if_pos ⟨rfl, h⟩, if_pos h]
  · rw [if_pos ⟨rfl, h⟩, if_neg (show ¬ r.val % 2 = 0 by omega)]

theorem turn_cast (v : FVec Ideal T1x64x128 .f32) (i : Fin 64) (l : Fin 128) : shapeCast T64x128 v (by decide) (ix2 i l) = v (ix3 0 i l) := by
  pointwise

theorem run_turnLd18 {bh : ℕ} (hb : bh < 2) {K : FVec Ideal T64x128 .f32 → Pr} {f : C d} (h : Ang A 2 f)
    (hk : ∀ v : FVec Ideal T64x128 .f32, (∀ (i : Fin 64) (l : Fin 128), v (ix2 i l) = Ideal.cos (ang A bh i.val l.val)) → Run Q (K v) f) :
    Run Q (turnLd R0.a18 bh K) f := by
  refine run_load' _ _ _ _ fun (v : FVec Ideal T1x64x128 .f32) hv => hk _ fun i l => ?_
  refine (turn_cast v i l).trans ((congrFun hv _).trans ((h.1 _ ?_).trans ?_))
  · show bh % 2 + 1 * 0 < 2; omega
  have e0 : bh % 2 + 1 * 0 = bh := by omega
  have e1 : 0 + 1 * i.val = i.val := by omega
  have e2 : 0 + 1 * l.val = l.val := by omega
  show Ideal.cos (ang A (bh % 2 + 1 * 0) (0 + 1 * i.val) (0 + 1 * l.val)) = _
  rw [e0, e1, e2]

theorem run_turnLd19 {bh : ℕ} (hb : bh < 2) {K : FVec Ideal T64x128 .f32 → Pr} {f : C d} (h : Ang A 2 f)
    (hk : ∀ v : FVec Ideal T64x128 .f32, (∀ (i : Fin 64) (l : Fin 128), v (ix2 i l) = Ideal.sin (ang A bh i.val l.val)) → Run Q (K v) f) :
    Run Q (turnLd R0.a19 bh K) f := by
  refine run_load' _ _ _ _ fun (v : FVec Ideal T1x64x128 .f32) hv => hk _ fun i l => ?_
  refine (turn_cast v i l).trans ((congrFun hv _).trans ((h.2 _ ?_).trans ?_))
  · show bh % 2 + 1 * 0 < 2; omega
  have e0 : bh % 2 + 1 * 0 = bh := by omega
  have e1 : 0 + 1 * i.val = i.val := by omega
  have e2 : 0 + 1 * l.val = l.val := by omega
  show Ideal.sin (ang A (bh % 2 + 1 * 0) (0 + 1 * i.val) (0 + 1 * l.val)) = _
  rw [e0, e1, e2]

theorem y_cast (v : FVec Ideal T1x1x256x128 .f32) (r : Fin 256) (l : Fin 128) : shapeCast T256x128 v (by decide) (ix2 r l) = v (ix4 0 0 r l) := by
  pointwise

theorem run_yLd {s m bh r : ℕ} (hm : m < 2) (hb : bh < 2) (hr : r < 4) {K : FVec Ideal T64x128 .f32 → Pr} {f : C d} (h : YB A s m f)
    (hk : ∀ v : FVec Ideal T64x128 .f32, (∀ (i : Fin 64) (l : Fin 128), v (ix2 i l) = Y A (wrow s m (r + 4 * i.val)) (128 * bh + l.val)) → Run Q (K v) f) :
    Run Q (yLd R0 m bh r K) f := by
  refine run_load' _ _ _ _ fun (v : FVec Ideal T64x128 .f32) hv => hk v fun i l => ?_
  have hi : i.val < 64 := i.isLt
  have e : v (ix2 i l) = shapeCast T256x128 (fun y : T1x1x256x128.Idx => g21 f ((Rect.unit (s := T2x2x256x128) ![m % 2, bh % 2, 0, 0] T1x1x256x128.size (yInb m bh)).toLoadRect.idx y)) (by decide)
      (ix2 ⟨r + 4 * i.val, by omega⟩ l) := by
    refine (congrFun hv _).trans ?_
    refine congrArg (shapeCast T256x128 (fun y : T1x1x256x128.Idx => g21 f ((Rect.unit (s := T2x2x256x128) ![m % 2, bh % 2, 0, 0] T1x1x256x128.size (yInb m bh)).toLoadRect.idx y)) (by decide)) (idx2_ext ?_ ?_)
    · show r % 4 + 4 * i.val = r + 4 * i.val; omega
    · show 0 + 1 * l.val = l.val; omega
  refine e.trans ((y_cast _ _ _).trans ((h _ ?_).trans ?_))
  · show m % 2 + 1 * 0 = m; omega
  have e0 : bh % 2 + 1 * 0 = bh := by omega
  have e1 : 0 + 1 * (r + 4 * i.val) = r + 4 * i.val := by omega
  have e2 : 0 + 1 * l.val = l.val := by omega
  show Y A (wrow s m (0 + 1 * (r + 4 * i.val))) (128 * (bh % 2 + 1 * 0) + (0 + 1 * l.val)) = _
  rw [e0, e1, e2]

theorem run_finRot {o p m bh : ℕ} (ho : o < 5) (hp : p < 2) (hm : m < 2) (hb : bh < 2) {K : Pr} {f : C d} (ha : Ang A 2 f) (hy : YB A (2 * o + p) m f)
    (h : D23 A (8 * o + 4 * p + 2 * m + bh) f)
    (hk : ∀ f' : C d, (∀ b, b ≠ cc0_scratch14 → b ≠ cc0_scratch15 → f' b = f b) → D23 A (8 * o + 4 * p + 2 * m + bh + 1) f' → Run Q K f') :
    Run Q (finRot R0 (L0 (F := Ideal)) o p m bh K) f := by
  refine run_turnLd18 A hb ha fun c hc => run_turnLd19 A hb ha fun s hs => ?_
  refine run_yLd A hm hb (by decide : 0 < 4) hy fun a0 ha0 => run_yLd A hm hb (by decide : 1 < 4) hy fun b0 hb0 => ?_
  refine run_yLd A hm hb (by decide : 2 < 4) hy fun a1 ha1 => run_yLd A hm hb (by decide : 3 < 4) hy fun b1 hb1 => ?_
  refine run_turn hm fun f1 v n1 hv => ?_
  have e : 8 * o + 2 * (2 * (p % 2) + m) + bh = 8 * o + 4 * p + 2 * m + bh := by omega
  have h1 : D23 A (8 * o + 4 * p + 2 * m + bh) f1 := fun i hi => (congrFun (n1 cc0_scratch15 (by decide)) i).trans (h i hi)
  refine run_outSt A (by omega) hb (by omega) (by rw [e]; exact h1) (fun l u r => ?_) fun f' n2 h2 => hk f' (fun b x y => (n2 b y).trans (n1 b x)) (by rw [← e]; exact h2)
  have hl : l.val < 128 := l.isLt
  have hu : u.val < 2 := u.isLt
  have hr : r.val < 128 := r.isLt
  rw [hv]
  unfold OUT
  rw [if_pos ho]
  have ea : (128 * bh + l.val) / 128 = bh := by omega
  have eb : (128 * bh + l.val) % 128 = l.val := by omega
  rw [ea, eb]
  have w : ∀ k < 2, wrow (2 * o + p) m (u.val + 2 * k + 4 * (r.val / 2)) = 1024 * o + 128 * (2 * (2 * (p % 2) + m) + u.val) + 2 * (r.val / 2) + k := by
    intro k hk'
    unfold wrow
    rw [show (u.val + 2 * k + 4 * (r.val / 2)) % 2 = u.val by omega, show (u.val + 2 * k + 4 * (r.val / 2)) / 2 = k + 2 * (r.val / 2) by omega,
      show p % 2 = p by omega]
    omega
  have w0 := w 0 (by decide)
  have w1 := w 1 (by decide)
  obtain hq | hq : r.val % 2 = 0 ∨ r.val % 2 = 1 := by omega
  · rw [if_pos hq, if_pos hq]
    obtain hz | hz : u.val = 0 ∨ u.val = 1 := by omega
    · rw [if_pos hz]
      rw [hz] at w0 w1
      show a0 _ * c _ - a1 _ * s _ = _
      rw [ha0, ha1, hc, hs, hz]
      exact congrArg₂ (· - ·) (congrArg (fun z => Y A z _ * _) w0) (congrArg (fun z => Y A z _ * _) w1)
    · rw [if_neg (show ¬ u.val = 0 by omega)]
      rw [hz] at w0 w1
      show b0 _ * c _ - b1 _ * s _ = _
      rw [hb0, hb1, hc, hs, hz]
      exact congrArg₂ (· - ·) (congrArg (fun z => Y A z _ * _) w0) (congrArg (fun z => Y A z _ * _) w1)
  · rw [if_neg (show ¬ r.val % 2 = 0 by omega), if_neg (show ¬ r.val % 2 = 0 by omega)]
    obtain hz | hz : u.val = 0 ∨ u.val = 1 := by omega
    · rw [if_pos hz]
      rw [hz] at w0 w1
      show a0 _ * s _ + a1 _ * c _ = _
      rw [ha0, ha1, hc, hs, hz]
      exact congrArg₂ (· + ·) (congrArg (fun z => Y A z _ * _) w0) (congrArg (fun z => Y A z _ * _) w1)
    · rw [if_neg (show ¬ u.val = 0 by omega)]
      rw [hz] at w0 w1
      show b0 _ * s _ + b1 _ * c _ = _
      rw [hb0, hb1, hc, hs, hz]
      exact congrArg₂ (· + ·) (congrArg (fun z => Y A z _ * _) w0) (congrArg (fun z => Y A z _ * _) w1)

end Cert.Proof.Val
-- ==== Proof.Val.Whole.lean ====
/-
  The whole body: what it leaves in the results.
-/
module

public import proofs.«01_k».proof.Proof.Val.Rot

@[expose] public section

set_option maxRecDepth 16384

noncomputable section

namespace Cert.Proof.Val

open Cert.KI Cert.KI.Gen Cert.Proof.Body Cert.Proof.KIFrame
open Idealize.ShloMosaic Idealize.SL.Sem

variable {d : Dev nD} {Q : C d → Prop} (A : Ar)

attribute [local irreducible] Run

def o5 (f : C d) : T256x32x128.Idx → EReal := f main_v7_0
def o6 (f : C d) : T256x8x128.Idx → EReal := f main_v7_1
def o7 (f : C d) : T256x8x128.Idx → EReal := f main_v7_2

/-- The results of the first `n` slabs are out. -/
structure Res (n : ℕ) (f : C d) : Prop where
  q : ∀ i, (i 1).val / 8 < n → o5 f i = OUT A ((i 1).val / 8) (i 0).val ((i 1).val % 8) (i 2).val
  k : 5 ≤ n → ∀ i, o6 f i = OUT A 4 (i 0).val (i 1).val (i 2).val
  v : 6 ≤ n → ∀ i, o7 f i = OUT A 5 (i 0).val (i 1).val (i 2).val

abbrev outRefs : List (Ref sig .tc) := [main_v7_0, main_v7_1, main_v7_2]

theorem Res.of {n : ℕ} {f f' : C d} (h : Res A n f) (e : ∀ b ∈ outRefs, f' b = f b) : Res A n f' where
  q i hi := (congrFun (e main_v7_0 (by decide)) i).trans (h.q i hi)
  k hn i := (congrFun (e main_v7_1 (by decide)) i).trans (h.k hn i)
  v hn i := (congrFun (e main_v7_2 (by decide)) i).trans (h.v hn i)

/-- After `i` of the six pieces that drain accumulator `p` into slab `o`. -/
structure Dr (o p i : ℕ) (x : Mxu Ideal) (f : C d) : Prop where
  ang : Ang A 2 f
  xn : A17 A 16 f
  y0 : 1 ≤ i → YB A (2 * o + p) 0 f
  y1 : 2 ≤ i → YB A (2 * o + p) 1 f
  a0 : i < 1 → ∀ r c, rd x p 0 r c = Y A (wrow (2 * o + p) 0 r.val) c.val
  a1 : i < 2 → ∀ r c, rd x p 1 r c = Y A (wrow (2 * o + p) 1 r.val) c.val
  z0 : 1 ≤ i → ∀ r c, rd x p 0 r c = 0
  z1 : 2 ≤ i → ∀ r c, rd x p 1 r c = 0
  out : D23 A (8 * o + 4 * p + (i - 2)) f
  res : Res A o f

/-- What ends a pair's batch half: it fills its part of the slab. -/
def Fin' (Q : C d → Prop) (fin : (o p m bh : ℕ) → Pr → Pr) (o p : ℕ) : Prop := ∀ m < 2, ∀ bh < 2, ∀ (K : Pr) (f : C d), Ang A 2 f → YB A (2 * o + p) m f →
  D23 A (8 * o + 4 * p + 2 * m + bh) f →
  (∀ f' : C d, (∀ b, b ≠ cc0_scratch14 → b ≠ cc0_scratch15 → f' b = f b) → D23 A (8 * o + 4 * p + 2 * m + bh + 1) f' → Run Q K f') → Run Q (fin o p m bh K) f

theorem A17.of {n : ℕ} {f f' : C d} (h : A17 A n f) (e : f' cc0_scratch9 = f cc0_scratch9) : A17 A n f' := fun i hi => (congrFun e i).trans (h i hi)
theorem D23.of {n : ℕ} {f f' : C d} (h : D23 A n f) (e : f' cc0_scratch15 = f cc0_scratch15) : D23 A n f' := fun i hi => (congrFun e i).trans (h i hi)
theorem YB.of {s m : ℕ} {f f' : C d} (h : YB A s m f) (e : f' cc0_scratch13 = f cc0_scratch13) : YB A s m f' := fun i hi => (congrFun e i).trans (h i hi)

theorem run_drain {fin : (o p m bh : ℕ) → Pr → Pr} {o p i : ℕ} (hp : p < 2) (hi : i < 6) (hf : Fin' A Q fin o p) {K : Mxu Ideal → Pr} {x : Mxu Ideal} {f : C d}
    (h : Dr A o p i x f)
    (hk : ∀ x' f', Dr A o p (i + 1) x' f' → x'.reg = x.reg → (∀ p' < 2, p' ≠ p → ∀ m < 2, ∀ r c, rd x' p' m r c = rd x p' m r c) →
      (∀ b, b ≠ cc0_scratch13 → b ≠ cc0_scratch14 → b ≠ cc0_scratch15 → f' b = f b) → Run Q (K x') f') :
    Run Q (drain R0 fin o p i K x) f := by
  by_cases hc : i < 2
  · rw [show drain R0 fin o p i K x = popAcc R0 p i K x from if_pos hc]
    have ha : ∀ r c, rd x p i r c = Y A (wrow (2 * o + p) i r.val) c.val := by
      obtain rfl | rfl : i = 0 ∨ i = 1 := by omega
      · exact h.a0 (by decide)
      · exact h.a1 (by decide)
    refine run_popAcc A hp (by omega) ha fun x' f' b1 hy hy' hr hz hne => hk x' f' ⟨?_, ?_, ?_, ?_, ?_, ?_, ?_, ?_, ?_, ?_⟩ hr (fun p' hp' hne' m hm => hne p' hp' m hm (.inl hne')) fun b x1 _ _ => b1 b x1
    · exact h.ang.of A (b1 _ (by decide)) (b1 _ (by decide))
    · exact h.xn.of A (b1 _ (by decide))
    · intro _
      obtain rfl | rfl : i = 0 ∨ i = 1 := by omega
      · exact hy
      · exact hy' 0 (by decide) (by decide) (h.y0 (by decide))
    · intro h2
      obtain rfl : i = 1 := by omega
      exact hy
    · intro h2; omega
    · intro h2
      obtain rfl : i = 0 := by omega
      exact fun r c => (hne p hp 1 (by decide) (.inr (by decide)) r c).trans (h.a1 (by decide) r c)
    · intro _
      obtain rfl | rfl : i = 0 ∨ i = 1 := by omega
      · exact hz
      · exact fun r c => (hne p hp 0 (by decide) (.inr (by decide)) r c).trans (h.z0 (by decide) r c)
    · intro h2
      obtain rfl : i = 1 := by omega
      exact hz
    · have e := h.out.of A (b1 _ (by decide))
      rwa [show i + 1 - 2 = i - 2 by omega]
    · exact h.res.of A fun b hb => b1 b (by revert b; decide)
  · rw [show drain R0 fin o p i K x = fin o p ((i - 2) / 2) (i % 2) (K x) from if_neg hc]
    have hy : YB A (2 * o + p) ((i - 2) / 2) f := by
      obtain e | e : (i - 2) / 2 = 0 ∨ (i - 2) / 2 = 1 := by omega
      · rw [e]; exact h.y0 (by omega)
      · rw [e]; exact h.y1 (by omega)
    have eo : 8 * o + 4 * p + 2 * ((i - 2) / 2) + i % 2 = 8 * o + 4 * p + (i - 2) := by omega
    refine hf _ (by omega) _ (by omega) _ f h.ang hy (by rw [eo]; exact h.out) fun f' b1 h1 => hk x f' ⟨?_, ?_, ?_, ?_, ?_, ?_, ?_, ?_, ?_, ?_⟩ rfl (fun _ _ _ _ _ _ _ => rfl) fun b _ x2 x3 => b1 b x2 x3
    · exact h.ang.of A (b1 _ (by decide) (by decide)) (b1 _ (by decide) (by decide))
    · exact h.xn.of A (b1 _ (by decide) (by decide))
    · exact fun _ => (h.y0 (by omega)).of A (b1 _ (by decide) (by decide))
    · exact fun _ => (h.y1 (by omega)).of A (b1 _ (by decide) (by decide))
    · intro h2; omega
    · intro h2; omega
    · exact fun _ => h.z0 (by omega)
    · exact fun _ => h.z1 (by omega)
    · rw [eo] at h1
      rwa [show i + 1 - 2 = i - 2 + 1 by omega]
    · exact h.res.of A fun b hb => b1 b (by revert b; decide) (by revert b; decide)

theorem Dr.ofx {o p i : ℕ} {x x' : Mxu Ideal} {f : C d} (h : Dr A o p i x f) (e : ∀ m < 2, ∀ r c, rd x' p m r c = rd x p m r c) : Dr A o p i x' f where
  ang := h.ang
  xn := h.xn
  y0 := h.y0
  y1 := h.y1
  a0 hi r c := (e 0 (by decide) r c).trans (h.a0 hi r c)
  a1 hi r c := (e 1 (by decide) r c).trans (h.a1 hi r c)
  z0 hi r c := (e 0 (by decide) r c).trans (h.z0 hi r c)
  z1 hi r c := (e 1 (by decide) r c).trans (h.z1 hi r c)
  out := h.out
  res := h.res

theorem Dr.of12 {o p i : ℕ} {x : Mxu Ideal} {f f' : C d} (h : Dr A o p i x f) (e : ∀ b, b ≠ cc0_scratch12 → f' b = f b) : Dr A o p i x f' where
  ang := h.ang.of A (e _ (by decide)) (e _ (by decide))
  xn := h.xn.of A (e _ (by decide))
  y0 hi := (h.y0 hi).of A (e _ (by decide))
  y1 hi := (h.y1 hi).of A (e _ (by decide))
  a0 := h.a0
  a1 := h.a1
  z0 := h.z0
  z1 := h.z1
  out := h.out.of A (e _ (by decide))
  res := h.res.of A fun b hb => e b (by revert b; decide)

/-- The pieces done before pass `j`. -/
def pcs (j : ℕ) : ℕ := min (j - 2) 6

/-- A step into one accumulator while the other is drained. -/
theorem run_mulDrain {fin : (o p m bh : ℕ) → Pr → Pr} {o p0 s p : ℕ} (hp : p < 2) (hp0 : p0 < 2) (hne : p ≠ p0) (hs : s < 12) (hf : Fin' A Q fin o p0)
    {K : Mxu Ideal → Pr} {x : Mxu Ideal} {f : C d} (hi : Inp A f) (hreg : ∀ q r, x.reg q r = none) (h0 : ∀ m < 2, ∀ r c, rd x p m r c = 0) (hD : Dr A o p0 0 x f)
    (hk : ∀ x' f', Core A s p 16 16 x' f' → Dr A o p0 6 x' f' → Run Q (K x') f') :
    Run Q (multiply R0 (L0 (F := Ideal)) noNorm (between (drain R0 fin o p0)) s p K x) f := by
  refine run_multiply A hs hp (fun j x f => Dr A o p0 (pcs j) x f) (fun j x f => Dr A o p0 (pcs j) x f) ?_ ?_ ?_ ?_ hi hreg h0 hD ?_
  · intro x f f' e h; exact h.of12 A e
  · intro j x x' f e h; exact h.ofx A fun m hm r c => e p0 hp0 m hm (Ne.symm hne) r c
  · intro j hj K x f hc h hK
    exact hK f hc (fun i _ => h.xn i (i 0).isLt) h
  · intro j hj K x f hc h hK
    by_cases hj2 : 2 ≤ j ∧ j < 8
    · rw [show between (drain R0 fin o p0) j K x = drain R0 fin o p0 (j - 2) K x from if_pos hj2]
      have e1 : pcs j = j - 2 := by unfold pcs; omega
      have e2 : pcs (j + 1) = j - 2 + 1 := by unfold pcs; omega
      refine run_drain A hp0 (by omega) hf (by rw [← e1]; exact h) fun x' f' h1 hr hn hb => hK x' f' ⟨?_, ?_, ?_, ?_, ?_⟩ (by rw [e2]; exact h1)
      · exact hc.inp.of A fun b hb' => hb b (by revert b; decide) (by revert b; decide) (by revert b; decide)
      · exact fun i hi => (congrFun (hb cc0_scratch12 (by decide) (by decide) (by decide)) i).trans (hc.sc i hi)
      · rw [hr]; exact hc.reg
      · exact fun r c => (hn p hp hne 0 (by decide) r c).trans (hc.acc0 r c)
      · exact fun r c => (hn p hp hne 1 (by decide) r c).trans (hc.acc1 r c)
    · rw [show between (drain R0 fin o p0) j K x = K x from if_neg hj2]
      have e : pcs (j + 1) = pcs j := by unfold pcs; omega
      exact hK x f hc (by rw [e]; exact h)
  · intro x' f' hc h
    exact hk x' f' hc h

theorem slab_cast (v : T1x256x8x128.Idx → EReal) (b : Fin 256) (h : Fin 8) (r : Fin 128) : shapeCast T256x8x128 v (by decide) (ix3 b h r) = v (ix4 0 b h r) := by
  pointwise

/-- What a slab shows. -/
theorem slab_at {o : ℕ} (ho : o < 6) {f : C d} (h : D23 A (8 * o + 8) f) (b : Fin 256) (k : Fin 8) (r : Fin 128) :
    (slab R0 o).view.read (Elt Ideal) (f (slab R0 o).view.ref) (ix3 b k r) = OUT A o b.val k.val r.val := by
  have e : (slab R0 o).view.read (Elt Ideal) (f (slab R0 o).view.ref) (ix3 b k r)
      = shapeCast T256x8x128 (fun y : T1x256x8x128.Idx => g23 f ((Rect.unit (s := T6x256x8x128) ![o % 6, 0, 0, 0] T1x256x8x128.size (slabInb o)).toLoadRect.idx y)) (by decide) (ix3 b k r) := rfl
  have hb : b.val < 256 := b.isLt
  have hk : k.val < 8 := k.isLt
  refine e.trans ((slab_cast _ _ _ _).trans ((h _ ?_).trans ?_))
  · show 8 * (o % 6 + 1 * 0) + 2 * ((0 + 1 * k.val) / 2) + (0 + 1 * b.val) / 128 < 8 * o + 8
    omega
  have e0 : o % 6 + 1 * 0 = o := by omega
  have e1 : 0 + 1 * b.val = b.val := by omega
  have e2 : 0 + 1 * k.val = k.val := by omega
  have e3 : 0 + 1 * r.val = r.val := by omega
  show OUT A (o % 6 + 1 * 0) (0 + 1 * b.val) (0 + 1 * k.val) (0 + 1 * r.val) = _
  rw [e0, e1, e2, e3]

theorem run_startQ {o : ℕ} (ho : o < 4) {K : Pr} {f : C d} (h : D23 A (8 * o + 8) f) (hr : Res A o f)
    (hk : ∀ f' : C d, (∀ b, b ≠ main_v7_0 → f' b = f b) → Res A (o + 1) f' → Run Q K f') : Run Q (startQ R0 o K) f := by
  refine run_copy _ _ _ _ _ _ _ fun f' h1 hi' => ?_
  have h1 : ∀ b, b ≠ main_v7_0 → f' b = f b := h1
  refine hk f' h1 ⟨fun i hi => ?_, fun h5 => by omega, fun h6 => by omega⟩
  have i1 : (i 1).val < 32 := (i 1).isLt
  rcases hi' i with ⟨x, hy, e⟩ | ⟨hy, e⟩
  · obtain ⟨b, k, r, rfl⟩ : ∃ b k r, x = ix3 b k r := ⟨x 0, x 1, x 2, (ix3_eta x).symm⟩
    have j0 : (i 0).val = 0 + 1 * b.val := by rw [← hy]; rfl
    have j1 : (i 1).val = 8 * (o % 4) + 1 * k.val := by rw [← hy]; rfl
    have j2 : (i 2).val = 0 + 1 * r.val := by rw [← hy]; rfl
    have hk8 : k.val < 8 := k.isLt
    have t0 : (i 0).val = b.val := by omega
    have t1 : (i 1).val / 8 = o := by omega
    have t1' : (i 1).val % 8 = k.val := by omega
    have t2 : (i 2).val = r.val := by omega
    rw [t0, t1, t1', t2]
    exact e.trans (slab_at A (by omega) h b k r)
  · refine (show o5 f' i = o5 f i from e).trans (hr.q i ?_)
    by_contra hlt
    have t1 : (i 1).val / 8 = o := by omega
    refine hy (ix3 (i 0) ⟨(i 1).val - 8 * o, by omega⟩ (i 2)) ?_
    refine Shape.idx3_ext ?_ ?_ ?_
    · show 0 + 1 * (i 0).val = (i 0).val; omega
    · show 8 * (o % 4) + 1 * ((i 1).val - 8 * o) = (i 1).val; omega
    · show 0 + 1 * (i 2).val = (i 2).val; omega

theorem run_startK {K : Pr} {f : C d} (h : D23 A 40 f) (hr : Res A 4 f)
    (hk : ∀ f' : C d, (∀ b, b ≠ main_v7_1 → f' b = f b) → Res A 5 f' → Run Q K f') : Run Q (startK R0 K) f := by
  refine run_copy _ _ _ _ _ _ _ fun f' h1 hi' => ?_
  have h1 : ∀ b, b ≠ main_v7_1 → f' b = f b := h1
  refine hk f' h1 ⟨fun i hi => ?_, fun _ i => ?_, fun h6 => by omega⟩
  · have i1 : (i 1).val < 32 := (i 1).isLt
    exact (congrFun (h1 main_v7_0 (by decide)) i).trans (hr.q i (by omega))
  · rcases hi' i with ⟨x, hy, e⟩ | ⟨hy, e⟩
    · obtain rfl : x = i := hy
      obtain ⟨b, k, r, rfl⟩ : ∃ b k r, x = ix3 b k r := ⟨x 0, x 1, x 2, (ix3_eta x).symm⟩
      exact e.trans (slab_at A (by decide : 4 < 6) h b k r)
    · exact absurd rfl (hy i)

theorem run_startV {K : Pr} {f : C d} (h : D23 A 48 f) (hr : Res A 5 f)
    (hk : ∀ f' : C d, (∀ b, b ≠ main_v7_2 → f' b = f b) → Res A 6 f' → Run Q K f') : Run Q (startV R0 K) f := by
  refine run_copy _ _ _ _ _ _ _ fun f' h1 hi' => ?_
  have h1 : ∀ b, b ≠ main_v7_2 → f' b = f b := h1
  refine hk f' h1 ⟨fun i hi => ?_, fun _ i => ?_, fun _ i => ?_⟩
  · have i1 : (i 1).val < 32 := (i 1).isLt
    exact (congrFun (h1 main_v7_0 (by decide)) i).trans (hr.q i (by omega))
  · exact (congrFun (h1 main_v7_1 (by decide)) i).trans (hr.k (by decide) i)
  · rcases hi' i with ⟨x, hy, e⟩ | ⟨hy, e⟩
    · obtain rfl : x = i := hy
      obtain ⟨b, k, r, rfl⟩ : ∃ b k r, x = ix3 b k r := ⟨x 0, x 1, x 2, (ix3_eta x).symm⟩
      exact e.trans (slab_at A (by decide : 5 < 6) h b k r)
    · exact absurd rfl (hy i)

/-- What holds before round `o`. -/
structure St (o : ℕ) (x : Mxu Ideal) (f : C d) : Prop where
  inp : Inp A f
  reg : ∀ q r, x.reg q r = none
  z1 : ∀ m < 2, ∀ r c, rd x 1 m r c = 0
  dr : Dr A o 0 0 x f

theorem fin_rot {o p : ℕ} (ho : o < 5) (hp : p < 2) : Fin' A Q (finRot R0 (L0 (F := Ideal))) o p :=
  fun m hm bh hb K f ha hy h hk => run_finRot A ho hp hm hb ha hy h hk

theorem fin_flat {p : ℕ} (hp : p < 2) : Fin' A Q (finFlat R0 (L0 (F := Ideal))) 5 p :=
  fun m hm bh hb K f ha hy h hk => run_finFlat A hp hm hb hy h fun f' b1 h1 => hk f' (fun b _ hb => b1 b hb) h1

theorem Core.all {s p : ℕ} {x : Mxu Ideal} {f : C d} (h : Core A s p 16 16 x f) : ∀ m < 2, ∀ r c, rd x p m r c = Y A (wrow s m r.val) c.val := by
  intro m hm
  obtain rfl | rfl : m = 0 ∨ m = 1 := by omega
  · exact h.acc0
  · exact h.acc1

/-- From one draining to the next. -/
theorem Dr.next {o p i o' p' : ℕ} {x : Mxu Ideal} {f f' : C d} (h : Dr A o p i x f) (e : ∀ b, b ≠ main_v7_0 → b ≠ main_v7_1 → f' b = f b)
    (hd : 8 * o' + 4 * p' = 8 * o + 4 * p + (i - 2)) (hr : Res A o' f') (ha : ∀ m < 2, ∀ r c, rd x p' m r c = Y A (wrow (2 * o' + p') m r.val) c.val) : Dr A o' p' 0 x f' where
  ang := h.ang.of A (e _ (by decide) (by decide)) (e _ (by decide) (by decide))
  xn := h.xn.of A (e _ (by decide) (by decide))
  y0 hi := by omega
  y1 hi := by omega
  a0 _ := ha 0 (by decide)
  a1 _ := ha 1 (by decide)
  z0 hi := by omega
  z1 hi := by omega
  out := by
    have h1 := h.out.of A (e cc0_scratch15 (by decide) (by decide))
    rw [← hd] at h1
    exact h1
  res := hr

theorem run_round {o : ℕ} (ho : o < 5) {K : Mxu Ideal → Pr} {x : Mxu Ideal} {f : C d} (h : St A o x f)
    (hk : ∀ x' f', St A (o + 1) x' f' → Run Q (K x') f') : Run Q (round R0 (L0 (F := Ideal)) o K x) f := by
  refine run_mulDrain A (by decide : 1 < 2) (by decide : 0 < 2) (by decide) (by omega) (fin_rot A ho (by decide)) h.inp h.reg h.z1 h.dr fun x1 f1 c1 d1 => ?_
  have z : ∀ m < 2, ∀ r c, rd x1 0 m r c = 0 := by
    intro m hm
    obtain rfl | rfl : m = 0 ∨ m = 1 := by omega
    · exact d1.z0 (by decide)
    · exact d1.z1 (by decide)
  have d1' : Dr A o 1 0 x1 f1 := d1.next A (fun b _ _ => rfl) (by omega) d1.res (c1.all A)
  refine run_mulDrain A (by decide : 0 < 2) (by decide : 1 < 2) (by decide) (by omega) (fin_rot A ho (by decide)) c1.inp c1.reg z d1' fun x2 f2 c2 d2 => ?_
  have z2 : ∀ m < 2, ∀ r c, rd x2 1 m r c = 0 := by
    intro m hm
    obtain rfl | rfl : m = 0 ∨ m = 1 := by omega
    · exact d2.z0 (by decide)
    · exact d2.z1 (by decide)
  have hout : D23 A (8 * o + 8) f2 := by
    have := d2.out
    rwa [show 8 * o + 4 * 1 + (6 - 2) = 8 * o + 8 by omega] at this
  have hall := c2.all A
  rw [show 2 * o + 2 = 2 * (o + 1) + 0 by omega] at hall
  by_cases h4 : o < 4
  · rw [if_pos h4]
    refine run_startQ A h4 hout d2.res fun f3 b3 r3 => hk x2 f3 ⟨?_, c2.reg, z2, ?_⟩
    · exact c2.inp.of A fun b hb => b3 b (by revert b; decide)
    · exact d2.next A (fun b hb _ => b3 b hb) (by omega) r3 hall
  · rw [if_neg h4]
    obtain rfl : o = 4 := by omega
    refine run_startK A hout d2.res fun f3 b3 r3 => hk x2 f3 ⟨?_, c2.reg, z2, ?_⟩
    · exact c2.inp.of A fun b hb => b3 b (by revert b; decide)
    · exact d2.next A (fun b _ hb => b3 b hb) (by omega) r3 hall

end Cert.Proof.Val
-- ==== Proof.Val.Main.lean ====
/-
  The body, from its head to its tail: the results hold the heads of every slab.
-/
module

public import proofs.«01_k».proof.Proof.Val.Whole

@[expose] public section

set_option maxRecDepth 16384

noncomputable section

namespace Cert.Proof.Val

open Cert.KI Cert.KI.Gen Cert.Proof.Body Cert.Proof.KIFrame
open Idealize.ShloMosaic Idealize.SL.Sem

variable {d : Dev nD} {Q : C d → Prop} (A : Ar)

theorem run_end {x : Mxu Ideal} {f : C d} (h : Q f) : Run Q (rep (waitQ R0) 4 0 <| waitK R0 <| waitV R0 <| .op (.assume x.Drained) fun _ => .ret ⟨⟩) f := by
  refine run_rep (step := waitQ R0) (fun _ f => Q f) 4 0 (fun k _ _ K f h hK => run_waitQ (hK f h)) h fun f' h' => ?_
  exact run_waitK (run_waitV (run_assume fun _ => h'))

attribute [local irreducible] Run

theorem run_tail {x : Mxu Ideal} {f : C d} (h : St A 5 x f) (hQ : ∀ f', Res A 6 f' → Q f') : Run Q (tail R0 (L0 (F := Ideal)) x) f := by
  refine run_mulDrain A (by decide : 1 < 2) (by decide : 0 < 2) (by decide) (by decide) (fin_flat A (by decide)) h.inp h.reg h.z1 h.dr fun x1 f1 c1 d1 => ?_
  have d1' : Dr A 5 1 0 x1 f1 := d1.next A (fun b _ _ => rfl) (by decide) d1.res (c1.all A)
  refine run_iter (step := drain R0 (finFlat R0 (L0 (F := Ideal))) 5 1) (fun i x f => Dr A 5 1 i x f) 6 0 ?_ d1' ?_
  · intro i _ hi K x f h hK
    exact run_drain A (by decide) (by omega) (fin_flat A (by decide)) h fun x' f' h' _ _ _ => hK x' f' h'
  · intro x2 f2 h2
    exact run_startV A h2.out h2.res fun f3 _ h3 => run_end (hQ f3 h3)

/-- All up to the rounds. -/
theorem run_head {K : Mxu Ideal → Pr} {f : C d} (h : Hin A f) (hr : Res A 0 f) (hsame : ∀ f' : C d, Res A 0 f')
    (hk : ∀ x f', St A 0 x f' → Run Q (K x) f') : Run Q (head R0 (L0 (F := Ideal)) K) f := by
  refine run_starts A h fun f1 i1 => run_waitPos ?_
  refine run_angles A (by decide) i1 ⟨fun i hi => by omega, fun i hi => by omega⟩ fun f2 i2 a2 => ?_
  refine run_angles A (by decide) i2 a2 fun f3 i3 a3 => run_waitNw ?_
  refine run_wtiles A i3 a3 fun f4 i4 a4 w5 w6 => ?_
  refine run_xchunks_from A (fun s f5 m5 => ?_) 4 0 _ f4 rfl (Mid.start A i4 a4 w5 w6)
  have p5 : Pln A f5 := ⟨m5.w15, m5.w16, m5.x0, m5.x1⟩
  refine run_multiply A (by decide : 0 < 12) (by decide : 0 < 2)
    (fun j x f => Pln A f ∧ A17 A j f ∧ Ang A 2 f ∧ ∀ m < 2, ∀ r c, rd x 1 m r c = 0)
    (fun j x f => Pln A f ∧ A17 A (j + 1) f ∧ Ang A 2 f ∧ ∀ m < 2, ∀ r c, rd x 1 m r c = 0) ?_ ?_ ?_ ?_ m5.inp (fun q r => Mxu.reg_init ..) (fun m hm r c => ?_)
    ⟨p5, fun i hi => by omega, m5.ang, fun m hm r c => ?_⟩ fun x f6 c6 j6 => hk x f6 ⟨c6.inp, c6.reg, j6.2.2.2, ⟨j6.2.2.1, j6.2.1, fun h => by omega, fun h => by omega,
      fun _ => c6.all A 0 (by decide), fun _ => c6.all A 1 (by decide), fun h => by omega, fun h => by omega, fun i hi => by omega, hsame f6⟩⟩
  · rintro x f f' e ⟨h1, h2, h3, h4⟩
    exact ⟨h1.of A fun b hb => e b (by revert b; decide), h2.of A (e _ (by decide)), h3.of A (e _ (by decide)) (e _ (by decide)), h4⟩
  · rintro j x x' f e ⟨h1, h2, h3, h4⟩
    exact ⟨h1, h2, h3, fun m hm r c => (e 1 (by decide) m hm (by decide) r c).trans (h4 m hm r c)⟩
  · rintro j hj K x f hc ⟨h1, h2, h3, h4⟩ hK
    refine run_normalise A hj (invRms_at A m5.s0) (invRms_at A m5.s1) h1 h2 fun f' e h2' => hK f' ⟨?_, ?_, hc.reg, hc.acc0, hc.acc1⟩ h2' ⟨?_, h2', ?_, h4⟩
    · exact hc.inp.of A fun b hb => e b (by revert b; decide)
    · exact fun i hi => (congrFun (e cc0_scratch12 (by decide)) i).trans (hc.sc i hi)
    · exact h1.of A fun b hb => e b (by revert b; decide)
    · exact h3.of A (e _ (by decide)) (e _ (by decide))
  · rintro j hj K x f hc h hK
    exact hK x f hc h
  · unfold rd; rw [Mxu.read_init]; exact Ideal.ofBits_zero_f32
  · unfold rd; rw [Mxu.read_init]; exact Ideal.ofBits_zero_f32

/-- The body leaves the heads of every slab in the results. -/
theorem run_main {f : C d} (h : Hin A f) (hQ : ∀ f', Res A 6 f' → Q f') : Run Q (main R0 (L0 (F := Ideal))) f := by
  have r0 : ∀ f' : C d, Res A 0 f' := fun f' => ⟨fun i hi => by omega, fun h => by omega, fun h => by omega⟩
  refine run_head A h (r0 f) r0 fun x f1 s1 => ?_
  refine run_iter (step := round R0 (L0 (F := Ideal))) (fun o x f => St A o x f) 5 0 ?_ s1 ?_
  · intro o _ ho K x f h hK
    exact run_round A (by omega) h hK
  · intro x2 f2 h2
    exact run_tail A h2 hQ

end Cert.Proof.Val
-- ==== Proof.Val.Launch.lean ====
/-
  The launch, with the values the body leaves.
-/
module

public import proofs.«01_k».proof.Proof.Val.Main
public import Idealize.ShloMosaic.Lib.Pipeline.FrameSuffixV

@[expose] public section

set_option maxRecDepth 16384

noncomputable section

namespace Cert.Proof.Val

open Cert.KI Cert.KI.Gen Cert.Proof.Body Cert.Proof.KIFrame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)
variable (G : (c : Dev nD) → (b : Ref sig .tc) → Buf (Elt Ideal) ((c.tc : Thread nD τ).loc b))

theorem run_con {d : Dev nD} {Q : C d → Prop} {p : Pr} {f : C d} (h : Run Q p f) : Logic.Con d (fun _ f' => Q f') p f := h

attribute [local irreducible] Run

/-- From the contents at the launch of the body, the body leaves `G` in the results. -/
def Leaves : Prop := ∀ (c : Dev nD) (f : C c), (∀ b ∈ HH, f b = V m c b) → Run (fun f' => ∀ b ∈ RR, f' b = G c b) (Cert.Proof.Body.main R0 (L0 (F := Ideal))) f

variable {m G} in
theorem Leaves.whole (hG : Leaves m G) (c : Dev nD) (t : Fin cfg0.N) :
    (iprop((bigSep SS fun b => iprop(∃ v, (c.tc : Thread nD τ).loc b ↦{fullShare} v))
        ∗ (bigSep (Finset.univ : Finset (DmaSem sig)) fun s => semVal ((c.tc : Thread nD τ), .dma s) 0)
        ∗ Logic.held c HH (V m c)
        ∗ (bigSep RR fun b => iprop(∃ v, (c.tc : Thread nD τ).loc b ↦{fullShare} v)) ∗ ∃ W, owes c.tc 0 W) : sProp 𝕄)
      ⊢ wp frame (wpE (defs₀ (F := Ideal)) Variants.none (c.tc : Thread nD τ) none) Set.univ (bodyAt0 t) (fun _ => iprop(∃ f', ⌜∀ b ∈ RR, f' b = G c b⌝
          ∗ (bigSep SS fun b => iprop(∃ v, (c.tc : Thread nD τ).loc b ↦{fullShare} v))
          ∗ (bigSep (Finset.univ : Finset (DmaSem sig)) fun s => semVal ((c.tc : Thread nD τ), .dma s) 0)
          ∗ Logic.held c HH (V m c) ∗ Logic.held c RR f' ∗ ∃ W, owes c.tc 0 W)) := by
  refine body_whole c t (V := V m c) (Q := fun f' => ∀ b ∈ RR, f' b = G c b) ?_
  intro f hf
  have e := body_main (F := Ideal) t
  have h := hG c f hf
  revert e h
  generalize bodyAt0 (F := Ideal) t = p
  generalize Cert.Proof.Body.main R0 (L0 (F := Ideal)) = q
  intro e h
  rw [e]
  exact run_con h

def datsV (_ : Fin 1) (c : Dev nD) : Dat τ (Elt Ideal) Unit ℕ (Pipeline.UD sig nD τ) ℕ cfg0 c where
  A w := w.elim0
  after w t := w.elim0
  Φ t := Pipeline.ΦDRV osem0 (cfg0.spec) HH RR (V m) (if t = 0 then V m else G) c
  q _ := fullShare
  owed _ := 0

theorem sound_bodyV (hG : Leaves m G)
    (c : Dev nD) (t : Fin cfg0.N) :
    (iprop((datsV m G 0 c).Φ t.castSucc ∗ (datsV m G 0 c).owesAt () t.castSucc) : sProp 𝕄)
      ⊢ wp frame (wpE (defs₀ (F := Ideal)) Variants.none c none) Set.univ (bodyAt0 t)
        (fun _ => iprop((datsV m G 0 c).Φ t.succ ∗ (datsV m G 0 c).owesAt () t.succ)) := by
  have hw := hG.whole c t
  unfold Dat.owesAt Pipeline.owesWithin
  rw [show (datsV m G 0 c).owed t.castSucc = 0 from rfl, show (datsV m G 0 c).owed t.succ = 0 from rfl,
    show (datsV m G 0 c).Φ t.succ = Pipeline.ΦDRV osem0 (cfg0.spec) HH RR (V m) G c from by
      show Pipeline.ΦDRV osem0 (cfg0.spec) HH RR (V m) (if t.succ = 0 then V m else G) c = _
      rw [if_neg (Fin.succ_ne_zero t)],
    show (datsV m G 0 c).Φ t.castSucc = Pipeline.ΦDRV osem0 (cfg0.spec) HH RR (V m) (if t.castSucc = 0 then V m else G) c from rfl]
  unfold Pipeline.ΦDRV
  unfold Pipeline.scopedRest Pipeline.ownSems0
  generalize (if t.castSucc = 0 then V m else G) = G0
  rw [show (bigSep HH (fun b => ((c.tc : Thread nD τ).loc b) ↦{fullShare} V m c b) : sProp 𝕄) = Logic.held c HH (V m c) from rfl,
    show (bigSep RR (fun b => ((c.tc : Thread nD τ).loc b) ↦{fullShare} G0 c b) : sProp 𝕄) = Logic.held c RR (G0 c) from rfl,
    show (bigSep RR (fun b => ((c.tc : Thread nD τ).loc b) ↦{fullShare} G c b) : sProp 𝕄) = Logic.held c RR (G c) from rfl]
  iintro ⟨⟨HS, HT, Hh, HR⟩, ⟨%W, -, HW⟩⟩
  iapply (wp_wand_r frame (wpE (defs₀ (F := Ideal)) Variants.none (c.tc : Thread nD τ) none) Set.univ)
  isplitl [HS HT Hh HR HW]
  · iapply hw
    isplitl [HS]; · iexact HS
    isplitl [HT]; · iexact HT
    isplitl [Hh]; · iexact Hh
    isplitl [HR]; · iapply (Logic.held_forget (d := c) RR (G0 c)); iexact HR
    iexists _; iexact HW
  iintro %_ ⟨%f', %hf, HS, HT, Hh, HR, ⟨%W', HW⟩⟩
  isplitl [HS HT Hh HR]
  · isplitl [HS]; · iexact HS
    isplitl [HT]; · iexact HT
    isplitl [Hh]; · iexact Hh
    ihave H := (Entails.of_eq (Logic.held_congr hf)) $$ HR
    iexact H
  iexists W'
  isplitr; · ipureintro; exact fun _ _ => Or.inl trivial
  iexact HW

variable {m G} in
theorem obligationV (hG : Leaves m G)
    (c : Dev nD) : BodyObligation (datsV m G 0 c) (defs₀ (F := Ideal)) Variants.none () Set.univ := fun t => by
  rw [defs₀_row]
  refine triple_restated (sound_bodyV m G hG c t) rfl ?_ fun _ => ?_
  · iintro ⟨H, H', -⟩
    isplitl [H]; · iexact H
    iexact H'
  · iintro ⟨H, H'⟩
    isplitl [H]; · iexact H
    isplitl [H']; · iexact H'
    rw [Finset.univ_eq_empty, BI.bigSep_empty]
    iempintro

set_option backward.isDefEq.respectTransparency.types false in
/-- The run of @main, with the results of the body at `G`. -/
theorem run_mainV (hG : Leaves m G) :
    θ_run defs (onTc (τ := τ) (Cert.KI.main (F := Ideal))) (s₀ m ρ)
    (fun r => ∀ c : Dev nD, ∀ b ∈ Pipeline.restRefs sig (cfg0.spec), r.2.mem ((c.tc : Thread nD τ).loc b)
      = StableHlo.after ([hostOps1] : List (List (HloOp τ sig (Elt Ideal)))).flatten (Pipeline.withArrays (cfg0.spec) c (Pipeline.withR (V0 m c) RR c (G c)) fun w => (datsV m G 0 c).arrAt w cfg0.N) (Proc.devRef .tc b)) :=
  Pipeline.θ_run_frame_dmaR_aroundV (Q' := _) cfgs (datsV m G) (0 : Fin 1) launch0 osem0 defs₀ Variants.none ownSemFacts0 HH RR
    (by decide) (by decide) m ρ Cert.KI.main
    (hbody := fun c => (obligationV hG c).loose) (hshare := fun c => (datsV m G 0 c).share_full fun _ => rfl)
    (howed := fun _ _ => rfl) (V₀ := V0 m) (opss := [hostOps1]) sfx_sub sfx_fresh sfx_keeps (G := G)
    (hmain := hmain m Variants.none) (hA := fun _ w => w.elim0)
    (hin := fun _ => .rfl) (hout := fun _ => .rfl) (hQ' := fun r h c b hb => (h.1 c).2 b hb)

end Cert.Proof.Val
-- ==== Proof.Val.Codes.lean ====
/-
  The codes of the weights, in the words and in the bytes.
-/
module

public import proofs.«01_k».proof.Proof.Val.Deq
public import Idealize.ShloMosaic.Lib.BitcastConvert

@[expose] public section

set_option maxRecDepth 16384

noncomputable section

namespace Cert.Proof.Val

open Idealize.ShloMosaic

/-- The code of a byte: its low half, or its high one. -/
def code (w : BitVec 8) (h : ℕ) : ℕ := w.toNat / 16 ^ h % 16

theorem lo_int : ∀ w : BitVec 8, (w.setWidth 32 &&& 15#32).toInt = (code w 0 : ℤ) := by
  intro w
  have h : (w.setWidth 32 &&& 15#32).toNat = code w 0 := by
    rw [BitVec.toNat_and, BitVec.toNat_setWidth, Nat.mod_eq_of_lt (by have := w.isLt; omega), show (15#32).toNat = 2 ^ 4 - 1 from rfl, Nat.and_two_pow_sub_one_eq_mod]
    unfold code; simp
  rw [BitVec.toInt_eq_toNat_of_lt (by rw [h]; unfold code; omega), h]

theorem hi_int : ∀ w : BitVec 8, ((w.setWidth 32).sshiftRight 4).toInt = (code w 1 : ℤ) := by
  intro w
  have hw := w.isLt
  have h : (w.setWidth 32).toInt = (w.toNat : ℤ) := by
    rw [BitVec.toInt_eq_toNat_of_lt, BitVec.toNat_setWidth, Nat.mod_eq_of_lt (by omega)]
    rw [BitVec.toNat_setWidth, Nat.mod_eq_of_lt (by omega)]; omega
  rw [BitVec.toInt_sshiftRight, h, Int.shiftRight_eq_div_pow]
  unfold code
  push_cast
  omega

/-- The field of the word at byte `q`, half `h`. -/
theorem nib_word {s t : Shape} (x : IVec s 8) (hs : t.SplitsWords 32 s 8) (j : t.Idx) (q h : ℕ) (hq : q < 4) (hh : h < 2) (k : s.Coord hs.axis) (hk : k.val = q) :
    nib (Host.bitcastConvertWiden t 32 x hs j) (8 * q + 4 * h) = code (x (hs.snoc j k)) h := by
  have e : (Host.bitcastConvertWiden t 32 x hs j >>> (8 * q + 4 * h)) &&& 15#32
      = (((x (hs.snoc j k)).setWidth 32 >>> (4 * h)) &&& 15#32) := by
    apply BitVec.eq_of_getLsbD_eq
    intro i hi
    rw [BitVec.getLsbD_and, BitVec.getLsbD_and]
    by_cases h4 : i < 4
    · have e1 : (8 * q + 4 * h + i) / 8 = q := by omega
      have e2 : (8 * q + 4 * h + i) % 8 = 4 * h + i := by omega
      rw [BitVec.getLsbD_ushiftRight, BitVec.getLsbD_ushiftRight, Host.bitcastConvertWiden_getLsbD _ _ _ _ _ _ (by omega), BitVec.getLsbD_setWidth, e2]
      have e3 : (⟨(8 * q + 4 * h + i) / 8, hs.div_lt (by omega)⟩ : s.Coord hs.axis) = k := Fin.ext (e1.trans hk.symm)
      rw [e3]
      simp [show 4 * h + i < 32 by omega]
    · have : (15#32).getLsbD i = false := by
        have : ∀ i < 32, ¬ i < 4 → (15#32).getLsbD i = false := by decide
        exact this i hi h4
      rw [this, Bool.and_false, Bool.and_false]
  unfold nib
  rw [e, BitVec.toNat_and, BitVec.toNat_ushiftRight, BitVec.toNat_setWidth, Nat.mod_eq_of_lt (by have := (x (hs.snoc j k)).isLt; omega),
    show (15#32).toNat = 2 ^ 4 - 1 from rfl, Nat.and_two_pow_sub_one_eq_mod, Nat.shiftRight_eq_div_pow, Nat.pow_mul]
  rfl

theorem eight : Ideal.ofBits .bf16 0x4100#16 = ((8 : ℝ) : EReal) := by
  simp [Ideal.ofBits, Ideal.ieee, -EReal.coe_mul, -EReal.coe_add]; try norm_num

/-- A code less eight. -/
theorem code_sub (n : ℕ) : ((((n : ℤ) : ℝ) : ℝ) : EReal) - Ideal.ofBits .bf16 0x4100#16 = (((n : ℝ) - 8 : ℝ) : EReal) := by
  rw [eight, ← EReal.coe_sub]; push_cast; rfl

end Cert.Proof.Val
-- ==== Proof.Val.Host.lean ====
/-
  What the lines before the body leave in its arguments, and the lines after it in the results.
-/
module

public import proofs.«01_k».proof.Proof.Val.Launch
public import proofs.«01_k».proof.Proof.Val.Codes

@[expose] public section

set_option maxRecDepth 16384

noncomputable section

namespace Cert.Proof.Val

open Cert.KI Cert.KI.Gen Cert.Proof.Body Cert.Proof.KIFrame
open Idealize.ShloMosaic Idealize.ShloMosaic.TcCoe Idealize.SL.Sem

variable (m : (ℓ : Loc nD τ sig) → Buf (Elt Ideal) ℓ) (c : Dev nD)

theorem V_v0 : V m c main_v0 = shapeCast S256x4096 (m ((c.tc : Thread nD τ).loc main_arg0)) shapeCasts_S256x1x4096_S256x4096 := by
  show StableHlo.after hostOps0 _ _ = _
  after_results_simp <;> rfl

theorem V_v1 : V m c main_v1 = shapeCast S32x128 (m ((c.tc : Thread nD τ).loc main_arg1)) shapeCasts_S4096_S32x128 := by
  show StableHlo.after hostOps0 _ _ = _
  after_results_simp <;> rfl

theorem V_v2 : V m c main_v2 = shapeCast S2x128 (m ((c.tc : Thread nD τ).loc main_arg2)) shapeCasts_S256x1_S2x128 := by
  show StableHlo.after hostOps0 _ _ = _
  after_results_simp <;> rfl

theorem V_v6 : V m c main_v6 = Host.bitcastConvertWiden S6144x4x128 32 (transpose S6144x4x128x4 [0, 1, 3, 2] (shapeCast S6144x4x4x128
    (transpose S6144x16x128 [0, 2, 1] (m ((c.tc : Thread nD τ).loc main_arg3)) transposes_S6144x128x16_S6144x16x128_0_2_1) shapeCasts_S6144x16x128_S6144x4x4x128)
      transposes_S6144x4x4x128_S6144x4x128x4_0_1_3_2) splits_S6144x4x128_w32_S6144x4x128x4_w8 := by
  show StableHlo.after hostOps0 _ _ = _
  after_results_simp <;> rfl

theorem tail_v8 (W : Valuation τ sig (Elt Ideal)) : StableHlo.after ([hostOps1] : List (List (HloOp τ sig (Elt Ideal)))).flatten W (Proc.devRef .tc main_v8)
    = shapeCast S256x1x32x128 (W (Proc.devRef .tc main_v7_0)) shapeCasts_S256x32x128_S256x1x32x128 := by
  show StableHlo.after hostOps1 _ _ = _
  after_results_simp <;> rfl

theorem tail_v9 (W : Valuation τ sig (Elt Ideal)) : StableHlo.after ([hostOps1] : List (List (HloOp τ sig (Elt Ideal)))).flatten W (Proc.devRef .tc main_v9)
    = shapeCast S256x1x8x128 (W (Proc.devRef .tc main_v7_1)) shapeCasts_S256x8x128_S256x1x8x128 := by
  show StableHlo.after hostOps1 _ _ = _
  after_results_simp <;> rfl

theorem tail_v10 (W : Valuation τ sig (Elt Ideal)) : StableHlo.after ([hostOps1] : List (List (HloOp τ sig (Elt Ideal)))).flatten W (Proc.devRef .tc main_v10)
    = shapeCast S256x1x8x128 (W (Proc.devRef .tc main_v7_2)) shapeCasts_S256x8x128_S256x1x8x128 := by
  show StableHlo.after hostOps1 _ _ = _
  after_results_simp <;> rfl

end Cert.Proof.Val
-- ==== Proof.Val.Run.lean ====
/-
  The run of the idealized kernel, with the values of its results.
-/
module

public import proofs.«01_k».proof.Proof.Val.Host

@[expose] public section

set_option maxRecDepth 16384

noncomputable section

namespace Cert.Proof.Val

open Cert.KI Cert.KI.Gen Cert.Proof.Body Cert.Proof.KIFrame
open Idealize.ShloMosaic Idealize.ShloMosaic.TcCoe Idealize.SL.Sem

attribute [local irreducible] Run

variable (m : (ℓ : Loc nD τ sig) → Buf (Elt Ideal) ℓ) (ρ : Dev nD → PrngReg) (c : Dev nD)

def v0 : T256x4096.Idx → EReal := V m c main_v0
def v1 : T32x128.Idx → EReal := V m c main_v1
def v2 : T2x128.Idx → BitVec 32 := V m c main_v2
def v6 : T6144x4x128.Idx → BitVec 32 := V m c main_v6
def v4 : T6144x128.Idx → EReal := V m c main_arg4

/-- The arguments of the body, at natural numbers. -/
def AR : Ar where
  X b k := v0 m c (ix2 (Fin.ofNat 256 b) (Fin.ofNat 4096 k))
  NW k := v1 m c (ix2 (Fin.ofNat 32 (k / 128)) (Fin.ofNat 128 k))
  PO b l := v2 m c (ix2 (Fin.ofNat 2 b) (Fin.ofNat 128 l))
  WP o w g := v6 m c (ix3 (Fin.ofNat 6144 o) (Fin.ofNat 4 w) (Fin.ofNat 128 g))
  WS o g := v4 m c (ix2 (Fin.ofNat 6144 o) (Fin.ofNat 128 g))

theorem ofNat_val {n : ℕ} [NeZero n] (i : Fin n) : Fin.ofNat n i.val = i := Fin.ext (Nat.mod_eq_of_lt i.isLt)

theorem hin {f : C c} (hf : ∀ b ∈ HH, f b = V m c b) : Hin (AR m c) f where
  x i := (congrFun (hf main_v0 (by decide)) i).trans (congrArg (v0 m c) (by
    rw [ofNat_val (n := 256) (i 0), ofNat_val (n := 4096) (i 1)]; exact (ix2_eta i).symm))
  nw i := (congrFun (hf main_v1 (by decide)) i).trans (congrArg (v1 m c) (by
    have h0 := (i 0).isLt
    have h1 : (i 1).val < 128 := (i 1).isLt
    have e0 : Fin.ofNat 32 ((128 * (i 0).val + (i 1).val) / 128) = (i 0 : Fin 32) := (congrArg (Fin.ofNat 32) (by omega)).trans (ofNat_val (n := 32) (i 0))
    have e1 : Fin.ofNat 128 (128 * (i 0).val + (i 1).val) = (i 1 : Fin 128) := Fin.ext (by show (128 * (i 0).val + (i 1).val) % 128 = (i 1).val; omega)
    rw [e0, e1]; exact (ix2_eta i).symm))
  po i := (congrFun (hf main_v2 (by decide)) i).trans (congrArg (v2 m c) (by
    rw [ofNat_val (n := 2) (i 0), ofNat_val (n := 128) (i 1)]; exact (ix2_eta i).symm))
  wp i := (congrFun (hf main_v6 (by decide)) i).trans (congrArg (v6 m c) (by
    rw [ofNat_val (n := 6144) (i 0), ofNat_val (n := 4) (i 1), ofNat_val (n := 128) (i 2)]; exact (ix3_eta i).symm))
  ws i := (congrFun (hf main_arg4 (by decide)) i).trans (congrArg (v4 m c) (by
    rw [ofNat_val (n := 6144) (i 0), ofNat_val (n := 128) (i 1)]; exact (ix2_eta i).symm))

/-- The results of the body. -/
def resQ : T256x32x128.Idx → EReal := fun i => OUT (AR m c) ((i 1).val / 8) (i 0).val ((i 1).val % 8) (i 2).val
def resK : T256x8x128.Idx → EReal := fun i => OUT (AR m c) 4 (i 0).val (i 1).val (i 2).val
def resV : T256x8x128.Idx → EReal := fun i => OUT (AR m c) 5 (i 0).val (i 1).val (i 2).val

def G (c : Dev nD) : (b : Ref sig .tc) → Buf (Elt Ideal) ((c.tc : Thread nD τ).loc b) :=
  Function.update (Function.update (Function.update (V m c) main_v7_0 (resQ m c)) main_v7_1 (resK m c)) main_v7_2 (resV m c)

theorem G0 : G m c main_v7_0 = resQ m c := by
  unfold G; rw [Function.update_of_ne (by decide), Function.update_of_ne (by decide), Function.update_self]
theorem G1 : G m c main_v7_1 = resK m c := by
  unfold G; rw [Function.update_of_ne (by decide), Function.update_self]
theorem G2 : G m c main_v7_2 = resV m c := by
  unfold G; rw [Function.update_self]

theorem res_eq {f : C c} (h : Res (AR m c) 6 f) : ∀ b ∈ RR, f b = G m c b := by
  intro b hb
  simp only [RR, Finset.mem_insert, Finset.mem_singleton] at hb
  rcases hb with rfl | rfl | rfl
  · rw [G0]; funext i
    have h1 : (i 1).val < 32 := (i 1).isLt
    exact h.q i (by omega)
  · rw [G1]; funext i; exact h.k (by omega) i
  · rw [G2]; funext i; exact h.v (by omega) i

theorem leaves : Leaves m (G m) := by
  intro c f hf
  have h := run_main (Q := fun f' => ∀ b ∈ RR, f' b = G m c b) (AR m c) (hin m c hf) (fun f' hr => res_eq m c hr)
  exact h

theorem mid_v7 {b : Ref sig .tc} (hb : b ∈ RR) (arr) : Pipeline.withArrays (cfg0.spec) c (Pipeline.withR (V0 m c) RR c (G m c)) arr (Proc.devRef .tc b) = G m c b := by
  rw [Pipeline.withArrays_of_ne _ c _ _ b (fun w => w.elim0), Pipeline.withR_of_mem _ _ _ _ _ hb]

theorem mid_arg {b : Ref sig .tc} (hb : b ∉ RR) (arr) : Pipeline.withArrays (cfg0.spec) c (Pipeline.withR (V0 m c) RR c (G m c)) arr (Proc.devRef .tc b) = V m c b := by
  rw [Pipeline.withArrays_of_ne _ c _ _ b (fun w => w.elim0), Pipeline.withR_of_not_mem _ _ _ _ _ hb]

theorem tail_arg (W : Valuation τ sig (Elt Ideal)) (b : Ref sig .tc) (h8 : b ≠ main_v8) (h9 : b ≠ main_v9) (h10 : b ≠ main_v10) :
    StableHlo.after ([hostOps1] : List (List (HloOp τ sig (Elt Ideal)))).flatten W (Proc.devRef .tc b) = W (Proc.devRef .tc b) :=
  StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h8, StableHlo.devRef_ne_of_ne h9, StableHlo.devRef_ne_of_ne h10⟩))

/-- The kernel ends with its results at the values, its arguments as they were. -/
theorem run_kernel : θ_run defs (onTc (τ := τ) (Cert.KI.main (F := Ideal))) ⟨m, fun _ => 0, ρ⟩ (fun r => ∀ c : Dev nD,
      r.2.mem ((c.tc : Thread nD τ).loc main_v8) = shapeCast S256x1x32x128 (resQ m c) shapeCasts_S256x32x128_S256x1x32x128
      ∧ r.2.mem ((c.tc : Thread nD τ).loc main_v9) = shapeCast S256x1x8x128 (resK m c) shapeCasts_S256x8x128_S256x1x8x128
      ∧ r.2.mem ((c.tc : Thread nD τ).loc main_v10) = shapeCast S256x1x8x128 (resV m c) shapeCasts_S256x8x128_S256x1x8x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_mainV m ρ (G m) (leaves m))
  refine ⟨?_, ?_, ?_, ?_, ?_, ?_, ?_, ?_⟩
  · rw [h c main_v8 (Pipeline.mem_restRefs_of main_v8 (by decide) (by decide)), tail_v8, mid_v7 m c (by decide), G0]
  · rw [h c main_v9 (Pipeline.mem_restRefs_of main_v9 (by decide) (by decide)), tail_v9, mid_v7 m c (by decide), G1]
  · rw [h c main_v10 (Pipeline.mem_restRefs_of main_v10 (by decide) (by decide)), tail_v10, mid_v7 m c (by decide), G2]
  · rw [h c main_arg0 (Pipeline.mem_restRefs_of main_arg0 (by decide) (by decide)), tail_arg _ _ (by decide) (by decide) (by decide), mid_arg m c (by decide), V_main_arg0]
  · rw [h c main_arg1 (Pipeline.mem_restRefs_of main_arg1 (by decide) (by decide)), tail_arg _ _ (by decide) (by decide) (by decide), mid_arg m c (by decide), V_main_arg1]
  · rw [h c main_arg2 (Pipeline.mem_restRefs_of main_arg2 (by decide) (by decide)), tail_arg _ _ (by decide) (by decide) (by decide), mid_arg m c (by decide), V_main_arg2]
  · rw [h c main_arg3 (Pipeline.mem_restRefs_of main_arg3 (by decide) (by decide)), tail_arg _ _ (by decide) (by decide) (by decide), mid_arg m c (by decide), V_main_arg3]
  · rw [h c main_arg4 (Pipeline.mem_restRefs_of main_arg4 (by decide) (by decide)), tail_arg _ _ (by decide) (by decide) (by decide), mid_arg m c (by decide), V_main_arg4]

/-! ## The arguments of the body, from those of the kernel -/

theorem unrow_at (x : FVec Ideal S256x1x4096 .bf16) (b : Fin 256) (k : Fin 4096) : shapeCast S256x4096 x shapeCasts_S256x1x4096_S256x4096 (ix2 b k) = x (ix3 b 0 k) := by
  pointwise

theorem AR_X (b : Fin 256) (k : Fin 4096) : (AR m c).X b.val k.val = m ((c.tc : Thread nD τ).loc main_arg0) (ix3 b 0 k) := by
  show v0 m c (ix2 (Fin.ofNat 256 b.val) (Fin.ofNat 4096 k.val)) = _
  rw [ofNat_val, ofNat_val]
  refine (congrFun (V_v0 m c) _).trans ?_
  generalize m ((c.tc : Thread nD τ).loc main_arg0) = x
  exact unrow_at x b k

theorem AR_NW (k : Fin 4096) : (AR m c).NW k.val = m ((c.tc : Thread nD τ).loc main_arg1) (ix1 k) := by
  show v1 m c (ix2 (Fin.ofNat 32 (k.val / 128)) (Fin.ofNat 128 k.val)) = _
  refine (congrFun (V_v1 m c) _).trans ?_
  have e0 : Fin.ofNat 32 (k.val / 128) = (⟨k.val / 128, by omega⟩ : Fin 32) := Fin.ext (by show k.val / 128 % 32 = k.val / 128; omega)
  have e1 : Fin.ofNat 128 k.val = (⟨k.val % 128, by omega⟩ : Fin 128) := Fin.ext (by show k.val % 128 = k.val % 128; omega)
  rw [e0, e1]
  pointwise

theorem AR_PO (b : Fin 256) : (AR m c).PO (b.val / 128) (b.val % 128) = m ((c.tc : Thread nD τ).loc main_arg2) (ix2 b 0) := by
  show v2 m c (ix2 (Fin.ofNat 2 (b.val / 128)) (Fin.ofNat 128 (b.val % 128))) = _
  refine (congrFun (V_v2 m c) _).trans ?_
  have e0 : Fin.ofNat 2 (b.val / 128) = (⟨b.val / 128, by omega⟩ : Fin 2) := Fin.ext (by show b.val / 128 % 2 = b.val / 128; omega)
  have e1 : Fin.ofNat 128 (b.val % 128) = (⟨b.val % 128, by omega⟩ : Fin 128) := Fin.ext (by show b.val % 128 % 128 = b.val % 128; omega)
  rw [e0, e1]
  pointwise

theorem AR_WS (o : Fin 6144) (g : Fin 128) : (AR m c).WS o.val g.val = m ((c.tc : Thread nD τ).loc main_arg4) (ix2 o g) := by
  show v4 m c (ix2 (Fin.ofNat 6144 o.val) (Fin.ofNat 128 g.val)) = _
  rw [ofNat_val, ofNat_val]
  exact congrFun (V_main_arg4 m c) _

theorem snoc_eq (hs : S6144x4x128.SplitsWords 32 S6144x4x128x4 8) (o : Fin 6144) (w : Fin 4) (g : Fin 128) (q : Fin 4) :
    hs.snoc (ix3 o w g) q = ix4 o w g q := by
  funext a
  fin_cases a <;> rfl

theorem AR_WP (o : Fin 6144) (g : Fin 128) (j : Fin 16) (h : ℕ) (hh : h < 2) : nib ((AR m c).WP o.val (j.val / 4) g.val) (8 * (j.val % 4) + 4 * h)
    = code (m ((c.tc : Thread nD τ).loc main_arg3) (ix3 o g j)) h := by
  have e : (AR m c).WP o.val (j.val / 4) g.val = v6 m c (ix3 o ⟨j.val / 4, by omega⟩ g) := by
    show v6 m c (ix3 (Fin.ofNat 6144 o.val) (Fin.ofNat 4 (j.val / 4)) (Fin.ofNat 128 g.val)) = _
    rw [ofNat_val, ofNat_val]
    congr 2
    exact Fin.ext (by show j.val / 4 % 4 = j.val / 4; omega)
  rw [e, show v6 m c _ = _ from congrFun (V_v6 m c) _, nib_word _ _ _ (j.val % 4) h (by omega) hh (⟨j.val % 4, by omega⟩ : Fin 4) rfl, snoc_eq]
  congr 1
  pointwise

/-! ## The results of the kernel, at an index -/

theorem idx_q (i : S256x1x32x128.Idx) : ∃ (b : Fin 256) (h : Fin 32) (r : Fin 128), i = ix4 b 0 h r :=
  ⟨i 0, i 2, i 3, (ix4_eta i).symm.trans (congrArg (fun z : Fin 1 => ix4 (i 0) z (i 2) (i 3)) (Subsingleton.elim _ _))⟩

theorem idx_kv (i : S256x1x8x128.Idx) : ∃ (b : Fin 256) (h : Fin 8) (r : Fin 128), i = ix4 b 0 h r :=
  ⟨i 0, i 2, i 3, (ix4_eta i).symm.trans (congrArg (fun z : Fin 1 => ix4 (i 0) z (i 2) (i 3)) (Subsingleton.elim _ _))⟩

theorem q_at (b : Fin 256) (h : Fin 32) (r : Fin 128) : shapeCast S256x1x32x128 (resQ m c) shapeCasts_S256x32x128_S256x1x32x128 (ix4 b 0 h r)
    = OUT (AR m c) (h.val / 8) b.val (h.val % 8) r.val := by
  pointwise
  rfl

theorem k_at (b : Fin 256) (h : Fin 8) (r : Fin 128) : shapeCast S256x1x8x128 (resK m c) shapeCasts_S256x8x128_S256x1x8x128 (ix4 b 0 h r)
    = OUT (AR m c) 4 b.val h.val r.val := by
  pointwise
  rfl

theorem v_at (b : Fin 256) (h : Fin 8) (r : Fin 128) : shapeCast S256x1x8x128 (resV m c) shapeCasts_S256x8x128_S256x1x8x128 (ix4 b 0 h r)
    = OUT (AR m c) 5 b.val h.val r.val := by
  pointwise
  rfl

end Cert.Proof.Val
-- ==== Proof.Val.Sum.lean ====
/-
  The sums of the body, in the order of the groups of the weights.
-/
module

public import proofs.«01_k».proof.Proof.Val.Out

@[expose] public section

set_option maxRecDepth 16384

noncomputable section

namespace Cert.Proof.Val

open Idealize.ShloMosaic

variable (A : Ar)

theorem sum_blocks (F : ℕ → EReal) (k : ℕ) : ∀ n : ℕ,
    ∑ c ∈ Finset.range (n * k), F c = ∑ u ∈ Finset.range n, ∑ t ∈ Finset.range k, F (k * u + t)
  | 0 => by simp
  | n + 1 => by
    rw [Nat.succ_mul, Finset.sum_range_add, Finset.sum_range_succ, sum_blocks F k n, Nat.mul_comm n k]

/-- The squares, one by one. -/
theorem ssq_eq (bh l : ℕ) : ssq A bh l = ∑ c : Fin 4096, A.X (128 * bh + l) c.val * A.X (128 * bh + l) c.val := by
  rw [← Finset.sum_range (fun c => A.X (128 * bh + l) c * A.X (128 * bh + l) c), show 4096 = 32 * 128 from rfl,
    sum_blocks]
  unfold ssq
  rw [Finset.sum_comm]
  refine Finset.sum_congr rfl fun u _ => ?_
  rw [show 128 = 64 * 2 from rfl, sum_blocks, ← Finset.sum_range (fun r => A.X (64 * 2 * bh + l) (64 * 2 * u + 2 * r) * A.X (64 * 2 * bh + l) (64 * 2 * u + 2 * r)
    + A.X (64 * 2 * bh + l) (64 * 2 * u + 2 * r + 1) * A.X (64 * 2 * bh + l) (64 * 2 * u + 2 * r + 1))]
  refine Finset.sum_congr rfl fun r _ => ?_
  simp [Finset.sum_range_succ, ← Nat.add_assoc]

theorem mean_eq (s : EReal) : Ideal.div s (Ideal.ofBits .f32 0x45800000#32) = s * Ideal.ofBits .f32 0x39800000#32 := by
  have h1 : Ideal.ofBits .f32 0x45800000#32 = ((4096 : ℝ) : EReal) := by
    simp [Ideal.ofBits, Ideal.ieee, -EReal.coe_mul, -EReal.coe_add]; try norm_num
  have h2 : Ideal.ofBits .f32 0x39800000#32 = ((4096⁻¹ : ℝ) : EReal) := by
    simp [Ideal.ofBits, Ideal.ieee, -EReal.coe_mul, -EReal.coe_add]; try norm_num
  rw [h1, h2]
  unfold Ideal.div
  rw [if_neg (by norm_num), ← EReal.coe_inv]

/-- The product, over the groups and the bytes of a group, low codes then high ones. -/
theorem Y_eq (o b : ℕ) : Y A o b
    = (∑ g : Fin 128, ∑ j : Fin 16, XN A (b / 128) (b % 128) (32 * g.val + j.val) * WT A o j.val 0 g.val)
      + ∑ g : Fin 128, ∑ j : Fin 16, XN A (b / 128) (b % 128) (32 * g.val + 16 + j.val) * WT A o j.val 1 g.val := by
  unfold Y YP
  rw [Finset.sum_range]
  have e : ∀ j : Fin 16, ∑ k : Fin 256, TM A o b j.val k.val
      = (∑ g : Fin 128, XN A (b / 128) (b % 128) (32 * g.val + j.val) * WT A o j.val 0 g.val)
        + ∑ g : Fin 128, XN A (b / 128) (b % 128) (32 * g.val + 16 + j.val) * WT A o j.val 1 g.val := by
    intro j
    refine (Fin.sum_univ_add (a := 128) (b := 128) fun k => TM A o b j.val k.val).trans ?_
    congr 1
    · refine Finset.sum_congr rfl fun g _ => ?_
      have h1 : g.val / 128 = 0 := by omega
      have h2 : g.val % 128 = g.val := by omega
      simp only [TM, Fin.val_castAdd, h1, h2, Nat.mul_zero, Nat.add_zero]
      exact mul_comm _ _
    · refine Finset.sum_congr rfl fun g _ => ?_
      have h1 : (128 + g.val) / 128 = 1 := by omega
      have h2 : (128 + g.val) % 128 = g.val := by omega
      simp only [TM, Fin.val_natAdd, h1, h2, Nat.mul_one]
      exact mul_comm _ _
  simp only [e, Finset.sum_add_distrib]
  congr 1 <;> exact Finset.sum_comm

/-- One over the root mean square, from the mean of the squares. -/
theorem inv_eq (bh l : ℕ) : inv A bh l = Ideal.rsqrt (Ideal.div (∑ c : Fin 4096, A.X (128 * bh + l) c.val * A.X (128 * bh + l) c.val)
    (Ideal.ofBits .f32 0x45800000#32) + Ideal.ofBits .f32 0x358637BD#32) := by
  unfold inv
  rw [ssq_eq, mean_eq]

end Cert.Proof.Val
-- ==== Proof.Val.Ref.lean ====
/-
  The arrays of the reference, read at an index.
-/
module

public import proofs.«01_k».proof.Proof.Gen.ReferenceIdeal
public import proofs.«01_k».proof.Proof.Gen.ReferenceIdeal.Run
public import proofs.«01_k».proof.Proof.Val.Sum

@[expose] public section

set_option maxRecDepth 16384

noncomputable section

namespace Cert.Proof.Val.Ref

open Cert.ReferenceIdeal Cert.ReferenceIdeal.Gen
open Idealize.ShloMosaic

variable (x : FVec Ideal S256x1x4096 .bf16) (nw : FVec Ideal S4096 .bf16) (po : IVec S256x1 32) (wp : IVec S6144x128x16 8) (ws : FVec Ideal S6144x128 .bf16)

/-- The normalised rows. -/
def xn : FVec Ideal S256x1x4096 .bf16 := truncf .bf16 (mulf (mulf (extf .f32 x bitsLt_bf16_f32) (broadcastInDim S256x1x4096 ![0, 1, 2] bcast_S256x1x1_S256x1x4096_0_1_2 (Host.rsqrt (addf (Host.divf (broadcastInDim S256x1x1 ![0, 1] bcast_S256x1_S256x1x1_0_1 (Host.reduceAdd (mulf (extf .f32 x bitsLt_bf16_f32) (extf .f32 x bitsLt_bf16_f32)) (constant S_ .f32 0x00000000#32) reducesTo_S256x1x4096_S256x1_d2 h_S_)) (broadcastInDim S256x1x1 ![] bcast_S_S256x1x1 (constant S_ .f32 0x45800000#32))) (broadcastInDim S256x1x1 ![] bcast_S_S256x1x1 (constant S_ .f32 0x358637BD#32)))))) (broadcastInDim S256x1x4096 ![0, 1, 2] bcast_S1x1x4096_S256x1x4096_0_1_2 (broadcastInDim S1x1x4096 ![2] bcast_S4096_S1x1x4096_2 (extf .f32 nw bitsLt_bf16_f32)))) bitsLt_bf16_f32

/-- The weights of a half, from its codes. -/
def wt (c : IVec S6144x128x16 32) : FVec Ideal S6144x128x16 .bf16 :=
  mulf (subf (sitofp .bf16 c) (broadcastInDim S6144x128x16 ![] bcast_S_S6144x128x16 (constant S_ .bf16 0x4100#16))) (broadcastInDim S6144x128x16 ![0, 1, 2] bcast_S6144x128x1_S6144x128x16_0_1_2 (broadcastInDim S6144x128x1 ![0, 1] bcast_S6144x128_S6144x128x1_0_1 ws))

def lo : IVec S6144x128x16 32 := andi (extui 32 wp natLt_8_32) (broadcastInDim S6144x128x16 ![] bcast_S_S6144x128x16 (constantI S_ 32 15#32))
def hi : IVec S6144x128x16 32 := Host.shrsi (extui 32 wp natLt_8_32) (broadcastInDim S6144x128x16 ![] bcast_S_S6144x128x16 (constantI S_ 32 4#32))

def dot (a : FVec Ideal S256x1x128x16 .bf16) (b : FVec Ideal S6144x128x16 .bf16) : FVec Ideal S256x1x6144 .f32 :=
  Host.dotGeneral dot_S256x1x128x16_S6144x128x16_S256x1x6144_23_12_01_0_n_n none a b

/-- The product. -/
def y : FVec Ideal S256x1x6144 .f32 :=
  addf (dot (shapeCast _ (extractStridedSlice S256x1x128x1x16 ![0, 0, 0, 0, 0] (shapeCast _ (xn x nw) shapeCasts_S256x1x4096_S256x1x128x2x16) slices_S256x1x128x2x16_S256x1x128x1x16_0_0_0_0_0) shapeCasts_S256x1x128x1x16_S256x1x128x16) (wt ws (lo wp)))
    (dot (shapeCast _ (extractStridedSlice S256x1x128x1x16 ![0, 0, 0, 1, 0] (shapeCast _ (xn x nw) shapeCasts_S256x1x4096_S256x1x128x2x16) slices_S256x1x128x2x16_S256x1x128x1x16_0_0_0_1_0) shapeCasts_S256x1x128x1x16_S256x1x128x16) (wt ws (hi wp)))

/-- The angles. -/
def an : FVec Ideal S256x1x64 .f32 :=
  mulf (broadcastInDim S256x1x64 ![0, 1, 2] bcast_S256x1x1_S256x1x64_0_1_2 (broadcastInDim S256x1x1 ![0, 1] bcast_S256x1_S256x1x1_0_1 (sitofp .f32 po))) (broadcastInDim S256x1x64 ![0, 1, 2] bcast_S1x1x64_S256x1x64_0_1_2 (broadcastInDim S1x1x64 ![2] bcast_S64_S1x1x64_2 (Host.exp (mulf (sitofp .f32 (iotaInDim S64 32 0)) (broadcastInDim S64 ![] bcast_S_S64 (constant S_ .f32 0xBE135D8E#32))))))

theorem an_at (b : Fin 256) (i : Fin 64) : an po (ix3 b 0 i) = (((po (ix2 b 0)).toInt : ℝ) : EReal) * Cert.Proof.Body.freqs (F := Ideal) (ix2 i 0) := by
  have e : Cert.Proof.Body.freqs (F := Ideal) (ix2 i 0) = Ideal.exp ((((BitVec.ofNat 32 i.val).toInt : ℝ) : EReal) * Ideal.ofBits .f32 0xBE135D8E#32) := by
    unfold Cert.Proof.Body.freqs
    pointwise
    rfl
  rw [e]
  unfold an
  pointwise
  rfl

theorem wt_at (c : IVec S6144x128x16 32) (o : Fin 6144) (g : Fin 128) (j : Fin 16) :
    wt ws c (ix3 o g j) = ((((c (ix3 o g j)).toInt : ℝ) : EReal) - Ideal.ofBits .bf16 0x4100#16) * ws (ix2 o g) := by
  unfold wt
  pointwise
  rfl

theorem lo_at (i : S6144x128x16.Idx) : lo wp i = (wp i).setWidth 32 &&& 15#32 := rfl
theorem hi_at (i : S6144x128x16.Idx) : hi wp i = ((wp i).setWidth 32).sshiftRight 4 := rfl

theorem xn_at (b : Fin 256) (c : Fin 4096) : xn x nw (ix3 b 0 c) = x (ix3 b 0 c)
    * Ideal.rsqrt (Ideal.div (∑ c : Fin 4096, x (ix3 b 0 c) * x (ix3 b 0 c)) (Ideal.ofBits .f32 0x45800000#32) + Ideal.ofBits .f32 0x358637BD#32) * nw (ix1 c) := by
  unfold xn
  pointwise

theorem dot_at (a : FVec Ideal S256x1x128x16 .bf16) (w : FVec Ideal S6144x128x16 .bf16) (b : Fin 256) (o : Fin 6144) :
    dot a w (ix3 b 0 o) = ∑ g : Fin 128, ∑ j : Fin 16, a (ix4 b 0 g j) * w (ix3 o g j) := by
  unfold dot
  pointwise

theorem y_at (b : Fin 256) (o : Fin 6144) : y x nw wp ws (ix3 b 0 o)
    = (∑ g : Fin 128, ∑ j : Fin 16, xn x nw (ix3 b 0 ⟨32 * g.val + j.val, by omega⟩) * wt ws (lo wp) (ix3 o g j))
      + ∑ g : Fin 128, ∑ j : Fin 16, xn x nw (ix3 b 0 ⟨32 * g.val + 16 + j.val, by omega⟩) * wt ws (hi wp) (ix3 o g j) := by
  unfold y
  refine congrArg₂ _ ((dot_at _ _ b o).trans ?_) ((dot_at _ _ b o).trans ?_)
  · refine Finset.sum_congr rfl fun g _ => Finset.sum_congr rfl fun j _ => congrArg (· * _) ?_
    pointwise
    simp only [Nat.mul_comm g.val 32]
  · refine Finset.sum_congr rfl fun g _ => Finset.sum_congr rfl fun j _ => congrArg (· * _) ?_
    pointwise
    simp only [Nat.mul_comm g.val 32]

end Cert.Proof.Val.Ref
-- ==== Proof.Val.RefOut.lean ====
/-
  The results of the reference, read at an index.
-/
module

public import proofs.«01_k».proof.Proof.Val.Ref

@[expose] public section

set_option maxRecDepth 16384

noncomputable section

namespace Cert.Proof.Val.Ref

open Cert.ReferenceIdeal Cert.ReferenceIdeal.Gen
open Idealize.ShloMosaic Idealize.ShloMosaic.TcCoe

/-- The even places of the heads of `q`, turned. -/
def ev32 (y : FVec Ideal S256x1x6144 .f32) (a : FVec Ideal S256x1x64 .f32) : FVec Ideal S256x1x32x64 .f32 := subf (mulf (shapeCast _ (extractStridedSlice S256x1x32x64x1 ![0, 0, 0, 0, 0] (shapeCast _ (shapeCast _ (extractStridedSlice S256x1x4096 ![0, 0, 0] y slices_S256x1x6144_S256x1x4096_0_0_0) shapeCasts_S256x1x4096_S256x1x32x128) shapeCasts_S256x1x32x128_S256x1x32x64x2) slices_S256x1x32x64x2_S256x1x32x64x1_0_0_0_0_0) shapeCasts_S256x1x32x64x1_S256x1x32x64) (broadcastInDim S256x1x32x64 ![0, 1, 2, 3] bcast_S256x1x1x64_S256x1x32x64_0_1_2_3 (broadcastInDim S256x1x1x64 ![0, 1, 3] bcast_S256x1x64_S256x1x1x64_0_1_3 (Host.cos a)))) (mulf (shapeCast _ (extractStridedSlice S256x1x32x64x1 ![0, 0, 0, 0, 1] (shapeCast _ (shapeCast _ (extractStridedSlice S256x1x4096 ![0, 0, 0] y slices_S256x1x6144_S256x1x4096_0_0_0) shapeCasts_S256x1x4096_S256x1x32x128) shapeCasts_S256x1x32x128_S256x1x32x64x2) slices_S256x1x32x64x2_S256x1x32x64x1_0_0_0_0_1) shapeCasts_S256x1x32x64x1_S256x1x32x64) (broadcastInDim S256x1x32x64 ![0, 1, 2, 3] bcast_S256x1x1x64_S256x1x32x64_0_1_2_3 (broadcastInDim S256x1x1x64 ![0, 1, 3] bcast_S256x1x64_S256x1x1x64_0_1_3 (Host.sin a))))

/-- The odd places of the heads of `q`, turned. -/
def od32 (y : FVec Ideal S256x1x6144 .f32) (a : FVec Ideal S256x1x64 .f32) : FVec Ideal S256x1x32x64 .f32 := addf (mulf (shapeCast _ (extractStridedSlice S256x1x32x64x1 ![0, 0, 0, 0, 0] (shapeCast _ (shapeCast _ (extractStridedSlice S256x1x4096 ![0, 0, 0] y slices_S256x1x6144_S256x1x4096_0_0_0) shapeCasts_S256x1x4096_S256x1x32x128) shapeCasts_S256x1x32x128_S256x1x32x64x2) slices_S256x1x32x64x2_S256x1x32x64x1_0_0_0_0_0) shapeCasts_S256x1x32x64x1_S256x1x32x64) (broadcastInDim S256x1x32x64 ![0, 1, 2, 3] bcast_S256x1x1x64_S256x1x32x64_0_1_2_3 (broadcastInDim S256x1x1x64 ![0, 1, 3] bcast_S256x1x64_S256x1x1x64_0_1_3 (Host.sin a)))) (mulf (shapeCast _ (extractStridedSlice S256x1x32x64x1 ![0, 0, 0, 0, 1] (shapeCast _ (shapeCast _ (extractStridedSlice S256x1x4096 ![0, 0, 0] y slices_S256x1x6144_S256x1x4096_0_0_0) shapeCasts_S256x1x4096_S256x1x32x128) shapeCasts_S256x1x32x128_S256x1x32x64x2) slices_S256x1x32x64x2_S256x1x32x64x1_0_0_0_0_1) shapeCasts_S256x1x32x64x1_S256x1x32x64) (broadcastInDim S256x1x32x64 ![0, 1, 2, 3] bcast_S256x1x1x64_S256x1x32x64_0_1_2_3 (broadcastInDim S256x1x1x64 ![0, 1, 3] bcast_S256x1x64_S256x1x1x64_0_1_3 (Host.cos a))))

/-- The result `q`. -/
def q (y : FVec Ideal S256x1x6144 .f32) (a : FVec Ideal S256x1x64 .f32) : FVec Ideal S256x1x32x128 .bf16 := truncf .bf16 (shapeCast _ (concatenate S256x1x32x64x2 4 [⟨S256x1x32x64x1, (broadcastInDim S256x1x32x64x1 ![0, 1, 2, 3] bcast_S256x1x32x64_S256x1x32x64x1_0_1_2_3 (ev32 y a))⟩, ⟨S256x1x32x64x1, (broadcastInDim S256x1x32x64x1 ![0, 1, 2, 3] bcast_S256x1x32x64_S256x1x32x64x1_0_1_2_3 (od32 y a))⟩] concatenates_S256x1x32x64x1_S256x1x32x64x1_S256x1x32x64x2_d4) shapeCasts_S256x1x32x64x2_S256x1x32x128) bitsLt_bf16_f32

theorem ev32_at (y : FVec Ideal S256x1x6144 .f32) (a : FVec Ideal S256x1x64 .f32) (b : Fin 256) (h : Fin 32) (i : Fin 64) :
    ev32 y a (ix4 b 0 h i) = y (ix3 b 0 ⟨h.val * 128 + i.val * 2, by omega⟩) * Ideal.cos (a (ix3 b 0 i))
      - y (ix3 b 0 ⟨h.val * 128 + i.val * 2 + 1, by omega⟩) * Ideal.sin (a (ix3 b 0 i)) := by
  unfold ev32
  pointwise

theorem od32_at (y : FVec Ideal S256x1x6144 .f32) (a : FVec Ideal S256x1x64 .f32) (b : Fin 256) (h : Fin 32) (i : Fin 64) :
    od32 y a (ix4 b 0 h i) = y (ix3 b 0 ⟨h.val * 128 + i.val * 2, by omega⟩) * Ideal.sin (a (ix3 b 0 i))
      + y (ix3 b 0 ⟨h.val * 128 + i.val * 2 + 1, by omega⟩) * Ideal.cos (a (ix3 b 0 i)) := by
  unfold od32
  pointwise

theorem q_at (y : FVec Ideal S256x1x6144 .f32) (a : FVec Ideal S256x1x64 .f32) (b : Fin 256) (h : Fin 32) (r : Fin 128) :
    q y a (ix4 b 0 h r) = if r.val % 2 = 0 then ev32 y a (ix4 b 0 h ⟨r.val / 2, by omega⟩) else od32 y a (ix4 b 0 h ⟨r.val / 2, by omega⟩) := by
  unfold q
  pointwise
  by_cases hr : r.val % 2 = 0
  · rw [dif_pos (show r.val % 2 < 1 by omega), if_pos hr]
  · rw [dif_neg (show ¬ r.val % 2 < 1 by omega), if_neg hr]

theorem q_eq (m : (ℓ : Loc nD τ sig) → Buf (Elt Ideal) ℓ) (c : Dev nD) : Cert.ReferenceIdeal.Value.res_main_v80 m c
    = q (Ref.y (m ((c.tc : Thread nD τ).loc main_arg0)) (m ((c.tc : Thread nD τ).loc main_arg1)) (m ((c.tc : Thread nD τ).loc main_arg3)) (m ((c.tc : Thread nD τ).loc main_arg4)))
      (Ref.an (m ((c.tc : Thread nD τ).loc main_arg2))) := rfl

/-- The even places of the heads of `k`, turned. -/
def ev8 (y : FVec Ideal S256x1x6144 .f32) (a : FVec Ideal S256x1x64 .f32) : FVec Ideal S256x1x8x64 .f32 := subf (mulf (shapeCast _ (extractStridedSlice S256x1x8x64x1 ![0, 0, 0, 0, 0] (shapeCast _ (shapeCast _ (extractStridedSlice S256x1x1024 ![0, 0, 4096] y slices_S256x1x6144_S256x1x1024_0_0_4096) shapeCasts_S256x1x1024_S256x1x8x128) shapeCasts_S256x1x8x128_S256x1x8x64x2) slices_S256x1x8x64x2_S256x1x8x64x1_0_0_0_0_0) shapeCasts_S256x1x8x64x1_S256x1x8x64) (broadcastInDim S256x1x8x64 ![0, 1, 2, 3] bcast_S256x1x1x64_S256x1x8x64_0_1_2_3 (broadcastInDim S256x1x1x64 ![0, 1, 3] bcast_S256x1x64_S256x1x1x64_0_1_3 (Host.cos a)))) (mulf (shapeCast _ (extractStridedSlice S256x1x8x64x1 ![0, 0, 0, 0, 1] (shapeCast _ (shapeCast _ (extractStridedSlice S256x1x1024 ![0, 0, 4096] y slices_S256x1x6144_S256x1x1024_0_0_4096) shapeCasts_S256x1x1024_S256x1x8x128) shapeCasts_S256x1x8x128_S256x1x8x64x2) slices_S256x1x8x64x2_S256x1x8x64x1_0_0_0_0_1) shapeCasts_S256x1x8x64x1_S256x1x8x64) (broadcastInDim S256x1x8x64 ![0, 1, 2, 3] bcast_S256x1x1x64_S256x1x8x64_0_1_2_3 (broadcastInDim S256x1x1x64 ![0, 1, 3] bcast_S256x1x64_S256x1x1x64_0_1_3 (Host.sin a))))

/-- The odd places of the heads of `k`, turned. -/
def od8 (y : FVec Ideal S256x1x6144 .f32) (a : FVec Ideal S256x1x64 .f32) : FVec Ideal S256x1x8x64 .f32 := addf (mulf (shapeCast _ (extractStridedSlice S256x1x8x64x1 ![0, 0, 0, 0, 0] (shapeCast _ (shapeCast _ (extractStridedSlice S256x1x1024 ![0, 0, 4096] y slices_S256x1x6144_S256x1x1024_0_0_4096) shapeCasts_S256x1x1024_S256x1x8x128) shapeCasts_S256x1x8x128_S256x1x8x64x2) slices_S256x1x8x64x2_S256x1x8x64x1_0_0_0_0_0) shapeCasts_S256x1x8x64x1_S256x1x8x64) (broadcastInDim S256x1x8x64 ![0, 1, 2, 3] bcast_S256x1x1x64_S256x1x8x64_0_1_2_3 (broadcastInDim S256x1x1x64 ![0, 1, 3] bcast_S256x1x64_S256x1x1x64_0_1_3 (Host.sin a)))) (mulf (shapeCast _ (extractStridedSlice S256x1x8x64x1 ![0, 0, 0, 0, 1] (shapeCast _ (shapeCast _ (extractStridedSlice S256x1x1024 ![0, 0, 4096] y slices_S256x1x6144_S256x1x1024_0_0_4096) shapeCasts_S256x1x1024_S256x1x8x128) shapeCasts_S256x1x8x128_S256x1x8x64x2) slices_S256x1x8x64x2_S256x1x8x64x1_0_0_0_0_1) shapeCasts_S256x1x8x64x1_S256x1x8x64) (broadcastInDim S256x1x8x64 ![0, 1, 2, 3] bcast_S256x1x1x64_S256x1x8x64_0_1_2_3 (broadcastInDim S256x1x1x64 ![0, 1, 3] bcast_S256x1x64_S256x1x1x64_0_1_3 (Host.cos a))))

/-- The result `k`. -/
def k (y : FVec Ideal S256x1x6144 .f32) (a : FVec Ideal S256x1x64 .f32) : FVec Ideal S256x1x8x128 .bf16 := truncf .bf16 (shapeCast _ (concatenate S256x1x8x64x2 4 [⟨S256x1x8x64x1, (broadcastInDim S256x1x8x64x1 ![0, 1, 2, 3] bcast_S256x1x8x64_S256x1x8x64x1_0_1_2_3 (ev8 y a))⟩, ⟨S256x1x8x64x1, (broadcastInDim S256x1x8x64x1 ![0, 1, 2, 3] bcast_S256x1x8x64_S256x1x8x64x1_0_1_2_3 (od8 y a))⟩] concatenates_S256x1x8x64x1_S256x1x8x64x1_S256x1x8x64x2_d4) shapeCasts_S256x1x8x64x2_S256x1x8x128) bitsLt_bf16_f32

theorem ev8_at (y : FVec Ideal S256x1x6144 .f32) (a : FVec Ideal S256x1x64 .f32) (b : Fin 256) (h : Fin 8) (i : Fin 64) :
    ev8 y a (ix4 b 0 h i) = y (ix3 b 0 ⟨4096 + (h.val * 128 + i.val * 2), by omega⟩) * Ideal.cos (a (ix3 b 0 i))
      - y (ix3 b 0 ⟨4096 + (h.val * 128 + i.val * 2 + 1), by omega⟩) * Ideal.sin (a (ix3 b 0 i)) := by
  unfold ev8
  pointwise

theorem od8_at (y : FVec Ideal S256x1x6144 .f32) (a : FVec Ideal S256x1x64 .f32) (b : Fin 256) (h : Fin 8) (i : Fin 64) :
    od8 y a (ix4 b 0 h i) = y (ix3 b 0 ⟨4096 + (h.val * 128 + i.val * 2), by omega⟩) * Ideal.sin (a (ix3 b 0 i))
      + y (ix3 b 0 ⟨4096 + (h.val * 128 + i.val * 2 + 1), by omega⟩) * Ideal.cos (a (ix3 b 0 i)) := by
  unfold od8
  pointwise

theorem k_at (y : FVec Ideal S256x1x6144 .f32) (a : FVec Ideal S256x1x64 .f32) (b : Fin 256) (h : Fin 8) (r : Fin 128) :
    k y a (ix4 b 0 h r) = if r.val % 2 = 0 then ev8 y a (ix4 b 0 h ⟨r.val / 2, by omega⟩) else od8 y a (ix4 b 0 h ⟨r.val / 2, by omega⟩) := by
  unfold k
  pointwise
  by_cases hr : r.val % 2 = 0
  · rw [dif_pos (show r.val % 2 < 1 by omega), if_pos hr]
  · rw [dif_neg (show ¬ r.val % 2 < 1 by omega), if_neg hr]

theorem k_eq (m : (ℓ : Loc nD τ sig) → Buf (Elt Ideal) ℓ) (c : Dev nD) : Cert.ReferenceIdeal.Value.res_main_v114 m c
    = k (Ref.y (m ((c.tc : Thread nD τ).loc main_arg0)) (m ((c.tc : Thread nD τ).loc main_arg1)) (m ((c.tc : Thread nD τ).loc main_arg3)) (m ((c.tc : Thread nD τ).loc main_arg4)))
      (Ref.an (m ((c.tc : Thread nD τ).loc main_arg2))) := rfl

/-- The result `v`. -/
def v (y : FVec Ideal S256x1x6144 .f32) : FVec Ideal S256x1x8x128 .bf16 := truncf .bf16 (shapeCast _ (extractStridedSlice S256x1x1024 ![0, 0, 5120] y slices_S256x1x6144_S256x1x1024_0_0_5120) shapeCasts_S256x1x1024_S256x1x8x128) bitsLt_bf16_f32

theorem v_at (y : FVec Ideal S256x1x6144 .f32) (b : Fin 256) (h : Fin 8) (r : Fin 128) :
    v y (ix4 b 0 h r) = y (ix3 b 0 ⟨5120 + (h.val * 128 + r.val), by omega⟩) := by
  unfold v
  pointwise

end Cert.Proof.Val.Ref
-- ==== Proof.Val.Eq.lean ====
/-
  The results of the reference are those of the body.
-/
module

public import proofs.«01_k».proof.Proof.Val.RefOut
public import proofs.«01_k».proof.Proof.Val.Codes

@[expose] public section

set_option maxRecDepth 16384

noncomputable section

namespace Cert.Proof.Val.Ref

open Cert.ReferenceIdeal Cert.ReferenceIdeal.Gen
open Idealize.ShloMosaic

variable {A : Ar} {x : FVec Ideal S256x1x4096 .bf16} {nw : FVec Ideal S4096 .bf16} {po : IVec S256x1 32} {wp : IVec S6144x128x16 8} {ws : FVec Ideal S6144x128 .bf16}

/-- The arrays are those of `A`. -/
structure Is (A : Ar) (x : FVec Ideal S256x1x4096 .bf16) (nw : FVec Ideal S4096 .bf16) (po : IVec S256x1 32) (wp : IVec S6144x128x16 8) (ws : FVec Ideal S6144x128 .bf16) : Prop where
  x : ∀ (b : Fin 256) (k : Fin 4096), A.X b.val k.val = x (ix3 b 0 k)
  nw : ∀ k : Fin 4096, A.NW k.val = nw (ix1 k)
  po : ∀ b : Fin 256, A.PO (b.val / 128) (b.val % 128) = po (ix2 b 0)
  ws : ∀ (o : Fin 6144) (g : Fin 128), A.WS o.val g.val = ws (ix2 o g)
  wp : ∀ (o : Fin 6144) (g : Fin 128) (j : Fin 16) (h : ℕ), h < 2 → nib (A.WP o.val (j.val / 4) g.val) (8 * (j.val % 4) + 4 * h) = code (wp (ix3 o g j)) h

theorem xn_eq (H : Is A x nw po wp ws) (b : Fin 256) (k : ℕ) (hk : k < 4096) : xn x nw (ix3 b 0 ⟨k, hk⟩) = XN A (b.val / 128) (b.val % 128) k := by
  have hb : 128 * (b.val / 128) + b.val % 128 = b.val := by omega
  unfold XN
  rw [xn_at, inv_eq, hb, H.x b ⟨k, hk⟩, H.nw ⟨k, hk⟩]
  simp only [H.x b]

theorem lo_eq (H : Is A x nw po wp ws) (o : Fin 6144) (g : Fin 128) (j : Fin 16) : wt ws (lo wp) (ix3 o g j) = WT A o.val j.val 0 g.val := by
  unfold WT
  rw [wt_at, lo_at, lo_int, H.wp o g j 0 (by omega), H.ws o g, code_sub]

theorem hi_eq (H : Is A x nw po wp ws) (o : Fin 6144) (g : Fin 128) (j : Fin 16) : wt ws (hi wp) (ix3 o g j) = WT A o.val j.val 1 g.val := by
  unfold WT
  rw [wt_at, hi_at, hi_int, H.wp o g j 1 (by omega), H.ws o g, code_sub]

theorem y_eq (H : Is A x nw po wp ws) (b : Fin 256) (o : ℕ) (ho : o < 6144) : y x nw wp ws (ix3 b 0 ⟨o, ho⟩) = Y A o b.val := by
  rw [y_at, Y_eq]
  simp only [xn_eq H, lo_eq H, hi_eq H]

theorem an_eq (H : Is A x nw po wp ws) (b : Fin 256) (i : ℕ) (hi : i < 64) : an po (ix3 b 0 ⟨i, hi⟩) = ang A (b.val / 128) i (b.val % 128) := by
  unfold ang
  rw [an_at, H.po b]
  have e : (Fin.ofNat 64 i) = (⟨i, hi⟩ : Fin 64) := Fin.ext (Nat.mod_eq_of_lt hi)
  rw [e]

theorem y_eq' (H : Is A x nw po wp ws) (b : Fin 256) (o o' : ℕ) (ho : o < 6144) (e : o = o') : y x nw wp ws (ix3 b 0 ⟨o, ho⟩) = Y A o' b.val := by
  subst e; exact y_eq H b o ho

theorem q_out (H : Is A x nw po wp ws) (b : Fin 256) (h : Fin 32) (r : Fin 128) : q (y x nw wp ws) (an po) (ix4 b 0 h r) = OUT A (h.val / 8) b.val (h.val % 8) r.val := by
  have hh : 1024 * (h.val / 8) + 128 * (h.val % 8) = h.val * 128 := by omega
  unfold OUT
  rw [if_pos (by omega), q_at, ev32_at, od32_at, an_eq H, y_eq' H b _ (1024 * (h.val / 8) + 128 * (h.val % 8) + 2 * (r.val / 2)) _ (by dsimp only; omega),
    y_eq' H b _ (1024 * (h.val / 8) + 128 * (h.val % 8) + 2 * (r.val / 2) + 1) _ (by dsimp only; omega)]

theorem k_out (H : Is A x nw po wp ws) (b : Fin 256) (h : Fin 8) (r : Fin 128) : k (y x nw wp ws) (an po) (ix4 b 0 h r) = OUT A 4 b.val h.val r.val := by
  unfold OUT
  rw [if_pos (by omega), k_at, ev8_at, od8_at, an_eq H, y_eq' H b _ (1024 * 4 + 128 * h.val + 2 * (r.val / 2)) _ (by dsimp only; omega),
    y_eq' H b _ (1024 * 4 + 128 * h.val + 2 * (r.val / 2) + 1) _ (by dsimp only; omega)]

theorem v_out (H : Is A x nw po wp ws) (b : Fin 256) (h : Fin 8) (r : Fin 128) : v (y x nw wp ws) (ix4 b 0 h r) = OUT A 5 b.val h.val r.val := by
  unfold OUT
  rw [if_neg (by omega), v_at, y_eq' H b _ (1024 * 5 + 128 * h.val + r.val) _ (by omega)]

end Cert.Proof.Val.Ref
-- ==== Proof.lean ====
/-
  The proof of `Cert.Claim`: the frames (Proof/FrameK, Proof/FrameKI, the generated run of the reference), the rules' sites,
  and the values.
-/
module

public import proofs.«01_k».proof.Defs
public import proofs.«01_k».proof.Proof.Gen.Kernel
public import proofs.«01_k».proof.Proof.Gen.KI
public import proofs.«01_k».proof.Proof.Gen.ReferenceIdeal
public import proofs.«01_k».proof.Proof.Gen.ReferenceIdeal.Run
public import proofs.«01_k».proof.Proof.FrameK
public import proofs.«01_k».proof.Proof.FrameKI
public import proofs.«01_k».proof.Proof.Val.Run
public import proofs.«01_k».proof.Proof.Val.Eq
public import Idealize.ShloMosaic.Lib.Bf16PairInverse

@[expose] public section

noncomputable section

namespace Cert.Proof

open Idealize.ShloMosaic Idealize.SL.Sem

theorem preserves : Cert.preserves_Kernel_KI :=
  ⟨IdealRules.bf16_pair.bufferStatement _ _, IdealRules.bf16_pair.bufferStatement _ _,
   IdealRules.bf16_pair.statement _ _, IdealRules.bf16_pair.statement _ _, IdealRules.bf16_pair.statement _ _,
   IdealRules.bf16_pair.statement _ _, IdealRules.bf16_pair.packStatement _, IdealRules.bf16_pair.statement _ _,
   IdealRules.bf16_pair.statement _ _, IdealRules.bf16_pair.packStatement _⟩

theorem frame_reference : Cert.quiescent_ReferenceIdeal := fun m g _ =>
  (θ_run Cert.ReferenceIdeal.defs _ _).mono
    (fun r h => ⟨fun c => (h c).2.2.2, sem_eq_zero_of_no_sems rfl r.2⟩) (Cert.ReferenceIdeal.Value.run m g)

section Values

open Idealize.ShloMosaic.TcCoe

variable (m : (ℓ : Loc Cert.KI.nD Cert.KI.τ Cert.KI.sig) → Buf (Elt Ideal) ℓ)
  (m' : (ℓ : Loc Cert.ReferenceIdeal.nD Cert.ReferenceIdeal.τ Cert.ReferenceIdeal.sig) → Buf (Elt Ideal) ℓ)

/-- Memories that agree on the arguments, on device `c`. -/
def Agree (c : Dev Cert.KI.nD) : Prop :=
  m' ((c.tc : Thread Cert.ReferenceIdeal.nD Cert.ReferenceIdeal.τ).loc Cert.ReferenceIdeal.main_arg0) = m ((c.tc : Thread Cert.KI.nD Cert.KI.τ).loc Cert.KI.main_arg0)
      ∧ m' ((c.tc : Thread Cert.ReferenceIdeal.nD Cert.ReferenceIdeal.τ).loc Cert.ReferenceIdeal.main_arg1) = m ((c.tc : Thread Cert.KI.nD Cert.KI.τ).loc Cert.KI.main_arg1)
      ∧ m' ((c.tc : Thread Cert.ReferenceIdeal.nD Cert.ReferenceIdeal.τ).loc Cert.ReferenceIdeal.main_arg2) = m ((c.tc : Thread Cert.KI.nD Cert.KI.τ).loc Cert.KI.main_arg2)
      ∧ m' ((c.tc : Thread Cert.ReferenceIdeal.nD Cert.ReferenceIdeal.τ).loc Cert.ReferenceIdeal.main_arg3) = m ((c.tc : Thread Cert.KI.nD Cert.KI.τ).loc Cert.KI.main_arg3)
      ∧ m' ((c.tc : Thread Cert.ReferenceIdeal.nD Cert.ReferenceIdeal.τ).loc Cert.ReferenceIdeal.main_arg4) = m ((c.tc : Thread Cert.KI.nD Cert.KI.τ).loc Cert.KI.main_arg4)

variable {m m'}

/-- The arguments of the reference are those of the body. -/
theorem Agree.is {c : Dev Cert.KI.nD} (h : Agree m m' c) : Val.Ref.Is (Val.AR m c)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4)) where
  x b k := (Val.AR_X m c b k).trans (congrFun h.1.symm _)
  nw k := (Val.AR_NW m c k).trans (congrFun h.2.1.symm _)
  po b := (Val.AR_PO m c b).trans (congrFun h.2.2.1.symm _)
  ws o g := (Val.AR_WS m c o g).trans (congrFun h.2.2.2.2.symm _)
  wp o g j k hk := (Val.AR_WP m c o g j k hk).trans (congrArg (Val.code · k) (congrFun h.2.2.2.1.symm _))

open Cert.KI Cert.KI.Gen in
theorem q_eq {c : Dev Cert.KI.nD} (h : Agree m m' c) : Cert.ReferenceIdeal.Value.res_main_v80 m' c
    = shapeCast S256x1x32x128 (Val.resQ m c) shapeCasts_S256x32x128_S256x1x32x128 := by
  refine (Val.Ref.q_eq m' c).trans (funext fun i => ?_)
  obtain ⟨b, k, r, rfl⟩ := Val.idx_q i
  exact (Val.Ref.q_out h.is b k r).trans (Val.q_at m c b k r).symm

open Cert.KI Cert.KI.Gen in
theorem k_eq {c : Dev Cert.KI.nD} (h : Agree m m' c) : Cert.ReferenceIdeal.Value.res_main_v114 m' c
    = shapeCast S256x1x8x128 (Val.resK m c) shapeCasts_S256x8x128_S256x1x8x128 := by
  refine (Val.Ref.k_eq m' c).trans (funext fun i => ?_)
  obtain ⟨b, k, r, rfl⟩ := Val.idx_kv i
  exact (Val.Ref.k_out h.is b k r).trans (Val.k_at m c b k r).symm

open Cert.KI Cert.KI.Gen in
theorem v_eq {c : Dev Cert.KI.nD} (h : Agree m m' c) : Val.Ref.v (Val.Ref.y
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)))
    = shapeCast S256x1x8x128 (Val.resV m c) shapeCasts_S256x8x128_S256x1x8x128 := by
  refine funext fun i => ?_
  obtain ⟨b, k, r, rfl⟩ := Val.idx_kv i
  exact (Val.Ref.v_out h.is b k r).trans (Val.v_at m c b k r).symm

/-- The reference and the idealized kernel end with the same results. -/
theorem algebraic : Cert.algebraic_KI_ReferenceIdeal := by
  intro m g m' g' _ hm
  refine ⟨_, _, _, Val.run_kernel m g, (θ_run Cert.ReferenceIdeal.defs _ _).mono (fun r h c => ?_) (Cert.ReferenceIdeal.Value.run m' g')⟩
  have hc : Agree m m' c := hm c
  exact ⟨(h c).1.trans (q_eq hc), (h c).2.1.trans (k_eq hc), (h c).2.2.1.trans (v_eq hc), (h c).2.2.2⟩

end Values

theorem claim : Cert.Claim := ⟨Cert.Kernel.Gen.facts, Cert.KI.Gen.facts, Cert.ReferenceIdeal.Gen.facts,
  fun m g _ => KernelFrame.frame m g, fun m g _ => KIFrame.frame m g, frame_reference, preserves, algebraic⟩

end Cert.Proof

end
